-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv_sqrt_128" .f32 0x3DB504F3#32 (((Real.sqrt 128)⁻¹ : ℝ) : EReal)
  ∧ IdealRules.named_const.Statement Cert.KernelIdeal.κ "inv_sqrt_2" .f32 0x3F3504F3#32 (((Real.sqrt 2)⁻¹ : ℝ) : EReal)

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v5_1)) (v4 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v5_1) = v3 c
          ∧ r.2.mem ((c.tc : Thread Cert.KernelIdeal.nD Cert.KernelIdeal.τ).loc Cert.KernelIdeal.main_v5_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_v172) = v2 c
          ∧ r.2.mem ((c.tc : Thread Cert.ReferenceIdeal.nD Cert.ReferenceIdeal.τ).loc Cert.ReferenceIdeal.main_v222) = v3 c
          ∧ r.2.mem ((c.tc : Thread Cert.ReferenceIdeal.nD Cert.ReferenceIdeal.τ).loc Cert.ReferenceIdeal.main_v228) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
-- ==== Pre_finite_queries_and_keys.lean ====
abbrev S1024x32x64 : Shape := ⟨3, ![1024, 32, 64]⟩
abbrev S1024x128 : Shape := ⟨2, ![1024, 128]⟩
abbrev S4096x2048 : Shape := ⟨2, ![4096, 2048]⟩
abbrev S2048 : Shape := ⟨1, ![2048]⟩
abbrev S2048x2048 : Shape := ⟨2, ![2048, 2048]⟩
abbrev S32x128x64 : Shape := ⟨3, ![32, 128, 64]⟩
abbrev S32x64 : Shape := ⟨2, ![32, 64]⟩
abbrev S4096x64 : Shape := ⟨2, ![4096, 64]⟩
abbrev S4096x128 : Shape := ⟨2, ![4096, 128]⟩
abbrev S_ : Shape := ⟨0, ![]⟩

class Facts : Prop where
  bcast_S_S1024x32x64 : S_.BroadcastsInDim S1024x32x64 (![] : Fin 0 → Fin S1024x32x64.rank)
  bcast_S_S1024x128 : S_.BroadcastsInDim S1024x128 (![] : Fin 0 → Fin S1024x128.rank)
  bcast_S_S4096x64 : S_.BroadcastsInDim S4096x64 (![] : Fin 0 → Fin S4096x64.rank)
  bcast_S_S4096x128 : S_.BroadcastsInDim S4096x128 (![] : Fin 0 → Fin S4096x128.rank)

variable [Facts]

def fn {F : FTy → Type} [FloatOps F] (main_arg0 : FVec F S1024x32x64 .f32) (main_arg1 : FVec F S1024x128 .f32) (main_arg2 : FVec F S4096x2048 .f32) (main_arg3 : FVec F S2048 .f32) (main_arg4 : FVec F S2048 .f32) (main_arg5 : FVec F S2048 .f32) (main_arg6 : FVec F S2048x2048 .f32) (main_arg7 : FVec F S2048 .f32) (main_arg8 : FVec F S32x128x64 .f32) (main_arg9 : FVec F S32x64 .f32) (main_arg10 : FVec F S32x64 .f32) (main_arg11 : FVec F S32x64 .f32) (main_arg12 : FVec F S4096x64 .f32) (main_arg13 : FVec F S4096x2048 .f32) (main_arg14 : FVec F S4096x128 .f32) (main_arg15 : FVec F S4096x2048 .f32) : IVec S1024x32x64 1 × IVec S1024x128 1 × IVec S4096x64 1 × IVec S4096x128 1 :=
  let main_v0 : FVec F S1024x32x64 .f32 := Host.absf main_arg0
  let main_cst : FVec F S_ .f32 := constant S_ .f32 0x7F800000#32
  let main_v1 : FVec F S1024x32x64 .f32 := broadcastInDim S1024x32x64 ![] bcast_S_S1024x32x64 main_cst
  let main_v2 : IVec S1024x32x64 1 := cmpf .olt main_v0 main_v1
  let main_v3 : FVec F S1024x128 .f32 := Host.absf main_arg1
  let main_cst_0 : FVec F S_ .f32 := constant S_ .f32 0x7F800000#32
  let main_v4 : FVec F S1024x128 .f32 := broadcastInDim S1024x128 ![] bcast_S_S1024x128 main_cst_0
  let main_v5 : IVec S1024x128 1 := cmpf .olt main_v3 main_v4
  let main_v6 : FVec F S4096x64 .f32 := Host.absf main_arg12
  let main_cst_1 : FVec F S_ .f32 := constant S_ .f32 0x7F800000#32
  let main_v7 : FVec F S4096x64 .f32 := broadcastInDim S4096x64 ![] bcast_S_S4096x64 main_cst_1
  let main_v8 : IVec S4096x64 1 := cmpf .olt main_v6 main_v7
  let main_v9 : FVec F S4096x128 .f32 := Host.absf main_arg14
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  (main_v2, main_v5, main_v8, main_v11)
-- ==== Kernel.lean ====
abbrev S1024x32x64 : Shape := ⟨3, ![1024, 32, 64]⟩
abbrev S1024x128 : Shape := ⟨2, ![1024, 128]⟩
abbrev S4096x2048 : Shape := ⟨2, ![4096, 2048]⟩
abbrev S2048 : Shape := ⟨1, ![2048]⟩
abbrev S2048x2048 : Shape := ⟨2, ![2048, 2048]⟩
abbrev S32x128x64 : Shape := ⟨3, ![32, 128, 64]⟩
abbrev S32x64 : Shape := ⟨2, ![32, 64]⟩
abbrev S4096x64 : Shape := ⟨2, ![4096, 64]⟩
abbrev S4096x128 : Shape := ⟨2, ![4096, 128]⟩
abbrev S1024x2048 : Shape := ⟨2, ![1024, 2048]⟩
abbrev S1024x64 : Shape := ⟨2, ![1024, 64]⟩
abbrev S1024 : Shape := ⟨1, ![1024]⟩
abbrev S1024x4096 : Shape := ⟨2, ![1024, 4096]⟩
abbrev S1024x1 : Shape := ⟨2, ![1024, 1]⟩
abbrev S512x64 : Shape := ⟨2, ![512, 64]⟩
abbrev S512x2048 : Shape := ⟨2, ![512, 2048]⟩
abbrev S512x1024 : Shape := ⟨2, ![512, 1024]⟩
abbrev S1x1024 : Shape := ⟨2, ![1, 1024]⟩
abbrev S512x1 : Shape := ⟨2, ![512, 1]⟩
abbrev S512 : Shape := ⟨1, ![512]⟩
abbrev S512x128 : Shape := ⟨2, ![512, 128]⟩
abbrev S1024x1024 : Shape := ⟨2, ![1024, 1024]⟩
abbrev S1x2048 : Shape := ⟨2, ![1, 2048]⟩
abbrev S2x128x64 : Shape := ⟨3, ![2, 128, 64]⟩
abbrev S1x128 : Shape := ⟨2, ![1, 128]⟩
abbrev S1x128x64 : Shape := ⟨3, ![1, 128, 64]⟩
abbrev S128x64 : Shape := ⟨2, ![128, 64]⟩
abbrev S64x64 : Shape := ⟨2, ![64, 64]⟩
abbrev S1x64 : Shape := ⟨2, ![1, 64]⟩
abbrev S64 : Shape := ⟨1, ![64]⟩

abbrev nBuf : Space → Nat
  | .hbm => 41
  | .vmem => 74
  | .smem => 0
  | _ => 0

abbrev bufTy : (tb : Table) → Fin (tcTables nBuf tb) → BufTy
  | .hbm, ⟨0, _⟩ => ⟨S1024x32x64, .f32⟩
  | .hbm, ⟨1, _⟩ => ⟨S1024x128, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S32x128x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S4096x64, .f32⟩
  | .hbm, ⟨13, _⟩ => ⟨S4096x2048, .f32⟩
  | .hbm, ⟨14, _⟩ => ⟨S4096x128, .f32⟩
  | .hbm, ⟨15, _⟩ => ⟨S4096x2048, .f32⟩
  | .hbm, ⟨16, _⟩ => ⟨S1024x2048, .f32⟩
  | .hbm, ⟨17, _⟩ => ⟨S1024x2048, .bf16⟩
  | .hbm, ⟨18, _⟩ => ⟨S1024x64, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .i32⟩
  | .hbm, ⟨23, _⟩ => ⟨S1024x128, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .i32⟩
  | .hbm, ⟨28, _⟩ => ⟨S1024x2048, .f32⟩
  | .hbm, ⟨29, _⟩ => ⟨S4096x64, .f32⟩
  | .hbm, ⟨30, _⟩ => ⟨S4096x2048, .f32⟩
  | .hbm, ⟨31, _⟩ => ⟨S1024x2048, .f32⟩
  | .hbm, ⟨32, _⟩ => ⟨S4096x128, .f32⟩
  | .hbm, ⟨33, _⟩ => ⟨S4096x2048, .f32⟩
  | .hbm, ⟨34, _⟩ => ⟨S1024x2048, .f32⟩
  | .hbm, ⟨35, _⟩ => ⟨S1024x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1024x2048, .f32⟩
  | .hbm, ⟨40, _⟩ => ⟨S1024x32x64, .f32⟩
  | .local _ .vmem, ⟨0, _⟩ => ⟨S1024x32x64, .f32⟩
  | .local _ .vmem, ⟨1, _⟩ => ⟨S4096x64, .f32⟩
  | .local _ .vmem, ⟨2, _⟩ => ⟨S1024x64, .f32⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .i32⟩
  | .local _ .vmem, ⟨7, _⟩ => ⟨S1024x128, .f32⟩
  | .local _ .vmem, ⟨8, _⟩ => ⟨S4096x128, .f32⟩
  | .local _ .vmem, ⟨9, _⟩ => ⟨S1024x128, .f32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S1024, .i32⟩
  | .local _ .vmem, ⟨14, _⟩ => ⟨S1024x64, .f32⟩
  | .local _ .vmem, ⟨15, _⟩ => ⟨S512x64, .f32⟩
  | .local _ .vmem, ⟨16, _⟩ => ⟨S512x64, .f32⟩
  | .local _ .vmem, ⟨17, _⟩ => ⟨S512x2048, .f32⟩
  | .local _ .vmem, ⟨18, _⟩ => ⟨S512x2048, .f32⟩
  | .local _ .vmem, ⟨19, _⟩ => ⟨S1024x2048, .bf16⟩
  | .local _ .vmem, ⟨20, _⟩ => ⟨S1024, .f32⟩
  | .local _ .vmem, ⟨21, _⟩ => ⟨S1024, .f32⟩
  | .local _ .vmem, ⟨22, _⟩ => ⟨S1024, .f32⟩
  | .local _ .vmem, ⟨23, _⟩ => ⟨S1024, .i32⟩
  | .local _ .vmem, ⟨24, _⟩ => ⟨S1024x2048, .f32⟩
  | .local _ .vmem, ⟨25, _⟩ => ⟨S512x64, .f32⟩
  | .local _ .vmem, ⟨26, _⟩ => ⟨S512x64, .f32⟩
  | .local _ .vmem, ⟨27, _⟩ => ⟨S512x2048, .f32⟩
  | .local _ .vmem, ⟨28, _⟩ => ⟨S512x2048, .f32⟩
  | .local _ .vmem, ⟨29, _⟩ => ⟨S1024x128, .f32⟩
  | .local _ .vmem, ⟨30, _⟩ => ⟨S512x128, .f32⟩
  | .local _ .vmem, ⟨31, _⟩ => ⟨S512x128, .f32⟩
  | .local _ .vmem, ⟨32, _⟩ => ⟨S512x2048, .f32⟩
  | .local _ .vmem, ⟨33, _⟩ => ⟨S512x2048, .f32⟩
  | .local _ .vmem, ⟨34, _⟩ => ⟨S1024x2048, .bf16⟩
  | .local _ .vmem, ⟨35, _⟩ => ⟨S1024, .f32⟩
  | .local _ .vmem, ⟨36, _⟩ => ⟨S1024, .f32⟩
  | .local _ .vmem, ⟨37, _⟩ => ⟨S1024, .f32⟩
  | .local _ .vmem, ⟨38, _⟩ => ⟨S1024, .i32⟩
  | .local _ .vmem, ⟨39, _⟩ => ⟨S1024x2048, .f32⟩
  | .local _ .vmem, ⟨40, _⟩ => ⟨S512x128, .f32⟩
  | .local _ .vmem, ⟨41, _⟩ => ⟨S512x128, .f32⟩
  | .local _ .vmem, ⟨42, _⟩ => ⟨S512x2048, .f32⟩
  | .local _ .vmem, ⟨43, _⟩ => ⟨S512x2048, .f32⟩
  | .local _ .vmem, ⟨44, _⟩ => ⟨S1024x1024, .f32⟩
  | .local _ .vmem, ⟨45, _⟩ => ⟨S1024x1024, .f32⟩
  | .local _ .vmem, ⟨46, _⟩ => ⟨S1024x1024, .f32⟩
  | .local _ .vmem, ⟨47, _⟩ => ⟨S1024x1024, .f32⟩
  | .local _ .vmem, ⟨48, _⟩ => ⟨S1024x2048, .f32⟩
  | .local _ .vmem, ⟨49, _⟩ => ⟨S1024x2048, .f32⟩
  | .local _ .vmem, ⟨50, _⟩ => ⟨S2048, .f32⟩
  | .local _ .vmem, ⟨51, _⟩ => ⟨S2048, .f32⟩
  | .local _ .vmem, ⟨52, _⟩ => ⟨S2048, .f32⟩
  | .local _ .vmem, ⟨53, _⟩ => ⟨S1024x2048, .f32⟩
  | .local _ .vmem, ⟨54, _⟩ => ⟨S1024x1024, .f32⟩
  | .local _ .vmem, ⟨55, _⟩ => ⟨S1024x1024, .f32⟩
  | .local _ .vmem, ⟨56, _⟩ => ⟨S1024x2048, .f32⟩
  | .local _ .vmem, ⟨57, _⟩ => ⟨S1024x2048, .f32⟩
  | .local _ .vmem, ⟨58, _⟩ => ⟨S2048, .f32⟩
  | .local _ .vmem, ⟨59, _⟩ => ⟨S1024x2048, .f32⟩
  | .local _ .vmem, ⟨60, _⟩ => ⟨S1024x128, .f32⟩
  | .local _ .vmem, ⟨61, _⟩ => ⟨S1024x128, .f32⟩
  | .local _ .vmem, ⟨62, _⟩ => ⟨S1024x128, .f32⟩
  | .local _ .vmem, ⟨63, _⟩ => ⟨S1024x128, .f32⟩
  | .local _ .vmem, ⟨64, _⟩ => ⟨S2x128x64, .f32⟩
  | .local _ .vmem, ⟨65, _⟩ => ⟨S2x128x64, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S1024x128, .f32⟩
  | .local _ .vmem, ⟨73, _⟩ => ⟨S1024x128, .f32⟩
  | _, _ => ⟨S1024x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2_0 : Ref sig .tc := ⟨.hbm, 18, rfl⟩
abbrev main_v2_1 : Ref sig .tc := ⟨.hbm, 19, rfl⟩
abbrev main_v2_2 : Ref sig .tc := ⟨.hbm, 20, rfl⟩
abbrev main_v2_3 : Ref sig .tc := ⟨.hbm, 21, rfl⟩
abbrev main_v2_4 : Ref sig .tc := ⟨.hbm, 22, rfl⟩
abbrev main_v3_0 : Ref sig .tc := ⟨.hbm, 23, rfl⟩
abbrev main_v3_1 : Ref sig .tc := ⟨.hbm, 24, rfl⟩
abbrev main_v3_2 : Ref sig .tc := ⟨.hbm, 25, rfl⟩
abbrev main_v3_3 : Ref sig .tc := ⟨.hbm, 26, rfl⟩
abbrev main_v3_4 : Ref sig .tc := ⟨.hbm, 27, rfl⟩
abbrev main_v4_0 : Ref sig .tc := ⟨.hbm, 28, rfl⟩
abbrev main_v4_1 : Ref sig .tc := ⟨.hbm, 29, rfl⟩
abbrev main_v4_2 : Ref sig .tc := ⟨.hbm, 30, rfl⟩
abbrev main_v5_0 : Ref sig .tc := ⟨.hbm, 31, rfl⟩
abbrev main_v5_1 : Ref sig .tc := ⟨.hbm, 32, rfl⟩
abbrev main_v5_2 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg9_1 : Ref sig .tc := ⟨.vmem, 26, rfl⟩
abbrev cc2_stg10_0 : Ref sig .tc := ⟨.vmem, 27, rfl⟩
abbrev cc2_stg10_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg9_1 : Ref sig .tc := ⟨.vmem, 41, rfl⟩
abbrev cc3_stg10_0 : Ref sig .tc := ⟨.vmem, 42, rfl⟩
abbrev cc3_stg10_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg3_0 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg3_1 : Ref sig .tc := ⟨.vmem, 67, rfl⟩
abbrev cc6_stg4_0 : Ref sig .tc := ⟨.vmem, 68, rfl⟩
abbrev cc6_stg4_1 : Ref sig .tc := ⟨.vmem, 69, rfl⟩
abbrev cc6_stg5_0 : Ref sig .tc := ⟨.vmem, 70, rfl⟩
abbrev cc6_stg5_1 : Ref sig .tc := ⟨.vmem, 71, rfl⟩
abbrev cc6_stg6_0 : Ref sig .tc := ⟨.vmem, 72, rfl⟩
abbrev cc6_stg6_1 : Ref sig .tc := ⟨.vmem, 73, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem9_1 : DmaSem sig := 26
abbrev cc2_sem10_0 : DmaSem sig := 27
abbrev cc2_sem10_1 : DmaSem sig := 28
abbrev cc3_sem0_0 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem9_1 : DmaSem sig := 41
abbrev cc3_sem10_0 : DmaSem sig := 42
abbrev cc3_sem10_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem3_0 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem3_1 : DmaSem sig := 67
abbrev cc6_sem4_0 : DmaSem sig := 68
abbrev cc6_sem4_1 : DmaSem sig := 69
abbrev cc6_sem5_0 : DmaSem sig := 70
abbrev cc6_sem5_1 : DmaSem sig := 71
abbrev cc6_sem6_0 : DmaSem sig := 72
abbrev cc6_sem6_1 : DmaSem sig := 73

abbrev nD : Nat := 1
abbrev τ : Topo := Topo.v7x

variable {F : FTy → Type} [FloatOps F]

abbrev grid0 : Pipeline.Grid := .none

abbrev stage0_0 : Fin 1 → Memref sig .tc .vmem S1024x32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := .none

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1024 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_9 : BitVec 32 := 0#32
  let v21 : BitVec 1 := Scalar.cmpi .ne v20 c0_i32_9
  v21

def k2_cond2 (i : grid2.Coords) : BitVec 1 :=
  let arg0 : BitVec 32 := BitVec.ofNat 32 (i 0).val
  let c0_i32_10 : BitVec 32 := 0#32
  let v22 : BitVec 1 := Scalar.cmpi .sgt arg0 c0_i32_10
  let v23 : BitVec 32 := Scalar.extui v22
  let c0_i32_11 : BitVec 32 := 0#32
  let v24 : BitVec 1 := Scalar.cmpi .ne v23 c0_i32_11
  v24

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024 .i32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x2048 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x2048 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![8], ![false]⟩

def k3_cond1 (i : grid3.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_9 : BitVec 32 := 0#32
  let v21 : BitVec 1 := Scalar.cmpi .ne v20 c0_i32_9
  v21

def k3_cond2 (i : grid3.Coords) : BitVec 1 :=
  let arg0 : BitVec 32 := BitVec.ofNat 32 (i 0).val
  let c0_i32_10 : BitVec 32 := 0#32
  let v22 : BitVec 1 := Scalar.cmpi .sgt arg0 c0_i32_10
  let v23 : BitVec 32 := Scalar.extui v22
  let c0_i32_11 : BitVec 32 := 0#32
  let v24 : BitVec 1 := Scalar.cmpi .ne v23 c0_i32_11
  v24

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1024x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x2048 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024 .i32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x2048 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S512x2048 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![4], ![false]⟩

def k4_cond1 (i : grid4.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def k4_cond2 (i : grid4.Coords) : BitVec 1 :=
  let arg0 : BitVec 32 := BitVec.ofNat 32 (i 0).val
  let c2_i32 : BitVec 32 := 2#32
  let v4 : BitVec 1 := Scalar.cmpi .slt arg0 c2_i32
  let v5 : BitVec 32 := Scalar.extui v4
  let c0_i32_2 : BitVec 32 := 0#32
  let v6 : BitVec 1 := Scalar.cmpi .ne v5 c0_i32_2
  v6

def k4_cond3 (i : grid4.Coords) : BitVec 1 :=
  let arg0 : BitVec 32 := BitVec.ofNat 32 (i 0).val
  let c2_i32_3 : BitVec 32 := 2#32
  let v7 : BitVec 1 := Scalar.cmpi .sge arg0 c2_i32_3
  let v8 : BitVec 32 := Scalar.extui v7
  let c0_i32_4 : BitVec 32 := 0#32
  let v9 : BitVec 1 := Scalar.cmpi .ne v8 c0_i32_4
  v9

def k4_cond4 (i : grid4.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_5 : BitVec 32 := 0#32
  let v12 : BitVec 1 := Scalar.cmpi .ne v11 c0_i32_5
  v12

def cc4_transform_0 (i : grid4.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc4_transform_1 (i : grid4.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2048 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1024x2048 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024x2048 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S1024x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2x128x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1024x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]
-- ==== KernelIdeal.lean ====
variable {F : FTy → Type} [FloatOps F] [Named F]
def κ : String → Option EReal := fun
  | "inv_sqrt_128" => some (((Real.sqrt 128)⁻¹ : ℝ) : EReal)
  | "inv_sqrt_2" => some (((Real.sqrt 2)⁻¹ : ℝ) : EReal)
  | _ => none
-- ==== ReferenceIdeal.lean ====
abbrev S1024x32x64 : Shape := ⟨3, ![1024, 32, 64]⟩
abbrev S1024x128 : Shape := ⟨2, ![1024, 128]⟩
abbrev S4096x2048 : Shape := ⟨2, ![4096, 2048]⟩
abbrev S2048 : Shape := ⟨1, ![2048]⟩
abbrev S2048x2048 : Shape := ⟨2, ![2048, 2048]⟩
abbrev S32x128x64 : Shape := ⟨3, ![32, 128, 64]⟩
abbrev S32x64 : Shape := ⟨2, ![32, 64]⟩
abbrev S4096x64 : Shape := ⟨2, ![4096, 64]⟩
abbrev S4096x128 : Shape := ⟨2, ![4096, 128]⟩
abbrev S_ : Shape := ⟨0, ![]⟩
abbrev S1024x64 : Shape := ⟨2, ![1024, 64]⟩
abbrev S64x4096 : Shape := ⟨2, ![64, 4096]⟩
abbrev S1024x4096 : Shape := ⟨2, ![1024, 4096]⟩
abbrev S1024 : Shape := ⟨1, ![1024]⟩
abbrev S1024x1 : Shape := ⟨2, ![1024, 1]⟩
abbrev S1024x2048 : Shape := ⟨2, ![1024, 2048]⟩
abbrev S128x4096 : Shape := ⟨2, ![128, 4096]⟩
abbrev S1x2048 : Shape := ⟨2, ![1, 2048]⟩
abbrev S1024x32x128 : Shape := ⟨3, ![1024, 32, 128]⟩
abbrev S32x64x1024 : Shape := ⟨3, ![32, 64, 1024]⟩
abbrev S1x32x64 : Shape := ⟨3, ![1, 32, 64]⟩
abbrev S1024x32 : Shape := ⟨2, ![1024, 32]⟩
abbrev S1024x32x1 : Shape := ⟨3, ![1024, 32, 1]⟩
abbrev S4096 : Shape := ⟨1, ![4096]⟩
abbrev S4096x1 : Shape := ⟨2, ![4096, 1]⟩

abbrev nBuf : Space → Nat
  | .hbm => 310
  | .vmem => 0
  | .smem => 0
  | _ => 0

abbrev hbmTy0_0 (i : Nat) : BufTy := match i % 128 with
  | 0 => ⟨S1024x32x64, .f32⟩
  | 1 => ⟨S1024x128, .f32⟩
  | 2 => ⟨S4096x2048, .f32⟩
  | 3 => ⟨S2048, .f32⟩
  | 4 => ⟨S2048, .f32⟩
  | 5 => ⟨S2048, .f32⟩
  | 6 => ⟨S2048x2048, .f32⟩
  | 7 => ⟨S2048, .f32⟩
  | 8 => ⟨S32x128x64, .f32⟩
  | 9 => ⟨S32x64, .f32⟩
  | 10 => ⟨S32x64, .f32⟩
  | 11 => ⟨S32x64, .f32⟩
  | 12 => ⟨S4096x64, .f32⟩
  | 13 => ⟨S4096x2048, .f32⟩
  | 14 => ⟨S4096x128, .f32⟩
  | 15 => ⟨S4096x2048, .f32⟩
  | 16 => ⟨S_, .f32⟩
  | 17 => ⟨S1024x64, .f32⟩
  | 18 => ⟨S_, .f32⟩
  | 19 => ⟨S1024x64, .f32⟩
  | 20 => ⟨S1024x64, .f32⟩
  | 21 => ⟨S64x4096, .f32⟩
  | 22 => ⟨S1024x4096, .f32⟩
  | 23 => ⟨S_, .f32⟩
  | 24 => ⟨S_, .f32⟩
  | 25 => ⟨S1024x4096, .f32⟩
  | 26 => ⟨S1024x4096, .f32⟩
  | 27 => ⟨S_, .f32⟩
  | 28 => ⟨S1024, .f32⟩
  | 29 => ⟨S_, .f32⟩
  | 30 => ⟨S1024, .f32⟩
  | 31 => ⟨S1024, .f32⟩
  | 32 => ⟨S1024x1, .f32⟩
  | 33 => ⟨S1024x4096, .f32⟩
  | 34 => ⟨S1024x4096, .f32⟩
  | 35 => ⟨S1024x4096, .f32⟩
  | 36 => ⟨S_, .f32⟩
  | 37 => ⟨S1024, .f32⟩
  | 38 => ⟨S1024x1, .f32⟩
  | 39 => ⟨S1024x4096, .f32⟩
  | 40 => ⟨S1024x4096, .f32⟩
  | 41 => ⟨S1024x2048, .f32⟩
  | 42 => ⟨S_, .f32⟩
  | 43 => ⟨S1024, .f32⟩
  | 44 => ⟨S_, .f32⟩
  | 45 => ⟨S1024, .f32⟩
  | 46 => ⟨S1024, .f32⟩
  | 47 => ⟨S128x4096, .f32⟩
  | 48 => ⟨S1024x4096, .f32⟩
  | 49 => ⟨S_, .f32⟩
  | 50 => ⟨S_, .f32⟩
  | 51 => ⟨S1024x4096, .f32⟩
  | 52 => ⟨S1024x4096, .f32⟩
  | 53 => ⟨S_, .f32⟩
  | 54 => ⟨S1024, .f32⟩
  | 55 => ⟨S_, .f32⟩
  | 56 => ⟨S1024, .f32⟩
  | 57 => ⟨S1024, .f32⟩
  | 58 => ⟨S1024x1, .f32⟩
  | 59 => ⟨S1024x4096, .f32⟩
  | 60 => ⟨S1024x4096, .f32⟩
  | 61 => ⟨S1024x4096, .f32⟩
  | 62 => ⟨S_, .f32⟩
  | 63 => ⟨S1024, .f32⟩
  | 64 => ⟨S1024x1, .f32⟩
  | 65 => ⟨S1024x4096, .f32⟩
  | 66 => ⟨S1024x4096, .f32⟩
  | 67 => ⟨S1024x2048, .f32⟩
  | 68 => ⟨S_, .f32⟩
  | 69 => ⟨S1024, .f32⟩
  | 70 => ⟨S_, .f32⟩
  | 71 => ⟨S1024, .f32⟩
  | 72 => ⟨S1024, .f32⟩
  | 73 => ⟨S1024x4096, .f32⟩
  | 74 => ⟨S1024x2048, .f32⟩
  | 75 => ⟨S1x2048, .f32⟩
  | 76 => ⟨S1024x2048, .f32⟩
  | 77 => ⟨S1024x2048, .f32⟩
  | 78 => ⟨S_, .f32⟩
  | 79 => ⟨S1024, .f32⟩
  | 80 => ⟨S1024x1, .f32⟩
  | 81 => ⟨S_, .f32⟩
  | 82 => ⟨S1024x1, .f32⟩
  | 83 => ⟨S1024x1, .f32⟩
  | 84 => ⟨S1024x2048, .f32⟩
  | 85 => ⟨S1024x2048, .f32⟩
  | 86 => ⟨S1024x2048, .f32⟩
  | 87 => ⟨S_, .f32⟩
  | 88 => ⟨S1024, .f32⟩
  | 89 => ⟨S1024x1, .f32⟩
  | 90 => ⟨S_, .f32⟩
  | 91 => ⟨S1024x1, .f32⟩
  | 92 => ⟨S1024x1, .f32⟩
  | 93 => ⟨S1024x2048, .f32⟩
  | 94 => ⟨S1024x2048, .f32⟩
  | 95 => ⟨S_, .f32⟩
  | 96 => ⟨S1024x1, .f32⟩
  | 97 => ⟨S1024x1, .f32⟩
  | 98 => ⟨S1024x1, .f32⟩
  | 99 => ⟨S1024x2048, .f32⟩
  | 100 => ⟨S1024x2048, .f32⟩
  | 101 => ⟨S1x2048, .f32⟩
  | 102 => ⟨S1024x2048, .f32⟩
  | 103 => ⟨S1024x2048, .f32⟩
  | 104 => ⟨S1x2048, .f32⟩
  | 105 => ⟨S1024x2048, .f32⟩
  | 106 => ⟨S1024x2048, .f32⟩
  | 107 => ⟨S_, .f32⟩
  | 108 => ⟨S1024x2048, .f32⟩
  | 109 => ⟨S1024x2048, .f32⟩
  | 110 => ⟨S_, .f32⟩
  | 111 => ⟨S_, .f32⟩
  | 112 => ⟨S1024x2048, .f32⟩
  | 113 => ⟨S1024x2048, .f32⟩
  | 114 => ⟨S1024x2048, .f32⟩
  | 115 => ⟨S_, .f32⟩
  | 116 => ⟨S1024x2048, .f32⟩
  | 117 => ⟨S1024x2048, .f32⟩
  | 118 => ⟨S1024x2048, .f32⟩
  | 119 => ⟨S1024x2048, .f32⟩
  | 120 => ⟨S1x2048, .f32⟩
  | 121 => ⟨S1024x2048, .f32⟩
  | 122 => ⟨S1024x2048, .f32⟩
  | 123 => ⟨S1024x32x64, .f32⟩
  | 124 => ⟨S1024x32x128, .f32⟩
  | 125 => ⟨S32x64x1024, .f32⟩
  | 126 => ⟨S1024x32x64, .f32⟩
  | 127 => ⟨S1x32x64, .f32⟩
  | _ => ⟨S1024x32x64, .f32⟩

abbrev hbmTy0_1 (i : Nat) : BufTy := match i % 128 with
  | 0 => ⟨S1024x32x64, .f32⟩
  | 1 => ⟨S1024x32x64, .f32⟩
  | 2 => ⟨S_, .f32⟩
  | 3 => ⟨S1024x32, .f32⟩
  | 4 => ⟨S1024x32x1, .f32⟩
  | 5 => ⟨S_, .f32⟩
  | 6 => ⟨S1024x32x1, .f32⟩
  | 7 => ⟨S1024x32x1, .f32⟩
  | 8 => ⟨S1024x32x64, .f32⟩
  | 9 => ⟨S1024x32x64, .f32⟩
  | 10 => ⟨S1024x32x64, .f32⟩
  | 11 => ⟨S_, .f32⟩
  | 12 => ⟨S1024x32, .f32⟩
  | 13 => ⟨S1024x32x1, .f32⟩
  | 14 => ⟨S_, .f32⟩
  | 15 => ⟨S1024x32x1, .f32⟩
  | 16 => ⟨S1024x32x1, .f32⟩
  | 17 => ⟨S1024x32x64, .f32⟩
  | 18 => ⟨S1024x32x64, .f32⟩
  | 19 => ⟨S_, .f32⟩
  | 20 => ⟨S1024x32x1, .f32⟩
  | 21 => ⟨S1024x32x1, .f32⟩
  | 22 => ⟨S1024x32x1, .f32⟩
  | 23 => ⟨S1024x32x64, .f32⟩
  | 24 => ⟨S1024x32x64, .f32⟩
  | 25 => ⟨S1x32x64, .f32⟩
  | 26 => ⟨S1024x32x64, .f32⟩
  | 27 => ⟨S1024x32x64, .f32⟩
  | 28 => ⟨S1x32x64, .f32⟩
  | 29 => ⟨S1024x32x64, .f32⟩
  | 30 => ⟨S1024x32x64, .f32⟩
  | 31 => ⟨S1024x2048, .f32⟩
  | 32 => ⟨S64x4096, .f32⟩
  | 33 => ⟨S1024x4096, .f32⟩
  | 34 => ⟨S_, .f32⟩
  | 35 => ⟨S_, .f32⟩
  | 36 => ⟨S1024x4096, .f32⟩
  | 37 => ⟨S1024x4096, .f32⟩
  | 38 => ⟨S1024x4096, .i32⟩
  | 39 => ⟨S_, .f32⟩
  | 40 => ⟨S_, .i32⟩
  | 41 => ⟨S1024, .f32⟩
  | 42 => ⟨S1024, .i32⟩
  | 43 => ⟨S1024, .f32⟩
  | 44 => ⟨S1024, .f32⟩
  | 45 => ⟨S_, .f32⟩
  | 46 => ⟨S1024, .f32⟩
  | 47 => ⟨S1024, .f32⟩
  | 48 => ⟨S_, .f32⟩
  | 49 => ⟨S1024, .f32⟩
  | 50 => ⟨S1024, .f32⟩
  | 51 => ⟨S_, .f32⟩
  | 52 => ⟨S1024, .f32⟩
  | 53 => ⟨S1024, .f32⟩
  | 54 => ⟨S_, .f32⟩
  | 55 => ⟨S4096, .f32⟩
  | 56 => ⟨S_, .i32⟩
  | 57 => ⟨S1024, .i32⟩
  | 58 => ⟨S1024, .i1⟩
  | 59 => ⟨S_, .i32⟩
  | 60 => ⟨S1024, .i32⟩
  | 61 => ⟨S1024, .i32⟩
  | 62 => ⟨S1024, .i32⟩
  | 63 => ⟨S1024x1, .i32⟩
  | 64 => ⟨S4096, .f32⟩
  | 65 => ⟨S_, .f32⟩
  | 66 => ⟨S4096x64, .f32⟩
  | 67 => ⟨S1024x1, .f32⟩
  | 68 => ⟨S1024x64, .f32⟩
  | 69 => ⟨S1024x64, .f32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S4096x64, .f32⟩
  | 79 => ⟨S_, .f32⟩
  | 80 => ⟨S4096x2048, .f32⟩
  | 81 => ⟨S1024x1, .f32⟩
  | 82 => ⟨S1024x2048, .f32⟩
  | 83 => ⟨S1024x2048, .f32⟩
  | 84 => ⟨S_, .i32⟩
  | 85 => ⟨S1024, .i32⟩
  | 86 => ⟨S1024, .i1⟩
  | 87 => ⟨S_, .i32⟩
  | 88 => ⟨S1024, .i32⟩
  | 89 => ⟨S1024, .i32⟩
  | 90 => ⟨S1024, .i32⟩
  | 91 => ⟨S1024x1, .i32⟩
  | 92 => ⟨S4096x2048, .f32⟩
  | 93 => ⟨S_, .f32⟩
  | 94 => ⟨S4096, .f32⟩
  | 95 => ⟨S4096, .f32⟩
  | 96 => ⟨S4096x1, .f32⟩
  | 97 => ⟨S4096x64, .f32⟩
  | 98 => ⟨S4096x64, .f32⟩
  | 99 => ⟨S4096x64, .f32⟩
  | 100 => ⟨S_, .f32⟩
  | 101 => ⟨S4096, .f32⟩
  | 102 => ⟨S4096, .f32⟩
  | 103 => ⟨S4096x1, .f32⟩
  | 104 => ⟨S4096x2048, .f32⟩
  | 105 => ⟨S4096x2048, .f32⟩
  | 106 => ⟨S4096x2048, .f32⟩
  | 107 => ⟨S128x4096, .f32⟩
  | 108 => ⟨S1024x4096, .f32⟩
  | 109 => ⟨S_, .f32⟩
  | 110 => ⟨S_, .f32⟩
  | 111 => ⟨S1024x4096, .f32⟩
  | 112 => ⟨S1024x4096, .f32⟩
  | 113 => ⟨S1024x4096, .i32⟩
  | 114 => ⟨S_, .f32⟩
  | 115 => ⟨S_, .i32⟩
  | 116 => ⟨S1024, .f32⟩
  | 117 => ⟨S1024, .i32⟩
  | 118 => ⟨S1024, .f32⟩
  | 119 => ⟨S1024, .f32⟩
  | 120 => ⟨S_, .f32⟩
  | 121 => ⟨S1024, .f32⟩
  | 122 => ⟨S1024, .f32⟩
  | 123 => ⟨S_, .f32⟩
  | 124 => ⟨S1024, .f32⟩
  | 125 => ⟨S1024, .f32⟩
  | 126 => ⟨S_, .f32⟩
  | 127 => ⟨S1024, .f32⟩
  | _ => ⟨S1024x32x64, .f32⟩

abbrev hbmTy0_2 (i : Nat) : BufTy := match i % 128 with
  | 0 => ⟨S1024, .f32⟩
  | 1 => ⟨S_, .f32⟩
  | 2 => ⟨S4096, .f32⟩
  | 3 => ⟨S_, .i32⟩
  | 4 => ⟨S1024, .i32⟩
  | 5 => ⟨S1024, .i1⟩
  | 6 => ⟨S_, .i32⟩
  | 7 => ⟨S1024, .i32⟩
  | 8 => ⟨S1024, .i32⟩
  | 9 => ⟨S1024, .i32⟩
  | 10 => ⟨S1024x1, .i32⟩
  | 11 => ⟨S4096, .f32⟩
  | 12 => ⟨S_, .f32⟩
  | 13 => ⟨S4096x128, .f32⟩
  | 14 => ⟨S1024x1, .f32⟩
  | 15 => ⟨S1024x128, .f32⟩
  | 16 => ⟨S1024x128, .f32⟩
  | 17 => ⟨S_, .i32⟩
  | 18 => ⟨S1024, .i32⟩
  | 19 => ⟨S1024, .i1⟩
  | 20 => ⟨S_, .i32⟩
  | 21 => ⟨S1024, .i32⟩
  | 22 => ⟨S1024, .i32⟩
  | 23 => ⟨S1024, .i32⟩
  | 24 => ⟨S1024x1, .i32⟩
  | 25 => ⟨S4096x128, .f32⟩
  | 26 => ⟨S_, .f32⟩
  | 27 => ⟨S4096x2048, .f32⟩
  | 28 => ⟨S1024x1, .f32⟩
  | 29 => ⟨S1024x2048, .f32⟩
  | 30 => ⟨S1024x2048, .f32⟩
  | 31 => ⟨S_, .i32⟩
  | 32 => ⟨S1024, .i32⟩
  | 33 => ⟨S1024, .i1⟩
  | 34 => ⟨S_, .i32⟩
  | 35 => ⟨S1024, .i32⟩
  | 36 => ⟨S1024, .i32⟩
  | 37 => ⟨S1024, .i32⟩
  | 38 => ⟨S1024x1, .i32⟩
  | 39 => ⟨S4096x2048, .f32⟩
  | 40 => ⟨S_, .f32⟩
  | 41 => ⟨S4096, .f32⟩
  | 42 => ⟨S4096, .f32⟩
  | 43 => ⟨S4096x1, .f32⟩
  | 44 => ⟨S4096x128, .f32⟩
  | 45 => ⟨S4096x128, .f32⟩
  | 46 => ⟨S4096x128, .f32⟩
  | 47 => ⟨S_, .f32⟩
  | 48 => ⟨S4096, .f32⟩
  | 49 => ⟨S4096, .f32⟩
  | 50 => ⟨S4096x1, .f32⟩
  | 51 => ⟨S4096x2048, .f32⟩
  | 52 => ⟨S4096x2048, .f32⟩
  | 53 => ⟨S4096x2048, .f32⟩
  | _ => ⟨S1024x32x64, .f32⟩

abbrev hbmTy (i : Nat) : BufTy := match i / 128 with
  | 0 => hbmTy0_0 i
  | 1 => hbmTy0_1 i
  | 2 => hbmTy0_2 i
  | _ => ⟨S1024x32x64, .f32⟩

abbrev bufTy : (tb : Table) → Fin (tcTables nBuf tb) → BufTy
  | .hbm, ⟨i, _⟩ => hbmTy i
  | _, _ => ⟨S1024x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_cst_6 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_8 : Ref sig .tc := ⟨.hbm, 53, rfl⟩
abbrev main_v28 : Ref sig .tc := ⟨.hbm, 54, rfl⟩
abbrev main_cst_9 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_10 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_cst_12 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_v49 : Ref sig .tc := ⟨.hbm, 80, rfl⟩
abbrev main_cst_14 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_15 : Ref sig .tc := ⟨.hbm, 87, rfl⟩
abbrev main_v55 : Ref sig .tc := ⟨.hbm, 88, rfl⟩
abbrev main_v56 : Ref sig .tc := ⟨.hbm, 89, rfl⟩
abbrev main_cst_16 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_17 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_18 : Ref sig .tc := ⟨.hbm, 107, rfl⟩
abbrev main_v72 : Ref sig .tc := ⟨.hbm, 108, rfl⟩
abbrev main_v73 : Ref sig .tc := ⟨.hbm, 109, rfl⟩
abbrev main_cst_19 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_20 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_21 : Ref sig .tc := ⟨.hbm, 130, rfl⟩
abbrev main_v92 : Ref sig .tc := ⟨.hbm, 131, rfl⟩
abbrev main_v93 : Ref sig .tc := ⟨.hbm, 132, rfl⟩
abbrev main_cst_22 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_23 : Ref sig .tc := ⟨.hbm, 139, rfl⟩
abbrev main_v99 : Ref sig .tc := ⟨.hbm, 140, rfl⟩
abbrev main_v100 : Ref sig .tc := ⟨.hbm, 141, rfl⟩
abbrev main_cst_24 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_25 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_26 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_call0_v0 : Ref sig .tc := ⟨.hbm, 166, rfl⟩
abbrev main_call0_cst : Ref sig .tc := ⟨.hbm, 167, rfl⟩
abbrev main_call0_c : Ref sig .tc := ⟨.hbm, 168, rfl⟩
abbrev main_call0_v1_0 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_27 : Ref sig .tc := ⟨.hbm, 173, rfl⟩
abbrev main_v125 : Ref sig .tc := ⟨.hbm, 174, rfl⟩
abbrev main_v126 : Ref sig .tc := ⟨.hbm, 175, rfl⟩
abbrev main_cst_28 : Ref sig .tc := ⟨.hbm, 176, rfl⟩
abbrev main_v127 : Ref sig .tc := ⟨.hbm, 177, rfl⟩
abbrev main_v128 : Ref sig .tc := ⟨.hbm, 178, rfl⟩
abbrev main_cst_29 : Ref sig .tc := ⟨.hbm, 179, rfl⟩
abbrev main_v129 : Ref sig .tc := ⟨.hbm, 180, rfl⟩
abbrev main_v130 : Ref sig .tc := ⟨.hbm, 181, rfl⟩
abbrev main_cst_30 : Ref sig .tc := ⟨.hbm, 182, rfl⟩
abbrev main_v131 : Ref sig .tc := ⟨.hbm, 183, rfl⟩
abbrev main_c : Ref sig .tc := ⟨.hbm, 184, rfl⟩
abbrev main_v132 : Ref sig .tc := ⟨.hbm, 185, rfl⟩
abbrev main_v133 : Ref sig .tc := ⟨.hbm, 186, rfl⟩
abbrev main_c_31 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_32 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_c_33 : Ref sig .tc := ⟨.hbm, 198, rfl⟩
abbrev main_v143 : Ref sig .tc := ⟨.hbm, 199, rfl⟩
abbrev main_v144 : Ref sig .tc := ⟨.hbm, 200, rfl⟩
abbrev main_c_34 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_35 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_c_36 : Ref sig .tc := ⟨.hbm, 212, rfl⟩
abbrev main_v154 : Ref sig .tc := ⟨.hbm, 213, rfl⟩
abbrev main_v155 : Ref sig .tc := ⟨.hbm, 214, rfl⟩
abbrev main_c_37 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_38 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_cst_39 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_cst_40 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_call1_v0 : Ref sig .tc := ⟨.hbm, 241, rfl⟩
abbrev main_call1_cst : Ref sig .tc := ⟨.hbm, 242, rfl⟩
abbrev main_call1_c : Ref sig .tc := ⟨.hbm, 243, rfl⟩
abbrev main_call1_v1_0 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_cst_41 : Ref sig .tc := ⟨.hbm, 248, rfl⟩
abbrev main_v181 : Ref sig .tc := ⟨.hbm, 249, rfl⟩
abbrev main_v182 : Ref sig .tc := ⟨.hbm, 250, rfl⟩
abbrev main_cst_42 : Ref sig .tc := ⟨.hbm, 251, rfl⟩
abbrev main_v183 : Ref sig .tc := ⟨.hbm, 252, rfl⟩
abbrev main_v184 : Ref sig .tc := ⟨.hbm, 253, rfl⟩
abbrev main_cst_43 : Ref sig .tc := ⟨.hbm, 254, rfl⟩
abbrev main_v185 : Ref sig .tc := ⟨.hbm, 255, rfl⟩
abbrev main_v186 : Ref sig .tc := ⟨.hbm, 256, rfl⟩
abbrev main_cst_44 : Ref sig .tc := ⟨.hbm, 257, rfl⟩
abbrev main_v187 : Ref sig .tc := ⟨.hbm, 258, rfl⟩
abbrev main_c_45 : Ref sig .tc := ⟨.hbm, 259, rfl⟩
abbrev main_v188 : Ref sig .tc := ⟨.hbm, 260, rfl⟩
abbrev main_v189 : Ref sig .tc := ⟨.hbm, 261, rfl⟩
abbrev main_c_46 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_cst_47 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_c_48 : Ref sig .tc := ⟨.hbm, 273, rfl⟩
abbrev main_v199 : Ref sig .tc := ⟨.hbm, 274, rfl⟩
abbrev main_v200 : Ref sig .tc := ⟨.hbm, 275, rfl⟩
abbrev main_c_49 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_cst_50 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_c_51 : Ref sig .tc := ⟨.hbm, 287, rfl⟩
abbrev main_v210 : Ref sig .tc := ⟨.hbm, 288, rfl⟩
abbrev main_v211 : Ref sig .tc := ⟨.hbm, 289, rfl⟩
abbrev main_c_52 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_cst_53 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_cst_54 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩

abbrev nD : Nat := 1
abbrev τ : Topo := Topo.v7x

variable {F : FTy → Type} [FloatOps F]
-- ==== Proof.Run.Region0.lean ====
/- Region 0: the read statistics of the pair memory. What its window holds on entry, what the body leaves in every buffer, and that the body runs safely. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x32x64 := Rect.unit (s := S1024x32x64) ![0, 0, 0] S1024x32x64.size inb_S1024x32x64_S1024x32x64_0_0_0
abbrev r0_1 : Rect S4096x64 := Rect.unit (s := S4096x64) ![0, 0] S4096x64.size inb_S4096x64_S4096x64_0_0
abbrev r0_2 : Rect S1024x64 := Rect.unit (s := S1024x64) ![0, 0] S1024x64.size inb_S1024x64_S1024x64_0_0
abbrev r0_3 : Rect S1024 := Rect.unit (s := S1024) ![0] S1024.size inb_S1024_S1024_0

def out0_2 (x0 : Vec F S1024x32x64 .f32) (x1 : Vec F S4096x64 .f32) : Vec F S1024x64 .f32 :=
  View.canon [⟨r0_2, k0_pay1 (View.ld x0 r0_0)⟩]

theorem cover0_2 (p0 : Vec F S1024x64 .f32) (y : S1024x64.Idx) :
    ∃ pc ∈ ([⟨r0_2, p0⟩] : List (View.Piece (Elt F) S1024x64 .f32)), y ∈ pc.1.set :=
  View.cover_of_tiled [⟨r0_2, p0⟩] S1024x64.size (by rfl) y

def out0_3 (x0 : Vec F S1024x32x64 .f32) (x1 : Vec F S4096x64 .f32) : Vec F S1024 .f32 :=
  View.canon [⟨r0_3, k0_pay3 (View.ld x0 r0_0) (View.ld x1 r0_1)⟩]

theorem cover0_3 (p0 : Vec F S1024 .f32) (y : S1024.Idx) :
    ∃ pc ∈ ([⟨r0_3, p0⟩] : List (View.Piece (Elt F) S1024 .f32)), y ∈ pc.1.set :=
  View.cover_of_tiled [⟨r0_3, p0⟩] S1024.size (by rfl) y

def out0_4 (x0 : Vec F S1024x32x64 .f32) (x1 : Vec F S4096x64 .f32) : Vec F S1024 .f32 :=
  View.canon [⟨r0_3, k0_pay4 (View.ld x0 r0_0) (View.ld x1 r0_1)⟩]

theorem cover0_4 (p0 : Vec F S1024 .f32) (y : S1024.Idx) :
    ∃ pc ∈ ([⟨r0_3, p0⟩] : List (View.Piece (Elt F) S1024 .f32)), y ∈ pc.1.set :=
  View.cover_of_tiled [⟨r0_3, p0⟩] S1024.size (by rfl) y

def out0_5 (x0 : Vec F S1024x32x64 .f32) (x1 : Vec F S4096x64 .f32) : Vec F S1024 .f32 :=
  View.canon [⟨r0_3, k0_pay6 (View.ld x0 r0_0) (View.ld x1 r0_1)⟩]

theorem cover0_5 (p0 : Vec F S1024 .f32) (y : S1024.Idx) :
    ∃ pc ∈ ([⟨r0_3, p0⟩] : List (View.Piece (Elt F) S1024 .f32)), y ∈ pc.1.set :=
  View.cover_of_tiled [⟨r0_3, p0⟩] S1024.size (by rfl) y

def out0_6 (x0 : Vec F S1024x32x64 .f32) (x1 : Vec F S4096x64 .f32) : Vec F S1024 .i32 :=
  View.canon [⟨r0_3, k0_pay5 (View.ld x0 r0_0) (View.ld x1 r0_1)⟩]

theorem cover0_6 (p0 : Vec F S1024 .i32) (y : S1024.Idx) :
    ∃ pc ∈ ([⟨r0_3, p0⟩] : List (View.Piece (Elt F) S1024 .i32)), y ∈ pc.1.set :=
  View.cover_of_tiled [⟨r0_3, p0⟩] S1024.size (by rfl) y

set_option maxHeartbeats 1000000 in
theorem sound_kernel0 (c : Dev nD) (E : Set ℕ) (arg0 : Memref sig .tc .vmem S1024x32x64 .f32) (harg0 : arg0.IsWhole) (arg1 : Memref sig .tc .vmem S4096x64 .f32) (harg1 : arg1.IsWhole) (arg2 : Memref sig .tc .vmem S1024x64 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .i32) (harg6 : arg6.IsWhole)
    (x0 : Vec F S1024x32x64 .f32) (x1 : Vec F S4096x64 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1) ∗ owns (c : Thread nD τ) arg5 fullShare (out0_5 x0 x1) ∗ owns (c : Thread nD τ) arg6 fullShare (out0_6 x0 x1)) -∗ K ⟨⟩))
      ⊢ wp frame (wpE (defs₀ (F := F)) Variants.none c none) E (cc0__stats_body arg0 harg0 arg1 harg1 arg2 harg2 arg3 harg3 arg4 harg4 arg5 harg5 arg6 harg6) K := by
  simp only [cc0__stats_body_eq_skeleton]; unfold cc0__stats_body_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
    | ⟨6, _⟩ => out0_6 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Run.Region1.lean ====
/- Region 1: the read statistics of the macro memory; as region 0 at the other bank. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1024x128 := Rect.unit (s := S1024x128) ![0, 0] S1024x128.size inb_S1024x128_S1024x128_0_0
abbrev r1_1 : Rect S4096x128 := Rect.unit (s := S4096x128) ![0, 0] S4096x128.size inb_S4096x128_S4096x128_0_0
abbrev r1_2 : Rect S1024 := Rect.unit (s := S1024) ![0] S1024.size inb_S1024_S1024_0

def out1_2 (x0 : Vec F S1024x128 .f32) (x1 : Vec F S4096x128 .f32) : Vec F S1024x128 .f32 :=
  View.canon [⟨r1_0, View.ld x0 r1_0⟩]

theorem cover1_2 (p0 : Vec F S1024x128 .f32) (y : S1024x128.Idx) :
    ∃ pc ∈ ([⟨r1_0, p0⟩] : List (View.Piece (Elt F) S1024x128 .f32)), y ∈ pc.1.set :=
  View.cover_of_tiled [⟨r1_0, p0⟩] S1024x128.size (by rfl) y

def out1_3 (x0 : Vec F S1024x128 .f32) (x1 : Vec F S4096x128 .f32) : Vec F S1024 .f32 :=
  View.canon [⟨r1_2, k1_pay2 (View.ld x0 r1_0) (View.ld x1 r1_1)⟩]

theorem cover1_3 (p0 : Vec F S1024 .f32) (y : S1024.Idx) :
    ∃ pc ∈ ([⟨r1_2, p0⟩] : List (View.Piece (Elt F) S1024 .f32)), y ∈ pc.1.set :=
  View.cover_of_tiled [⟨r1_2, p0⟩] S1024.size (by rfl) y

def out1_4 (x0 : Vec F S1024x128 .f32) (x1 : Vec F S4096x128 .f32) : Vec F S1024 .f32 :=
  View.canon [⟨r1_2, k1_pay3 (View.ld x0 r1_0) (View.ld x1 r1_1)⟩]

theorem cover1_4 (p0 : Vec F S1024 .f32) (y : S1024.Idx) :
    ∃ pc ∈ ([⟨r1_2, p0⟩] : List (View.Piece (Elt F) S1024 .f32)), y ∈ pc.1.set :=
  View.cover_of_tiled [⟨r1_2, p0⟩] S1024.size (by rfl) y

def out1_5 (x0 : Vec F S1024x128 .f32) (x1 : Vec F S4096x128 .f32) : Vec F S1024 .f32 :=
  View.canon [⟨r1_2, k1_pay5 (View.ld x0 r1_0) (View.ld x1 r1_1)⟩]

theorem cover1_5 (p0 : Vec F S1024 .f32) (y : S1024.Idx) :
    ∃ pc ∈ ([⟨r1_2, p0⟩] : List (View.Piece (Elt F) S1024 .f32)), y ∈ pc.1.set :=
  View.cover_of_tiled [⟨r1_2, p0⟩] S1024.size (by rfl) y

def out1_6 (x0 : Vec F S1024x128 .f32) (x1 : Vec F S4096x128 .f32) : Vec F S1024 .i32 :=
  View.canon [⟨r1_2, k1_pay4 (View.ld x0 r1_0) (View.ld x1 r1_1)⟩]

theorem cover1_6 (p0 : Vec F S1024 .i32) (y : S1024.Idx) :
    ∃ pc ∈ ([⟨r1_2, p0⟩] : List (View.Piece (Elt F) S1024 .i32)), y ∈ pc.1.set :=
  View.cover_of_tiled [⟨r1_2, p0⟩] S1024.size (by rfl) y

set_option maxHeartbeats 1000000 in
theorem sound_kernel1 (c : Dev nD) (E : Set ℕ) (arg0 : Memref sig .tc .vmem S1024x128 .f32) (harg0 : arg0.IsWhole) (arg1 : Memref sig .tc .vmem S4096x128 .f32) (harg1 : arg1.IsWhole) (arg2 : Memref sig .tc .vmem S1024x128 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .i32) (harg6 : arg6.IsWhole)
    (x0 : Vec F S1024x128 .f32) (x1 : Vec F S4096x128 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare (out1_2 x0 x1) ∗ owns (c : Thread nD τ) arg3 fullShare (out1_3 x0 x1) ∗ owns (c : Thread nD τ) arg4 fullShare (out1_4 x0 x1) ∗ owns (c : Thread nD τ) arg5 fullShare (out1_5 x0 x1) ∗ owns (c : Thread nD τ) arg6 fullShare (out1_6 x0 x1)) -∗ K ⟨⟩))
      ⊢ wp frame (wpE (defs₀ (F := F)) Variants.none c none) E (cc1__stats_body arg0 harg0 arg1 harg1 arg2 harg2 arg3 harg3 arg4 harg4 arg5 harg5 arg6 harg6) K := by
  simp only [cc1__stats_body_eq_skeleton]; unfold cc1__stats_body_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  isplitl [H3]
  · iexists _; isplitr
    swap; · iexact H3
    ipureintro
    exact View.read_writes_eq_canon _ _ _ (cover1_3 _)
  isplitl [H4]
  · iexists _; isplitr
    swap; · iexact H4
    ipureintro
    exact View.read_writes_eq_canon _ _ _ (cover1_4 _)
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
    | ⟨4, _⟩ => out1_4 (iblk1 V c 0 t) (iblk1 V c 1 t)
    | ⟨5, _⟩ => out1_5 (iblk1 V c 0 t) (iblk1 V c 1 t)
    | ⟨6, _⟩ => out1_6 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) := by dsimp only [dat1]
theorem after1_5 (c : Dev nD) (t : Fin cfg1.N) : (dat1 V c).after 5 t = out1_5 (iblk1 V c 0 t) (iblk1 V c 1 t) := by dsimp only [dat1]
theorem after1_6 (c : Dev nD) (t : Fin cfg1.N) : (dat1 V c).after 6 t = out1_6 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Run.Region2.lean ====
/- Region 2: reading and writing the pair memory, eight blocks of slots. What its windows hold at every point, what the body leaves, and that the body runs safely. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := k2_cond1 i = 1#1
theorem hcond2_0 : ∀ t : Fin cfg2.N, cond2_0 (grid2.coords t) ↔ t.val % 8 = 0 :=
  (fun t => by
    have ht : t.val < 8 := Nat.lt_of_lt_of_eq t.isLt N_2
    have e0 : (grid2.coords t 0).val = t.val / 1 % 8 := Pipeline.Grid.coords_val t 0 (by decide) rfl
    simp only [cond2_0, k2_cond1, e0]
    word_cmp
   : ∀ t : Fin grid2.N, cond2_0 (grid2.coords t) ↔ t.val % 8 = 0)

abbrev cond2_1 (i : grid2.Coords) : Prop := k2_cond2 i = 1#1
theorem hcond2_1 : ∀ t : Fin cfg2.N, cond2_1 (grid2.coords t) ↔ 1 ≤ t.val :=
  (by decide +kernel : ∀ t : Fin grid2.N, cond2_1 (grid2.coords t) ↔ 1 ≤ t.val)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_9 : ∀ t : Fin cfg2.N, cfg2.idle 9 (grid2.coords t) = false := fun _ => rfl
theorem liveAt2_10 : ∀ t : Fin cfg2.N, cfg2.idle 10 (grid2.coords t) = false := fun _ => rfl
def freshTab2_8 : ℕ → Bool
  | 0 => true
  | n + 1 => (0x80 : ℕ).testBit n
theorem freshTab2_8_step : ∀ t : Fin cfg2.N,
    freshTab2_8 (t.val + 1) = ((cfg2.win 8).flush t || (cfg2.idle 8 (cfg2.grid.coords t) && freshTab2_8 t.val)) := by decide +kernel
theorem fresh2_8_eq (t : Fin cfg2.N) : cfg2.fresh 8 t.val = freshTab2_8 t.val :=
  Pipeline.Cfg.fresh_tab cfg2 8 freshTab2_8 rfl freshTab2_8_step t.val (Nat.le_of_lt t.isLt)
theorem liveAt2_8_A : ∀ t : Fin cfg2.N, cond2_0 (grid2.coords t) → ¬cond2_1 (grid2.coords t) → cfg2.idle 8 (grid2.coords t) = false := by decide +kernel
theorem liveAt2_8_B : ∀ t : Fin cfg2.N, ¬cond2_0 (grid2.coords t) → cond2_1 (grid2.coords t) → cfg2.idle 8 (grid2.coords t) = false := by decide +kernel
theorem notFresh2_8_B : ∀ t : Fin cfg2.N, ¬cond2_0 (grid2.coords t) → cond2_1 (grid2.coords t) → cfg2.fresh 8 t.val = false := by
  intro t; rw [fresh2_8_eq t]; revert t; decide +kernel

abbrev VO2_8 : View sig .tc .vmem S1024x2048 .f32 := (Memref.whole cc2_stg8_0 : Memref sig .tc .vmem S1024x2048 .f32).view
abbrev VO2_9 : View sig .tc .vmem S512x64 .f32 := (Memref.whole cc2_stg9_0 : Memref sig .tc .vmem S512x64 .f32).view
abbrev VO2_10 : View sig .tc .vmem S512x2048 .f32 := (Memref.whole cc2_stg10_0 : Memref sig .tc .vmem S512x2048 .f32).view
abbrev ms2_0 (t : Fin cfg2.N) : Memref sig .tc .vmem S1024x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x2048 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024 .i32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1024x2048 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S512x64 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S512x2048 .f32 := win2_10.stage (cfg2.slots t 10)
abbrev hs2_10 (t : Fin cfg2.N) : (ms2_10 t).IsWhole := hstage2_10 ((cfg2.slots t 10).cast nbuf2_10)
set_option maxHeartbeats 1000000 in
noncomputable def kernelRun2_A (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : cond2_0 i) (hc1 : ¬cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) :
    Σ' (L8 : List (View.Piece (Elt F) S1024x2048 .f32)), Σ' (L9 : List (View.Piece (Elt F) S512x64 .f32)), { L10 : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc2__rw_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc2__rw_body_eq_skeleton]; unfold cc2__rw_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact H10

theorem cover2_A_8 (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : cond2_0 i) (hc1 : ¬cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) (y : S1024x2048.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 S1024x2048.size (by sl_kernel_rfl) y

def out2_A_8 (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : cond2_0 i) (hc1 : ¬cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) : Vec F S1024x2048 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1)

theorem cover2_A_9 (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : cond2_0 i) (hc1 : ¬cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) (y : S512x64.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 S512x64.size (by sl_kernel_rfl) y

def out2_A_9 (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : cond2_0 i) (hc1 : ¬cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) : Vec F S512x64 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1)

theorem cover2_A_10 (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : cond2_0 i) (hc1 : ¬cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) (y : S512x2048.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 S512x2048.size (by sl_kernel_rfl) y

def out2_A_10 (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : cond2_0 i) (hc1 : ¬cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) : Vec F S512x2048 .f32 :=
  VO2_10.read (Elt F) (VO2_10.writes (Elt F) VO2_10.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1)
set_option maxHeartbeats 1000000 in
noncomputable def kernelRun2_B (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : ¬cond2_0 i) (hc1 : cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) :
    Σ' (L8 : List (View.Piece (Elt F) S1024x2048 .f32)), Σ' (L9 : List (View.Piece (Elt F) S512x64 .f32)), { L10 : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc2__rw_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc2__rw_body_eq_skeleton]; unfold cc2__rw_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact H10

theorem cover2_B_8 (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : ¬cond2_0 i) (hc1 : cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) (y : S1024x2048.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).1 S1024x2048.size (by sl_kernel_rfl) y

def out2_B_8 (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : ¬cond2_0 i) (hc1 : cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) : Vec F S1024x2048 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).1)

theorem cover2_B_9 (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : ¬cond2_0 i) (hc1 : cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) (y : S512x64.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).2.1 S512x64.size (by sl_kernel_rfl) y

def out2_B_9 (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : ¬cond2_0 i) (hc1 : cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) : Vec F S512x64 .f32 :=
  VO2_9.read (Elt F) (VO2_9.writes (Elt F) VO2_9.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).2.1)

theorem cover2_B_10 (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : ¬cond2_0 i) (hc1 : cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) (y : S512x2048.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).2.2.1 S512x2048.size (by sl_kernel_rfl) y

def out2_B_10 (c : Dev nD) (i : grid2.Coords) (arg1 : Memref sig .tc .vmem S1024x64 .f32) (harg1 : arg1.IsWhole) (arg2 : Memref sig .tc .vmem S512x64 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x64 .f32) (harg10 : arg10.IsWhole) (arg11 : Memref sig .tc .vmem S512x2048 .f32) (harg11 : arg11.IsWhole) (hc0 : ¬cond2_0 i) (hc1 : cond2_1 i)
    (x0 : Vec F S1024x64 .f32) (x1 : Vec F S512x64 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) : Vec F S512x2048 .f32 :=
  VO2_10.read (Elt F) (VO2_10.writes (Elt F) VO2_10.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).2.2.1)

def outsAt2 (c : Dev nD) : (n : ℕ) → n < cfg2.N → Vec F S1024x2048 .f32 × Vec F S512x64 .f32 × Vec F S512x2048 .f32
  | 0, hn => (out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), out2_A_10 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩))
  | n + 1, hn =>
    if h0 : (n + 1) % 8 = 0 then
      if h1 : 1 ≤ (n + 1) then
        False.elim (by have hN : n + 1 < 8 := lt_of_lt_of_eq hn (show cfg2.N = 8 from N_2); omega)
      else
        (out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), out2_A_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), out2_A_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩))
    else
      if h1 : 1 ≤ (n + 1) then
        (out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).1, out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).1, out2_B_10 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).1)
      else
        False.elim (by have hN : n + 1 < 8 := lt_of_lt_of_eq hn (show cfg2.N = 8 from N_2); omega)

theorem outsAt2_A (c : Dev nD) (t : Fin cfg2.N) (h0 : t.val % 8 = 0) (h1 : ¬1 ≤ t.val) :
    outsAt2 V c t.val t.isLt = (out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t), out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t), out2_A_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : 1 ≤ t.val) :
    outsAt2 V c t.val t.isLt = (out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).1, out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).1, out2_B_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt).1
    | ⟨9, _⟩ => (outsAt2 V c t.val t.isLt).2.1
    | ⟨10, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = (outsAt2 V c t.val t.isLt).1 := by dsimp only [dat2]
theorem after2_9 (c : Dev nD) (t : Fin cfg2.N) : (dat2 V c).after 9 t = (outsAt2 V c t.val t.isLt).2.1 := by dsimp only [dat2]
theorem after2_10 (c : Dev nD) (t : Fin cfg2.N) : (dat2 V c).after 10 t = (outsAt2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

theorem hcarry2_8 (c : Dev nD) : ∀ (t : Fin cfg2.N) (_ : t.val ≠ 0), cfg2.idle 8 (grid2.coords t) = true → cfg2.fresh 8 t.val = false →
    (dat2 V c).after 8 t = (dat2 V c).after 8 ⟨t.val - 1, by omega⟩ := by
  intro t _ hi _
  have hN : t.val < 8 := lt_of_lt_of_eq t.isLt (show cfg2.N = 8 from N_2)
  rw [after2_8, after2_8]
  by_cases h0 : t.val % 8 = 0
  · by_cases h1 : 1 ≤ t.val
    · exfalso; omega
    · rw [liveAt2_8_A t ((hcond2_0 t).mpr h0) (fun h => h1 ((hcond2_1 t).mp h))] at hi
      exact absurd hi Bool.false_ne_true
  · by_cases h1 : 1 ≤ t.val
    · rw [liveAt2_8_B t (fun h => h0 ((hcond2_0 t).mp h)) ((hcond2_1 t).mpr h1)] at hi
      exact absurd hi Bool.false_ne_true
    · exfalso; omega
theorem before2_8_B (c : Dev nD) (t : Fin cfg2.N) (h0 : ¬t.val % 8 = 0) (h1 : 1 ≤ t.val) (d) :
    (dat2 V c).before 8 t d = (outsAt2 V c (t.val - 1) (Nat.lt_of_le_of_lt (Nat.sub_le _ _) t.isLt)).1 := by
  rw [Dat.before_out_traj _ 8 rfl (fun _ _ => rfl) (hcarry2_8 V c) t.val t rfl d,
    if_neg (by rw [notFresh2_8_B t (fun h => h0 ((hcond2_0 t).mp h)) ((hcond2_1 t).mpr h1)]; exact Bool.false_ne_true)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl]
  have hN : t.val < 8 := lt_of_lt_of_eq t.isLt (show cfg2.N = 8 from N_2)
  by_cases h0 : t.val % 8 = 0
  · by_cases h1 : 1 ≤ t.val
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5 t], after2_5]
      rw [show (dat2 V c).leavesExact 6 t = owns (c : Thread nD τ) (ms2_6 t) fullShare ((dat2 V c).after 6 t) from by
      unfold Dat.leavesExact; rw [liveAt2_6 t], after2_6]
      rw [show (dat2 V c).leavesExact 7 t = owns (c : Thread nD τ) (ms2_7 t) fullShare ((dat2 V c).after 7 t) from by
      unfold Dat.leavesExact; rw [liveAt2_7 t], after2_7]
      rw [show (dat2 V c).leavesExact 8 t = owns (c : Thread nD τ) (ms2_8 t) fullShare ((dat2 V c).after 8 t) from by
      unfold Dat.leavesExact; rw [liveAt2_8_A t ((hcond2_0 t).mpr h0) (fun h => h1 ((hcond2_1 t).mp h))], after2_8]
      rw [show (dat2 V c).leavesExact 9 t = owns (c : Thread nD τ) (ms2_9 t) fullShare ((dat2 V c).after 9 t) from by
      unfold Dat.leavesExact; rw [liveAt2_9 t], after2_9]
      rw [show (dat2 V c).leavesExact 10 t = owns (c : Thread nD τ) (ms2_10 t) fullShare ((dat2 V c).after 10 t) from by
      unfold Dat.leavesExact; rw [liveAt2_10 t], after2_10]
      rw [outsAt2_A V c t h0 h1]
      unfold out2_A_8 out2_A_9 out2_A_10; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iintro ⟨H0, H1, H2, H3, H4, H5, H6, H7, ⟨%e8, H8⟩, ⟨%e9, H9⟩, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover2_A_8 c _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover2_A_9 c _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover2_A_10 c _ _ _ _ _ _ _ _ _ _ _ _ _ _ _ _ _ _ _ _ _ _ _ _ _ _ _ _ _ _ _ _ _)
  · by_cases h1 : 1 ≤ t.val
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3 t], after2_3]
      rw [show (dat2 V c).leavesExact 4 t = owns (c : Thread nD τ) (ms2_4 t) fullShare ((dat2 V c).after 4 t) from by
      unfold Dat.leavesExact; rw [liveAt2_4 t], after2_4]
      rw [show (dat2 V c).leavesExact 5 t = owns (c : Thread nD τ) (ms2_5 t) fullShare ((dat2 V c).after 5 t) from by
      unfold Dat.leavesExact; rw [liveAt2_5 t], after2_5]
      rw [show (dat2 V c).leavesExact 6 t = owns (c : Thread nD τ) (ms2_6 t) fullShare ((dat2 V c).after 6 t) from by
      unfold Dat.leavesExact; rw [liveAt2_6 t], after2_6]
      rw [show (dat2 V c).leavesExact 7 t = owns (c : Thread nD τ) (ms2_7 t) fullShare ((dat2 V c).after 7 t) from by
      unfold Dat.leavesExact; rw [liveAt2_7 t], after2_7]
      rw [show (dat2 V c).leavesExact 8 t = owns (c : Thread nD τ) (ms2_8 t) fullShare ((dat2 V c).after 8 t) from by
      unfold Dat.leavesExact; rw [liveAt2_8_B t (fun h => h0 ((hcond2_0 t).mp h)) ((hcond2_1 t).mpr h1)], after2_8]
      rw [show (dat2 V c).leavesExact 9 t = owns (c : Thread nD τ) (ms2_9 t) fullShare ((dat2 V c).after 9 t) from by
      unfold Dat.leavesExact; rw [liveAt2_9 t], after2_9]
      rw [show (dat2 V c).leavesExact 10 t = owns (c : Thread nD τ) (ms2_10 t) fullShare ((dat2 V c).after 10 t) from by
      unfold Dat.leavesExact; rw [liveAt2_10 t], after2_10]
      rw [outsAt2_B V c t h0 h1]
      simp only [before2_8_B V c t h0 h1]
      unfold out2_B_8 out2_B_9 out2_B_10; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_B c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      iintro ⟨H0, H1, H2, H3, H4, H5, H6, H7, ⟨%e8, H8⟩, ⟨%e9, H9⟩, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover2_B_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover2_B_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover2_B_10 c _ _ _ _ _ _ _ _ _ _ _ _ _ _ _ _ _ _ _ _ _ _ _ _ _ _ _ _ _ _ _ _ _ _)
    · exfalso; omega

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Run.Region3.lean ====
/- Region 3: reading and writing the macro memory; as region 2 at the other bank. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := k3_cond1 i = 1#1
theorem hcond3_0 : ∀ t : Fin cfg3.N, cond3_0 (grid3.coords t) ↔ t.val % 8 = 0 :=
  (fun t => by
    have ht : t.val < 8 := Nat.lt_of_lt_of_eq t.isLt N_3
    have e0 : (grid3.coords t 0).val = t.val / 1 % 8 := Pipeline.Grid.coords_val t 0 (by decide) rfl
    simp only [cond3_0, k3_cond1, e0]
    word_cmp
   : ∀ t : Fin grid3.N, cond3_0 (grid3.coords t) ↔ t.val % 8 = 0)

abbrev cond3_1 (i : grid3.Coords) : Prop := k3_cond2 i = 1#1
theorem hcond3_1 : ∀ t : Fin cfg3.N, cond3_1 (grid3.coords t) ↔ 1 ≤ t.val :=
  (by decide +kernel : ∀ t : Fin grid3.N, cond3_1 (grid3.coords t) ↔ 1 ≤ t.val)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl
theorem liveAt3_7 : ∀ t : Fin cfg3.N, cfg3.idle 7 (grid3.coords t) = false := fun _ => rfl
theorem liveAt3_9 : ∀ t : Fin cfg3.N, cfg3.idle 9 (grid3.coords t) = false := fun _ => rfl
theorem liveAt3_10 : ∀ t : Fin cfg3.N, cfg3.idle 10 (grid3.coords t) = false := fun _ => rfl
def freshTab3_8 : ℕ → Bool
  | 0 => true
  | n + 1 => (0x80 : ℕ).testBit n
theorem freshTab3_8_step : ∀ t : Fin cfg3.N,
    freshTab3_8 (t.val + 1) = ((cfg3.win 8).flush t || (cfg3.idle 8 (cfg3.grid.coords t) && freshTab3_8 t.val)) := by decide +kernel
theorem fresh3_8_eq (t : Fin cfg3.N) : cfg3.fresh 8 t.val = freshTab3_8 t.val :=
  Pipeline.Cfg.fresh_tab cfg3 8 freshTab3_8 rfl freshTab3_8_step t.val (Nat.le_of_lt t.isLt)
theorem liveAt3_8_A : ∀ t : Fin cfg3.N, cond3_0 (grid3.coords t) → ¬cond3_1 (grid3.coords t) → cfg3.idle 8 (grid3.coords t) = false := by decide +kernel
theorem liveAt3_8_B : ∀ t : Fin cfg3.N, ¬cond3_0 (grid3.coords t) → cond3_1 (grid3.coords t) → cfg3.idle 8 (grid3.coords t) = false := by decide +kernel
theorem notFresh3_8_B : ∀ t : Fin cfg3.N, ¬cond3_0 (grid3.coords t) → cond3_1 (grid3.coords t) → cfg3.fresh 8 t.val = false := by
  intro t; rw [fresh3_8_eq t]; revert t; decide +kernel

abbrev VO3_8 : View sig .tc .vmem S1024x2048 .f32 := (Memref.whole cc3_stg8_0 : Memref sig .tc .vmem S1024x2048 .f32).view
abbrev VO3_9 : View sig .tc .vmem S512x128 .f32 := (Memref.whole cc3_stg9_0 : Memref sig .tc .vmem S512x128 .f32).view
abbrev VO3_10 : View sig .tc .vmem S512x2048 .f32 := (Memref.whole cc3_stg10_0 : Memref sig .tc .vmem S512x2048 .f32).view
abbrev ms3_0 (t : Fin cfg3.N) : Memref sig .tc .vmem S1024x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x2048 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1024 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1024 .i32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1024x2048 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S512x128 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S512x2048 .f32 := win3_10.stage (cfg3.slots t 10)
abbrev hs3_10 (t : Fin cfg3.N) : (ms3_10 t).IsWhole := hstage3_10 ((cfg3.slots t 10).cast nbuf3_10)
set_option maxHeartbeats 1000000 in
noncomputable def kernelRun3_A (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : cond3_0 i) (hc1 : ¬cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) :
    Σ' (L8 : List (View.Piece (Elt F) S1024x2048 .f32)), Σ' (L9 : List (View.Piece (Elt F) S512x128 .f32)), { L10 : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc3__rw_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc3__rw_body_eq_skeleton]; unfold cc3__rw_body_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact H10

theorem cover3_A_8 (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : cond3_0 i) (hc1 : ¬cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) (y : S1024x2048.Idx) :
    ∃ pc ∈ (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 S1024x2048.size (by sl_kernel_rfl) y

def out3_A_8 (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : cond3_0 i) (hc1 : ¬cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) : Vec F S1024x2048 .f32 :=
  VO3_8.read (Elt F) (VO3_8.writes (Elt F) VO3_8.junk (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1)

theorem cover3_A_9 (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : cond3_0 i) (hc1 : ¬cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) (y : S512x128.Idx) :
    ∃ pc ∈ (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 S512x128.size (by sl_kernel_rfl) y

def out3_A_9 (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : cond3_0 i) (hc1 : ¬cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) : Vec F S512x128 .f32 :=
  VO3_9.read (Elt F) (VO3_9.writes (Elt F) VO3_9.junk (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1)

theorem cover3_A_10 (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : cond3_0 i) (hc1 : ¬cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) (y : S512x2048.Idx) :
    ∃ pc ∈ (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 S512x2048.size (by sl_kernel_rfl) y

def out3_A_10 (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : cond3_0 i) (hc1 : ¬cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) : Vec F S512x2048 .f32 :=
  VO3_10.read (Elt F) (VO3_10.writes (Elt F) VO3_10.junk (kernelRun3_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1)
set_option maxHeartbeats 1000000 in
noncomputable def kernelRun3_B (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : ¬cond3_0 i) (hc1 : cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) :
    Σ' (L8 : List (View.Piece (Elt F) S1024x2048 .f32)), Σ' (L9 : List (View.Piece (Elt F) S512x128 .f32)), { L10 : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc3__rw_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc3__rw_body_eq_skeleton]; unfold cc3__rw_body_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact H10

theorem cover3_B_8 (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : ¬cond3_0 i) (hc1 : cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) (y : S1024x2048.Idx) :
    ∃ pc ∈ (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).1 S1024x2048.size (by sl_kernel_rfl) y

def out3_B_8 (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : ¬cond3_0 i) (hc1 : cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) : Vec F S1024x2048 .f32 :=
  VO3_8.read (Elt F) (VO3_8.writes (Elt F) VO3_8.junk (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).1)

theorem cover3_B_9 (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : ¬cond3_0 i) (hc1 : cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) (y : S512x128.Idx) :
    ∃ pc ∈ (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).2.1 S512x128.size (by sl_kernel_rfl) y

def out3_B_9 (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : ¬cond3_0 i) (hc1 : cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) : Vec F S512x128 .f32 :=
  VO3_9.read (Elt F) (VO3_9.writes (Elt F) VO3_9.junk (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).2.1)

theorem cover3_B_10 (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : ¬cond3_0 i) (hc1 : cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) (y : S512x2048.Idx) :
    ∃ pc ∈ (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).2.2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).2.2.1 S512x2048.size (by sl_kernel_rfl) y

def out3_B_10 (c : Dev nD) (i : grid3.Coords) (arg1 : Memref sig .tc .vmem S1024x128 .f32) (harg1 : arg1.IsWhole) (arg2 : Memref sig .tc .vmem S512x128 .f32) (harg2 : arg2.IsWhole) (arg3 : Memref sig .tc .vmem S512x2048 .f32) (harg3 : arg3.IsWhole) (arg4 : Memref sig .tc .vmem S1024x2048 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .i32) (harg8 : arg8.IsWhole) (arg9 : Memref sig .tc .vmem S1024x2048 .f32) (harg9 : arg9.IsWhole) (arg10 : Memref sig .tc .vmem S512x128 .f32) (harg10 : arg10.IsWhole) (arg11 : Memref sig .tc .vmem S512x2048 .f32) (harg11 : arg11.IsWhole) (hc0 : ¬cond3_0 i) (hc1 : cond3_1 i)
    (x0 : Vec F S1024x128 .f32) (x1 : Vec F S512x128 .f32) (x2 : Vec F S512x2048 .f32) (x3 : Vec F S1024x2048 .bf16) (x4 : Vec F S1024 .f32) (x5 : Vec F S1024 .f32) (x6 : Vec F S1024 .f32) (x7 : Vec F S1024 .i32) (xo8 : Vec F S1024x2048 .f32) : Vec F S512x2048 .f32 :=
  VO3_10.read (Elt F) (VO3_10.writes (Elt F) VO3_10.junk (kernelRun3_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xo8).2.2.1)

def outsAt3 (c : Dev nD) : (n : ℕ) → n < cfg3.N → Vec F S1024x2048 .f32 × Vec F S512x128 .f32 × Vec F S512x2048 .f32
  | 0, hn => (out3_A_8 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩), out3_A_9 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩), out3_A_10 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩))
  | n + 1, hn =>
    if h0 : (n + 1) % 8 = 0 then
      if h1 : 1 ≤ (n + 1) then
        False.elim (by have hN : n + 1 < 8 := lt_of_lt_of_eq hn (show cfg3.N = 8 from N_3); omega)
      else
        (out3_A_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩), out3_A_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩), out3_A_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩))
    else
      if h1 : 1 ≤ (n + 1) then
        (out3_B_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (outsAt3 c n (Nat.lt_of_succ_lt hn)).1, out3_B_9 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (outsAt3 c n (Nat.lt_of_succ_lt hn)).1, out3_B_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (outsAt3 c n (Nat.lt_of_succ_lt hn)).1)
      else
        False.elim (by have hN : n + 1 < 8 := lt_of_lt_of_eq hn (show cfg3.N = 8 from N_3); omega)

theorem outsAt3_A (c : Dev nD) (t : Fin cfg3.N) (h0 : t.val % 8 = 0) (h1 : ¬1 ≤ t.val) :
    outsAt3 V c t.val t.isLt = (out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t), out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t), out3_A_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : 1 ≤ t.val) :
    outsAt3 V c t.val t.isLt = (out3_B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).1, out3_B_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).1, out3_B_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (outsAt3 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => (outsAt3 V c t.val t.isLt).1
    | ⟨9, _⟩ => (outsAt3 V c t.val t.isLt).2.1
    | ⟨10, _⟩ => (outsAt3 V c t.val t.isLt).2.2
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = (outsAt3 V c t.val t.isLt).1 := by dsimp only [dat3]
theorem after3_9 (c : Dev nD) (t : Fin cfg3.N) : (dat3 V c).after 9 t = (outsAt3 V c t.val t.isLt).2.1 := by dsimp only [dat3]
theorem after3_10 (c : Dev nD) (t : Fin cfg3.N) : (dat3 V c).after 10 t = (outsAt3 V c t.val t.isLt).2.2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

theorem hcarry3_8 (c : Dev nD) : ∀ (t : Fin cfg3.N) (_ : t.val ≠ 0), cfg3.idle 8 (grid3.coords t) = true → cfg3.fresh 8 t.val = false →
    (dat3 V c).after 8 t = (dat3 V c).after 8 ⟨t.val - 1, by omega⟩ := by
  intro t _ hi _
  have hN : t.val < 8 := lt_of_lt_of_eq t.isLt (show cfg3.N = 8 from N_3)
  rw [after3_8, after3_8]
  by_cases h0 : t.val % 8 = 0
  · by_cases h1 : 1 ≤ t.val
    · exfalso; omega
    · rw [liveAt3_8_A t ((hcond3_0 t).mpr h0) (fun h => h1 ((hcond3_1 t).mp h))] at hi
      exact absurd hi Bool.false_ne_true
  · by_cases h1 : 1 ≤ t.val
    · rw [liveAt3_8_B t (fun h => h0 ((hcond3_0 t).mp h)) ((hcond3_1 t).mpr h1)] at hi
      exact absurd hi Bool.false_ne_true
    · exfalso; omega
theorem before3_8_B (c : Dev nD) (t : Fin cfg3.N) (h0 : ¬t.val % 8 = 0) (h1 : 1 ≤ t.val) (d) :
    (dat3 V c).before 8 t d = (outsAt3 V c (t.val - 1) (Nat.lt_of_le_of_lt (Nat.sub_le _ _) t.isLt)).1 := by
  rw [Dat.before_out_traj _ 8 rfl (fun _ _ => rfl) (hcarry3_8 V c) t.val t rfl d,
    if_neg (by rw [notFresh3_8_B t (fun h => h0 ((hcond3_0 t).mp h)) ((hcond3_1 t).mpr h1)]; exact Bool.false_ne_true)]
  dsimp only [dat3]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t)

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl]
  have hN : t.val < 8 := lt_of_lt_of_eq t.isLt (show cfg3.N = 8 from N_3)
  by_cases h0 : t.val % 8 = 0
  · by_cases h1 : 1 ≤ t.val
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7 t], after3_7]
      rw [show (dat3 V c).leavesExact 8 t = owns (c : Thread nD τ) (ms3_8 t) fullShare ((dat3 V c).after 8 t) from by
      unfold Dat.leavesExact; rw [liveAt3_8_A t ((hcond3_0 t).mpr h0) (fun h => h1 ((hcond3_1 t).mp h))], after3_8]
      rw [show (dat3 V c).leavesExact 9 t = owns (c : Thread nD τ) (ms3_9 t) fullShare ((dat3 V c).after 9 t) from by
      unfold Dat.leavesExact; rw [liveAt3_9 t], after3_9]
      rw [show (dat3 V c).leavesExact 10 t = owns (c : Thread nD τ) (ms3_10 t) fullShare ((dat3 V c).after 10 t) from by
      unfold Dat.leavesExact; rw [liveAt3_10 t], after3_10]
      rw [outsAt3_A V c t h0 h1]
      unfold out3_A_8 out3_A_9 out3_A_10; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_A c (grid3.coords t) _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      iintro ⟨H0, H1, H2, H3, H4, H5, H6, H7, ⟨%e8, H8⟩, ⟨%e9, H9⟩, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover3_A_8 c _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover3_A_9 c _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover3_A_10 c _ _ _ _ _ _ _ _ _ _ _ _ _ _ _ _ _ _ _ _ _ _ _ _ _ _ _ _ _ _ _ _ _)
  · by_cases h1 : 1 ≤ t.val
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7 t], after3_7]
      rw [show (dat3 V c).leavesExact 8 t = owns (c : Thread nD τ) (ms3_8 t) fullShare ((dat3 V c).after 8 t) from by
      unfold Dat.leavesExact; rw [liveAt3_8_B t (fun h => h0 ((hcond3_0 t).mp h)) ((hcond3_1 t).mpr h1)], after3_8]
      rw [show (dat3 V c).leavesExact 9 t = owns (c : Thread nD τ) (ms3_9 t) fullShare ((dat3 V c).after 9 t) from by
      unfold Dat.leavesExact; rw [liveAt3_9 t], after3_9]
      rw [show (dat3 V c).leavesExact 10 t = owns (c : Thread nD τ) (ms3_10 t) fullShare ((dat3 V c).after 10 t) from by
      unfold Dat.leavesExact; rw [liveAt3_10 t], after3_10]
      rw [outsAt3_B V c t h0 h1]
      simp only [before3_8_B V c t h0 h1]
      unfold out3_B_8 out3_B_9 out3_B_10; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_B c (grid3.coords t) _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      iintro ⟨H0, H1, H2, H3, H4, H5, H6, H7, ⟨%e8, H8⟩, ⟨%e9, H9⟩, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover3_B_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover3_B_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover3_B_10 c _ _ _ _ _ _ _ _ _ _ _ _ _ _ _ _ _ _ _ _ _ _ _ _ _ _ _ _ _ _ _ _ _ _)
    · exfalso; omega

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.Run.Region4.lean ====
/- Region 4: the first projection of the controller with its normalisation and activation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := k4_cond1 i = 1#1
theorem hcond4_0 : ∀ t : Fin cfg4.N, cond4_0 (grid4.coords t) ↔ t.val % 4 = 0 :=
  (fun t => by
    have ht : t.val < 4 := Nat.lt_of_lt_of_eq t.isLt N_4
    have e0 : (grid4.coords t 0).val = t.val / 1 % 4 := Pipeline.Grid.coords_val t 0 (by decide) rfl
    simp only [cond4_0, k4_cond1, e0]
    word_cmp
   : ∀ t : Fin grid4.N, cond4_0 (grid4.coords t) ↔ t.val % 4 = 0)

abbrev cond4_1 (i : grid4.Coords) : Prop := k4_cond2 i = 1#1
theorem hcond4_1 : ∀ t : Fin cfg4.N, cond4_1 (grid4.coords t) ↔ t.val < 2 :=
  (by decide +kernel : ∀ t : Fin grid4.N, cond4_1 (grid4.coords t) ↔ t.val < 2)

abbrev cond4_2 (i : grid4.Coords) : Prop := k4_cond3 i = 1#1
theorem hcond4_2 : ∀ t : Fin cfg4.N, cond4_2 (grid4.coords t) ↔ 2 ≤ t.val :=
  (by decide +kernel : ∀ t : Fin grid4.N, cond4_2 (grid4.coords t) ↔ 2 ≤ t.val)

abbrev cond4_3 (i : grid4.Coords) : Prop := k4_cond4 i = 1#1
theorem hcond4_3 : ∀ t : Fin cfg4.N, cond4_3 (grid4.coords t) ↔ t.val % 4 = 3 :=
  (fun t => by
    have ht : t.val < 4 := Nat.lt_of_lt_of_eq t.isLt N_4
    have e0 : (grid4.coords t 0).val = t.val / 1 % 4 := Pipeline.Grid.coords_val t 0 (by decide) rfl
    simp only [cond4_3, k4_cond4, e0]
    word_cmp
   : ∀ t : Fin grid4.N, cond4_3 (grid4.coords t) ↔ t.val % 4 = 3)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl

abbrev conds4_A (i : grid4.Coords) : Prop := cond4_0 i ∧ cond4_1 i ∧ ¬cond4_2 i ∧ ¬cond4_3 i
instance conds4_A.dec (i : grid4.Coords) : Decidable (conds4_A i) :=
  @instDecidableAnd _ _ inferInstance (@instDecidableAnd _ _ inferInstance (@instDecidableAnd _ _ inferInstance inferInstance))
abbrev conds4_B (i : grid4.Coords) : Prop := ¬cond4_0 i ∧ cond4_1 i ∧ ¬cond4_2 i ∧ ¬cond4_3 i
instance conds4_B.dec (i : grid4.Coords) : Decidable (conds4_B i) :=
  @instDecidableAnd _ _ inferInstance (@instDecidableAnd _ _ inferInstance (@instDecidableAnd _ _ inferInstance inferInstance))
abbrev conds4_C (i : grid4.Coords) : Prop := ¬cond4_0 i ∧ ¬cond4_1 i ∧ cond4_2 i ∧ ¬cond4_3 i
instance conds4_C.dec (i : grid4.Coords) : Decidable (conds4_C i) :=
  @instDecidableAnd _ _ inferInstance (@instDecidableAnd _ _ inferInstance (@instDecidableAnd _ _ inferInstance inferInstance))
abbrev conds4_D (i : grid4.Coords) : Prop := ¬cond4_0 i ∧ ¬cond4_1 i ∧ cond4_2 i ∧ cond4_3 i
instance conds4_D.dec (i : grid4.Coords) : Decidable (conds4_D i) :=
  @instDecidableAnd _ _ inferInstance (@instDecidableAnd _ _ inferInstance (@instDecidableAnd _ _ inferInstance inferInstance))
def freshTab4_6 : ℕ → Bool
  | 0 => true
  | n + 1 => (0x8 : ℕ).testBit n
theorem freshTab4_6_step : ∀ t : Fin cfg4.N,
    freshTab4_6 (t.val + 1) = ((cfg4.win 6).flush t || (cfg4.idle 6 (cfg4.grid.coords t) && freshTab4_6 t.val)) := by decide +kernel
theorem fresh4_6_eq (t : Fin cfg4.N) : cfg4.fresh 6 t.val = freshTab4_6 t.val :=
  Pipeline.Cfg.fresh_tab cfg4 6 freshTab4_6 rfl freshTab4_6_step t.val (Nat.le_of_lt t.isLt)
theorem liveAt4_6_A : ∀ t : Fin cfg4.N, cond4_0 (grid4.coords t) → cond4_1 (grid4.coords t) → ¬cond4_2 (grid4.coords t) → ¬cond4_3 (grid4.coords t) → cfg4.idle 6 (grid4.coords t) = false :=
  fun t h0 h1 h2 h3 => (by decide +kernel : ∀ t : Fin cfg4.N, conds4_A (grid4.coords t) → cfg4.idle 6 (grid4.coords t) = false) t ⟨h0, h1, h2, h3⟩
theorem liveAt4_6_B : ∀ t : Fin cfg4.N, ¬cond4_0 (grid4.coords t) → cond4_1 (grid4.coords t) → ¬cond4_2 (grid4.coords t) → ¬cond4_3 (grid4.coords t) → cfg4.idle 6 (grid4.coords t) = false :=
  fun t h0 h1 h2 h3 => (by decide +kernel : ∀ t : Fin cfg4.N, conds4_B (grid4.coords t) → cfg4.idle 6 (grid4.coords t) = false) t ⟨h0, h1, h2, h3⟩
theorem notFresh4_6_B : ∀ t : Fin cfg4.N, ¬cond4_0 (grid4.coords t) → cond4_1 (grid4.coords t) → ¬cond4_2 (grid4.coords t) → ¬cond4_3 (grid4.coords t) → cfg4.fresh 6 t.val = false :=
  fun t h0 h1 h2 h3 => (by intro t; rw [fresh4_6_eq t]; revert t; decide +kernel : ∀ t : Fin cfg4.N, conds4_B (grid4.coords t) → cfg4.fresh 6 t.val = false) t ⟨h0, h1, h2, h3⟩
theorem liveAt4_6_C : ∀ t : Fin cfg4.N, ¬cond4_0 (grid4.coords t) → ¬cond4_1 (grid4.coords t) → cond4_2 (grid4.coords t) → ¬cond4_3 (grid4.coords t) → cfg4.idle 6 (grid4.coords t) = false :=
  fun t h0 h1 h2 h3 => (by decide +kernel : ∀ t : Fin cfg4.N, conds4_C (grid4.coords t) → cfg4.idle 6 (grid4.coords t) = false) t ⟨h0, h1, h2, h3⟩
theorem notFresh4_6_C : ∀ t : Fin cfg4.N, ¬cond4_0 (grid4.coords t) → ¬cond4_1 (grid4.coords t) → cond4_2 (grid4.coords t) → ¬cond4_3 (grid4.coords t) → cfg4.fresh 6 t.val = false :=
  fun t h0 h1 h2 h3 => (by intro t; rw [fresh4_6_eq t]; revert t; decide +kernel : ∀ t : Fin cfg4.N, conds4_C (grid4.coords t) → cfg4.fresh 6 t.val = false) t ⟨h0, h1, h2, h3⟩
theorem liveAt4_6_D : ∀ t : Fin cfg4.N, ¬cond4_0 (grid4.coords t) → ¬cond4_1 (grid4.coords t) → cond4_2 (grid4.coords t) → cond4_3 (grid4.coords t) → cfg4.idle 6 (grid4.coords t) = false :=
  fun t h0 h1 h2 h3 => (by decide +kernel : ∀ t : Fin cfg4.N, conds4_D (grid4.coords t) → cfg4.idle 6 (grid4.coords t) = false) t ⟨h0, h1, h2, h3⟩
theorem notFresh4_6_D : ∀ t : Fin cfg4.N, ¬cond4_0 (grid4.coords t) → ¬cond4_1 (grid4.coords t) → cond4_2 (grid4.coords t) → cond4_3 (grid4.coords t) → cfg4.fresh 6 t.val = false :=
  fun t h0 h1 h2 h3 => (by intro t; rw [fresh4_6_eq t]; revert t; decide +kernel : ∀ t : Fin cfg4.N, conds4_D (grid4.coords t) → cfg4.fresh 6 t.val = false) t ⟨h0, h1, h2, h3⟩

abbrev VO4_6 : View sig .tc .vmem S1024x2048 .f32 := (Memref.whole cc4_stg6_0 : Memref sig .tc .vmem S1024x2048 .f32).view
abbrev ms4_0 (t : Fin cfg4.N) : Memref sig .tc .vmem S1024x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x2048 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2048 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2048 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1024x2048 .f32 := win4_6.stage (cfg4.slots t 6)
abbrev hs4_6 (t : Fin cfg4.N) : (ms4_6 t).IsWhole := hstage4_6 ((cfg4.slots t 6).cast nbuf4_6)
set_option maxHeartbeats 1000000 in
noncomputable def kernelRun4_A (c : Dev nD) (i : grid4.Coords) (arg1 : Memref sig .tc .vmem S1024x1024 .f32) (harg1 : arg1.IsWhole) (arg2 : Memref sig .tc .vmem S1024x1024 .f32) (harg2 : arg2.IsWhole) (arg3 : Memref sig .tc .vmem S1024x2048 .f32) (harg3 : arg3.IsWhole) (arg4 : Memref sig .tc .vmem S2048 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024x2048 .f32) (harg7 : arg7.IsWhole) (hc0 : cond4_0 i) (hc1 : cond4_1 i) (hc2 : ¬cond4_2 i) (hc3 : ¬cond4_3 i)
    (x0 : Vec F S1024x1024 .f32) (x1 : Vec F S1024x1024 .f32) (x2 : Vec F S1024x2048 .f32) (x3 : Vec F S2048 .f32) (x4 : Vec F S2048 .f32) (x5 : Vec F S2048 .f32) :
    { L6 : List (View.Piece (Elt F) S1024x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc4__h_body i arg1 harg1 arg2 harg2 arg3 harg3 arg4 harg4 arg5 harg5 arg6 harg6 arg7 harg7) K } := by
  refine ⟨?_, fun E K => ?run⟩
  case run =>
    simp only [cc4__h_body_eq_skeleton]; unfold cc4__h_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

theorem cover4_A_6 (c : Dev nD) (i : grid4.Coords) (arg1 : Memref sig .tc .vmem S1024x1024 .f32) (harg1 : arg1.IsWhole) (arg2 : Memref sig .tc .vmem S1024x1024 .f32) (harg2 : arg2.IsWhole) (arg3 : Memref sig .tc .vmem S1024x2048 .f32) (harg3 : arg3.IsWhole) (arg4 : Memref sig .tc .vmem S2048 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024x2048 .f32) (harg7 : arg7.IsWhole) (hc0 : cond4_0 i) (hc1 : cond4_1 i) (hc2 : ¬cond4_2 i) (hc3 : ¬cond4_3 i)
    (x0 : Vec F S1024x1024 .f32) (x1 : Vec F S1024x1024 .f32) (x2 : Vec F S1024x2048 .f32) (x3 : Vec F S2048 .f32) (x4 : Vec F S2048 .f32) (x5 : Vec F S2048 .f32) (y : S1024x2048.Idx) :
    ∃ pc ∈ (kernelRun4_A c i arg1 harg1 arg2 harg2 arg3 harg3 arg4 harg4 arg5 harg5 arg6 harg6 arg7 harg7 hc0 hc1 hc2 hc3 x0 x1 x2 x3 x4 x5).1, y ∈ pc.1.set :=
  View.cover_of_tiledL (kernelRun4_A c i arg1 harg1 arg2 harg2 arg3 harg3 arg4 harg4 arg5 harg5 arg6 harg6 arg7 harg7 hc0 hc1 hc2 hc3 x0 x1 x2 x3 x4 x5).1 S1024x2048.size (by sl_kernel_rfl) y

def out4_A_6 (c : Dev nD) (i : grid4.Coords) (arg1 : Memref sig .tc .vmem S1024x1024 .f32) (harg1 : arg1.IsWhole) (arg2 : Memref sig .tc .vmem S1024x1024 .f32) (harg2 : arg2.IsWhole) (arg3 : Memref sig .tc .vmem S1024x2048 .f32) (harg3 : arg3.IsWhole) (arg4 : Memref sig .tc .vmem S2048 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024x2048 .f32) (harg7 : arg7.IsWhole) (hc0 : cond4_0 i) (hc1 : cond4_1 i) (hc2 : ¬cond4_2 i) (hc3 : ¬cond4_3 i)
    (x0 : Vec F S1024x1024 .f32) (x1 : Vec F S1024x1024 .f32) (x2 : Vec F S1024x2048 .f32) (x3 : Vec F S2048 .f32) (x4 : Vec F S2048 .f32) (x5 : Vec F S2048 .f32) : Vec F S1024x2048 .f32 :=
  VO4_6.read (Elt F) (VO4_6.writes (Elt F) VO4_6.junk (kernelRun4_A c i arg1 harg1 arg2 harg2 arg3 harg3 arg4 harg4 arg5 harg5 arg6 harg6 arg7 harg7 hc0 hc1 hc2 hc3 x0 x1 x2 x3 x4 x5).1)
set_option maxHeartbeats 1000000 in
noncomputable def kernelRun4_B (c : Dev nD) (i : grid4.Coords) (arg1 : Memref sig .tc .vmem S1024x1024 .f32) (harg1 : arg1.IsWhole) (arg2 : Memref sig .tc .vmem S1024x1024 .f32) (harg2 : arg2.IsWhole) (arg3 : Memref sig .tc .vmem S1024x2048 .f32) (harg3 : arg3.IsWhole) (arg4 : Memref sig .tc .vmem S2048 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024x2048 .f32) (harg7 : arg7.IsWhole) (hc0 : ¬cond4_0 i) (hc1 : cond4_1 i) (hc2 : ¬cond4_2 i) (hc3 : ¬cond4_3 i)
    (x0 : Vec F S1024x1024 .f32) (x1 : Vec F S1024x1024 .f32) (x2 : Vec F S1024x2048 .f32) (x3 : Vec F S2048 .f32) (x4 : Vec F S2048 .f32) (x5 : Vec F S2048 .f32) (xo6 : Vec F S1024x2048 .f32) :
    { L6 : List (View.Piece (Elt F) S1024x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc4__h_body i arg1 harg1 arg2 harg2 arg3 harg3 arg4 harg4 arg5 harg5 arg6 harg6 arg7 harg7) K } := by
  refine ⟨?_, fun E K => ?run⟩
  case run =>
    simp only [cc4__h_body_eq_skeleton]; unfold cc4__h_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

theorem cover4_B_6 (c : Dev nD) (i : grid4.Coords) (arg1 : Memref sig .tc .vmem S1024x1024 .f32) (harg1 : arg1.IsWhole) (arg2 : Memref sig .tc .vmem S1024x1024 .f32) (harg2 : arg2.IsWhole) (arg3 : Memref sig .tc .vmem S1024x2048 .f32) (harg3 : arg3.IsWhole) (arg4 : Memref sig .tc .vmem S2048 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024x2048 .f32) (harg7 : arg7.IsWhole) (hc0 : ¬cond4_0 i) (hc1 : cond4_1 i) (hc2 : ¬cond4_2 i) (hc3 : ¬cond4_3 i)
    (x0 : Vec F S1024x1024 .f32) (x1 : Vec F S1024x1024 .f32) (x2 : Vec F S1024x2048 .f32) (x3 : Vec F S2048 .f32) (x4 : Vec F S2048 .f32) (x5 : Vec F S2048 .f32) (xo6 : Vec F S1024x2048 .f32) (y : S1024x2048.Idx) :
    ∃ pc ∈ (kernelRun4_B c i arg1 harg1 arg2 harg2 arg3 harg3 arg4 harg4 arg5 harg5 arg6 harg6 arg7 harg7 hc0 hc1 hc2 hc3 x0 x1 x2 x3 x4 x5 xo6).1, y ∈ pc.1.set :=
  View.cover_of_tiledL (kernelRun4_B c i arg1 harg1 arg2 harg2 arg3 harg3 arg4 harg4 arg5 harg5 arg6 harg6 arg7 harg7 hc0 hc1 hc2 hc3 x0 x1 x2 x3 x4 x5 xo6).1 S1024x2048.size (by sl_kernel_rfl) y

def out4_B_6 (c : Dev nD) (i : grid4.Coords) (arg1 : Memref sig .tc .vmem S1024x1024 .f32) (harg1 : arg1.IsWhole) (arg2 : Memref sig .tc .vmem S1024x1024 .f32) (harg2 : arg2.IsWhole) (arg3 : Memref sig .tc .vmem S1024x2048 .f32) (harg3 : arg3.IsWhole) (arg4 : Memref sig .tc .vmem S2048 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024x2048 .f32) (harg7 : arg7.IsWhole) (hc0 : ¬cond4_0 i) (hc1 : cond4_1 i) (hc2 : ¬cond4_2 i) (hc3 : ¬cond4_3 i)
    (x0 : Vec F S1024x1024 .f32) (x1 : Vec F S1024x1024 .f32) (x2 : Vec F S1024x2048 .f32) (x3 : Vec F S2048 .f32) (x4 : Vec F S2048 .f32) (x5 : Vec F S2048 .f32) (xo6 : Vec F S1024x2048 .f32) : Vec F S1024x2048 .f32 :=
  VO4_6.read (Elt F) (VO4_6.writes (Elt F) VO4_6.junk (kernelRun4_B c i arg1 harg1 arg2 harg2 arg3 harg3 arg4 harg4 arg5 harg5 arg6 harg6 arg7 harg7 hc0 hc1 hc2 hc3 x0 x1 x2 x3 x4 x5 xo6).1)
set_option maxHeartbeats 1000000 in
noncomputable def kernelRun4_C (c : Dev nD) (i : grid4.Coords) (arg1 : Memref sig .tc .vmem S1024x1024 .f32) (harg1 : arg1.IsWhole) (arg2 : Memref sig .tc .vmem S1024x1024 .f32) (harg2 : arg2.IsWhole) (arg3 : Memref sig .tc .vmem S1024x2048 .f32) (harg3 : arg3.IsWhole) (arg4 : Memref sig .tc .vmem S2048 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024x2048 .f32) (harg7 : arg7.IsWhole) (hc0 : ¬cond4_0 i) (hc1 : ¬cond4_1 i) (hc2 : cond4_2 i) (hc3 : ¬cond4_3 i)
    (x0 : Vec F S1024x1024 .f32) (x1 : Vec F S1024x1024 .f32) (x2 : Vec F S1024x2048 .f32) (x3 : Vec F S2048 .f32) (x4 : Vec F S2048 .f32) (x5 : Vec F S2048 .f32) (xo6 : Vec F S1024x2048 .f32) :
    { L6 : List (View.Piece (Elt F) S1024x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc4__h_body i arg1 harg1 arg2 harg2 arg3 harg3 arg4 harg4 arg5 harg5 arg6 harg6 arg7 harg7) K } := by
  refine ⟨?_, fun E K => ?run⟩
  case run =>
    simp only [cc4__h_body_eq_skeleton]; unfold cc4__h_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

theorem cover4_C_6 (c : Dev nD) (i : grid4.Coords) (arg1 : Memref sig .tc .vmem S1024x1024 .f32) (harg1 : arg1.IsWhole) (arg2 : Memref sig .tc .vmem S1024x1024 .f32) (harg2 : arg2.IsWhole) (arg3 : Memref sig .tc .vmem S1024x2048 .f32) (harg3 : arg3.IsWhole) (arg4 : Memref sig .tc .vmem S2048 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024x2048 .f32) (harg7 : arg7.IsWhole) (hc0 : ¬cond4_0 i) (hc1 : ¬cond4_1 i) (hc2 : cond4_2 i) (hc3 : ¬cond4_3 i)
    (x0 : Vec F S1024x1024 .f32) (x1 : Vec F S1024x1024 .f32) (x2 : Vec F S1024x2048 .f32) (x3 : Vec F S2048 .f32) (x4 : Vec F S2048 .f32) (x5 : Vec F S2048 .f32) (xo6 : Vec F S1024x2048 .f32) (y : S1024x2048.Idx) :
    ∃ pc ∈ (kernelRun4_C c i arg1 harg1 arg2 harg2 arg3 harg3 arg4 harg4 arg5 harg5 arg6 harg6 arg7 harg7 hc0 hc1 hc2 hc3 x0 x1 x2 x3 x4 x5 xo6).1, y ∈ pc.1.set :=
  View.cover_of_tiledL (kernelRun4_C c i arg1 harg1 arg2 harg2 arg3 harg3 arg4 harg4 arg5 harg5 arg6 harg6 arg7 harg7 hc0 hc1 hc2 hc3 x0 x1 x2 x3 x4 x5 xo6).1 S1024x2048.size (by sl_kernel_rfl) y

def out4_C_6 (c : Dev nD) (i : grid4.Coords) (arg1 : Memref sig .tc .vmem S1024x1024 .f32) (harg1 : arg1.IsWhole) (arg2 : Memref sig .tc .vmem S1024x1024 .f32) (harg2 : arg2.IsWhole) (arg3 : Memref sig .tc .vmem S1024x2048 .f32) (harg3 : arg3.IsWhole) (arg4 : Memref sig .tc .vmem S2048 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024x2048 .f32) (harg7 : arg7.IsWhole) (hc0 : ¬cond4_0 i) (hc1 : ¬cond4_1 i) (hc2 : cond4_2 i) (hc3 : ¬cond4_3 i)
    (x0 : Vec F S1024x1024 .f32) (x1 : Vec F S1024x1024 .f32) (x2 : Vec F S1024x2048 .f32) (x3 : Vec F S2048 .f32) (x4 : Vec F S2048 .f32) (x5 : Vec F S2048 .f32) (xo6 : Vec F S1024x2048 .f32) : Vec F S1024x2048 .f32 :=
  VO4_6.read (Elt F) (VO4_6.writes (Elt F) VO4_6.junk (kernelRun4_C c i arg1 harg1 arg2 harg2 arg3 harg3 arg4 harg4 arg5 harg5 arg6 harg6 arg7 harg7 hc0 hc1 hc2 hc3 x0 x1 x2 x3 x4 x5 xo6).1)
set_option maxHeartbeats 1000000 in
noncomputable def kernelRun4_D (c : Dev nD) (i : grid4.Coords) (arg1 : Memref sig .tc .vmem S1024x1024 .f32) (harg1 : arg1.IsWhole) (arg2 : Memref sig .tc .vmem S1024x1024 .f32) (harg2 : arg2.IsWhole) (arg3 : Memref sig .tc .vmem S1024x2048 .f32) (harg3 : arg3.IsWhole) (arg4 : Memref sig .tc .vmem S2048 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024x2048 .f32) (harg7 : arg7.IsWhole) (hc0 : ¬cond4_0 i) (hc1 : ¬cond4_1 i) (hc2 : cond4_2 i) (hc3 : cond4_3 i)
    (x0 : Vec F S1024x1024 .f32) (x1 : Vec F S1024x1024 .f32) (x2 : Vec F S1024x2048 .f32) (x3 : Vec F S2048 .f32) (x4 : Vec F S2048 .f32) (x5 : Vec F S2048 .f32) (xo6 : Vec F S1024x2048 .f32) :
    { L6 : List (View.Piece (Elt F) S1024x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc4__h_body i arg1 harg1 arg2 harg2 arg3 harg3 arg4 harg4 arg5 harg5 arg6 harg6 arg7 harg7) K } := by
  refine ⟨?_, fun E K => ?run⟩
  case run =>
    simp only [cc4__h_body_eq_skeleton]; unfold cc4__h_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

theorem cover4_D_6 (c : Dev nD) (i : grid4.Coords) (arg1 : Memref sig .tc .vmem S1024x1024 .f32) (harg1 : arg1.IsWhole) (arg2 : Memref sig .tc .vmem S1024x1024 .f32) (harg2 : arg2.IsWhole) (arg3 : Memref sig .tc .vmem S1024x2048 .f32) (harg3 : arg3.IsWhole) (arg4 : Memref sig .tc .vmem S2048 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024x2048 .f32) (harg7 : arg7.IsWhole) (hc0 : ¬cond4_0 i) (hc1 : ¬cond4_1 i) (hc2 : cond4_2 i) (hc3 : cond4_3 i)
    (x0 : Vec F S1024x1024 .f32) (x1 : Vec F S1024x1024 .f32) (x2 : Vec F S1024x2048 .f32) (x3 : Vec F S2048 .f32) (x4 : Vec F S2048 .f32) (x5 : Vec F S2048 .f32) (xo6 : Vec F S1024x2048 .f32) (y : S1024x2048.Idx) :
    ∃ pc ∈ (kernelRun4_D c i arg1 harg1 arg2 harg2 arg3 harg3 arg4 harg4 arg5 harg5 arg6 harg6 arg7 harg7 hc0 hc1 hc2 hc3 x0 x1 x2 x3 x4 x5 xo6).1, y ∈ pc.1.set :=
  View.cover_of_tiledL (kernelRun4_D c i arg1 harg1 arg2 harg2 arg3 harg3 arg4 harg4 arg5 harg5 arg6 harg6 arg7 harg7 hc0 hc1 hc2 hc3 x0 x1 x2 x3 x4 x5 xo6).1 S1024x2048.size (by sl_kernel_rfl) y

def out4_D_6 (c : Dev nD) (i : grid4.Coords) (arg1 : Memref sig .tc .vmem S1024x1024 .f32) (harg1 : arg1.IsWhole) (arg2 : Memref sig .tc .vmem S1024x1024 .f32) (harg2 : arg2.IsWhole) (arg3 : Memref sig .tc .vmem S1024x2048 .f32) (harg3 : arg3.IsWhole) (arg4 : Memref sig .tc .vmem S2048 .f32) (harg4 : arg4.IsWhole) (arg5 : Memref sig .tc .vmem S2048 .f32) (harg5 : arg5.IsWhole) (arg6 : Memref sig .tc .vmem S2048 .f32) (harg6 : arg6.IsWhole) (arg7 : Memref sig .tc .vmem S1024x2048 .f32) (harg7 : arg7.IsWhole) (hc0 : ¬cond4_0 i) (hc1 : ¬cond4_1 i) (hc2 : cond4_2 i) (hc3 : cond4_3 i)
    (x0 : Vec F S1024x1024 .f32) (x1 : Vec F S1024x1024 .f32) (x2 : Vec F S1024x2048 .f32) (x3 : Vec F S2048 .f32) (x4 : Vec F S2048 .f32) (x5 : Vec F S2048 .f32) (xo6 : Vec F S1024x2048 .f32) : Vec F S1024x2048 .f32 :=
  VO4_6.read (Elt F) (VO4_6.writes (Elt F) VO4_6.junk (kernelRun4_D c i arg1 harg1 arg2 harg2 arg3 harg3 arg4 harg4 arg5 harg5 arg6 harg6 arg7 harg7 hc0 hc1 hc2 hc3 x0 x1 x2 x3 x4 x5 xo6).1)

def outsAt4 (c : Dev nD) : (n : ℕ) → n < cfg4.N → Vec F S1024x2048 .f32
  | 0, hn => out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr (Nat.zero_mod _)) ((hcond4_1 ⟨0, hn⟩).mpr (by (try dsimp only); omega)) (fun h => (fun h => by (try dsimp only at h); omega) ((hcond4_2 ⟨0, hn⟩).mp h)) (fun h => (fun h => by (try dsimp only at h); omega) ((hcond4_3 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)
  | n + 1, hn =>
    if h0 : (n + 1) % 4 = 0 then
      if h1 : (n + 1) < 2 then
        if h2 : 2 ≤ (n + 1) then
          False.elim (by have hN : n + 1 < 4 := lt_of_lt_of_eq hn (show cfg4.N = 4 from N_4); omega)
        else
          if h3 : (n + 1) % 4 = 3 then
            False.elim (by have hN : n + 1 < 4 := lt_of_lt_of_eq hn (show cfg4.N = 4 from N_4); omega)
          else
            out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) ((hcond4_0 ⟨n + 1, hn⟩).mpr h0) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)
      else
        False.elim (by have hN : n + 1 < 4 := lt_of_lt_of_eq hn (show cfg4.N = 4 from N_4); omega)
    else
      if h1 : (n + 1) < 2 then
        if h2 : 2 ≤ (n + 1) then
          False.elim (by have hN : n + 1 < 4 := lt_of_lt_of_eq hn (show cfg4.N = 4 from N_4); omega)
        else
          if h3 : (n + 1) % 4 = 3 then
            False.elim (by have hN : n + 1 < 4 := lt_of_lt_of_eq hn (show cfg4.N = 4 from N_4); omega)
          else
            out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4_0 ⟨n + 1, hn⟩).mp h)) ((hcond4_1 ⟨n + 1, hn⟩).mpr h1) (fun h => h2 ((hcond4_2 ⟨n + 1, hn⟩).mp h)) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn))
      else
        if h2 : 2 ≤ (n + 1) then
          if h3 : (n + 1) % 4 = 3 then
            out4_D_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4_0 ⟨n + 1, hn⟩).mp h)) (fun h => h1 ((hcond4_1 ⟨n + 1, hn⟩).mp h)) ((hcond4_2 ⟨n + 1, hn⟩).mpr h2) ((hcond4_3 ⟨n + 1, hn⟩).mpr h3) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn))
          else
            out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4_0 ⟨n + 1, hn⟩).mp h)) (fun h => h1 ((hcond4_1 ⟨n + 1, hn⟩).mp h)) ((hcond4_2 ⟨n + 1, hn⟩).mpr h2) (fun h => h3 ((hcond4_3 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn))
        else
          False.elim (by have hN : n + 1 < 4 := lt_of_lt_of_eq hn (show cfg4.N = 4 from N_4); omega)

theorem outsAt4_A (c : Dev nD) (t : Fin cfg4.N) (h0 : t.val % 4 = 0) (h1 : t.val < 2) (h2 : ¬2 ≤ t.val) (h3 : ¬t.val % 4 = 3) :
    outsAt4 V c t.val t.isLt = out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) := by
  obtain ⟨n, hn⟩ := t
  cases n with
  | zero => exact rfl
  | succ n => exact (dif_pos h0).trans ((dif_pos h1).trans ((dif_neg h2).trans ((dif_neg h3).trans rfl)))

theorem outsAt4_B (c : Dev nD) (t : Fin cfg4.N) (h0 : ¬t.val % 4 = 0) (h1 : t.val < 2) (h2 : ¬2 ≤ t.val) (h3 : ¬t.val % 4 = 3) :
    outsAt4 V c t.val t.isLt = out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

theorem outsAt4_C (c : Dev nD) (t : Fin cfg4.N) (h0 : ¬t.val % 4 = 0) (h1 : ¬t.val < 2) (h2 : 2 ≤ t.val) (h3 : ¬t.val % 4 = 3) :
    outsAt4 V c t.val t.isLt = out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (fun h => h1 ((hcond4_1 t).mp h)) ((hcond4_2 t).mpr h2) (fun h => h3 ((hcond4_3 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

theorem outsAt4_D (c : Dev nD) (t : Fin cfg4.N) (h0 : ¬t.val % 4 = 0) (h1 : ¬t.val < 2) (h2 : 2 ≤ t.val) (h3 : t.val % 4 = 3) :
    outsAt4 V c t.val t.isLt = out4_D_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (fun h => h1 ((hcond4_1 t).mp h)) ((hcond4_2 t).mpr h2) ((hcond4_3 t).mpr h3) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

theorem hcarry4_6 (c : Dev nD) : ∀ (t : Fin cfg4.N) (_ : t.val ≠ 0), cfg4.idle 6 (grid4.coords t) = true → cfg4.fresh 6 t.val = false →
    (dat4 V c).after 6 t = (dat4 V c).after 6 ⟨t.val - 1, by omega⟩ := by
  intro t _ hi _
  have hN : t.val < 4 := lt_of_lt_of_eq t.isLt (show cfg4.N = 4 from N_4)
  rw [after4_6, after4_6]
  by_cases h0 : t.val % 4 = 0
  · by_cases h1 : t.val < 2
    · by_cases h2 : 2 ≤ t.val
      · exfalso; omega
      · by_cases h3 : t.val % 4 = 3
        · exfalso; omega
        · rw [liveAt4_6_A t ((hcond4_0 t).mpr h0) ((hcond4_1 t).mpr h1) (fun h => h2 ((hcond4_2 t).mp h)) (fun h => h3 ((hcond4_3 t).mp h))] at hi
          exact absurd hi Bool.false_ne_true
    · exfalso; omega
  · by_cases h1 : t.val < 2
    · by_cases h2 : 2 ≤ t.val
      · exfalso; omega
      · by_cases h3 : t.val % 4 = 3
        · exfalso; omega
        · rw [liveAt4_6_B t (fun h => h0 ((hcond4_0 t).mp h)) ((hcond4_1 t).mpr h1) (fun h => h2 ((hcond4_2 t).mp h)) (fun h => h3 ((hcond4_3 t).mp h))] at hi
          exact absurd hi Bool.false_ne_true
    · by_cases h2 : 2 ≤ t.val
      · by_cases h3 : t.val % 4 = 3
        · rw [liveAt4_6_D t (fun h => h0 ((hcond4_0 t).mp h)) (fun h => h1 ((hcond4_1 t).mp h)) ((hcond4_2 t).mpr h2) ((hcond4_3 t).mpr h3)] at hi
          exact absurd hi Bool.false_ne_true
        · rw [liveAt4_6_C t (fun h => h0 ((hcond4_0 t).mp h)) (fun h => h1 ((hcond4_1 t).mp h)) ((hcond4_2 t).mpr h2) (fun h => h3 ((hcond4_3 t).mp h))] at hi
          exact absurd hi Bool.false_ne_true
      · exfalso; omega
theorem before4_6_B (c : Dev nD) (t : Fin cfg4.N) (h0 : ¬t.val % 4 = 0) (h1 : t.val < 2) (h2 : ¬2 ≤ t.val) (h3 : ¬t.val % 4 = 3) (d) :
    (dat4 V c).before 6 t d = (outsAt4 V c (t.val - 1) (Nat.lt_of_le_of_lt (Nat.sub_le _ _) t.isLt)) := by
  rw [Dat.before_out_traj _ 6 rfl (fun _ _ => rfl) (hcarry4_6 V c) t.val t rfl d,
    if_neg (by rw [notFresh4_6_B t (fun h => h0 ((hcond4_0 t).mp h)) ((hcond4_1 t).mpr h1) (fun h => h2 ((hcond4_2 t).mp h)) (fun h => h3 ((hcond4_3 t).mp h))]; exact Bool.false_ne_true)]
  dsimp only [dat4]
theorem before4_6_C (c : Dev nD) (t : Fin cfg4.N) (h0 : ¬t.val % 4 = 0) (h1 : ¬t.val < 2) (h2 : 2 ≤ t.val) (h3 : ¬t.val % 4 = 3) (d) :
    (dat4 V c).before 6 t d = (outsAt4 V c (t.val - 1) (Nat.lt_of_le_of_lt (Nat.sub_le _ _) t.isLt)) := by
  rw [Dat.before_out_traj _ 6 rfl (fun _ _ => rfl) (hcarry4_6 V c) t.val t rfl d,
    if_neg (by rw [notFresh4_6_C t (fun h => h0 ((hcond4_0 t).mp h)) (fun h => h1 ((hcond4_1 t).mp h)) ((hcond4_2 t).mpr h2) (fun h => h3 ((hcond4_3 t).mp h))]; exact Bool.false_ne_true)]
  dsimp only [dat4]
theorem before4_6_D (c : Dev nD) (t : Fin cfg4.N) (h0 : ¬t.val % 4 = 0) (h1 : ¬t.val < 2) (h2 : 2 ≤ t.val) (h3 : t.val % 4 = 3) (d) :
    (dat4 V c).before 6 t d = (outsAt4 V c (t.val - 1) (Nat.lt_of_le_of_lt (Nat.sub_le _ _) t.isLt)) := by
  rw [Dat.before_out_traj _ 6 rfl (fun _ _ => rfl) (hcarry4_6 V c) t.val t rfl d,
    if_neg (by rw [notFresh4_6_D t (fun h => h0 ((hcond4_0 t).mp h)) (fun h => h1 ((hcond4_1 t).mp h)) ((hcond4_2 t).mpr h2) ((hcond4_3 t).mpr h3)]; exact Bool.false_ne_true)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 1600000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl]
  have hN : t.val < 4 := lt_of_lt_of_eq t.isLt (show cfg4.N = 4 from N_4)
  by_cases h0 : t.val % 4 = 0
  · by_cases h1 : t.val < 2
    · by_cases h2 : 2 ≤ t.val
      · exfalso; omega
      · by_cases h3 : t.val % 4 = 3
        · exfalso; omega
        · rw [show (dat4 V c).leavesExact 0 t = owns (c : Thread nD τ) (ms4_0 t) fullShare ((dat4 V c).after 0 t) from by
      unfold Dat.leavesExact; rw [liveAt4_0 t], after4_0]
          rw [show (dat4 V c).leavesExact 1 t = owns (c : Thread nD τ) (ms4_1 t) fullShare ((dat4 V c).after 1 t) from by
      unfold Dat.leavesExact; rw [liveAt4_1 t], after4_1]
          rw [show (dat4 V c).leavesExact 2 t = owns (c : Thread nD τ) (ms4_2 t) fullShare ((dat4 V c).after 2 t) from by
      unfold Dat.leavesExact; rw [liveAt4_2 t], after4_2]
          rw [show (dat4 V c).leavesExact 3 t = owns (c : Thread nD τ) (ms4_3 t) fullShare ((dat4 V c).after 3 t) from by
      unfold Dat.leavesExact; rw [liveAt4_3 t], after4_3]
          rw [show (dat4 V c).leavesExact 4 t = owns (c : Thread nD τ) (ms4_4 t) fullShare ((dat4 V c).after 4 t) from by
      unfold Dat.leavesExact; rw [liveAt4_4 t], after4_4]
          rw [show (dat4 V c).leavesExact 5 t = owns (c : Thread nD τ) (ms4_5 t) fullShare ((dat4 V c).after 5 t) from by
      unfold Dat.leavesExact; rw [liveAt4_5 t], after4_5]
          rw [show (dat4 V c).leavesExact 6 t = owns (c : Thread nD τ) (ms4_6 t) fullShare ((dat4 V c).after 6 t) from by
      unfold Dat.leavesExact; rw [liveAt4_6_A t ((hcond4_0 t).mpr h0) ((hcond4_1 t).mpr h1) (fun h => h2 ((hcond4_2 t).mp h)) (fun h => h3 ((hcond4_3 t).mp h))], after4_6]
          rw [outsAt4_A V c t h0 h1 h2 h3]
          unfold out4_A_6
          iintro ⟨HΦ, Ho, ⟨%d0, H0⟩, ⟨%d1, H1⟩, ⟨%d2, H2⟩, ⟨%d3, H3⟩, ⟨%d4, H4⟩, ⟨%d5, H5⟩, ⟨%d6, H6⟩⟩
          iapply ((kernelRun4_A c (grid4.coords t) _ _ _ _ _ _ _ _ _ _ _ _ _ _ ((hcond4_0 t).mpr h0) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t)).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          iintro ⟨H0, H1, H2, H3, H4, H5, ⟨%e6, H6⟩⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover4_A_6 c _ _ _ _ _ _ _ _ _ _ _ _ _ _ _ _ _ _ _ _ _ _ _ _ _)
    · exfalso; omega
  · by_cases h1 : t.val < 2
    · by_cases h2 : 2 ≤ t.val
      · exfalso; omega
      · by_cases h3 : t.val % 4 = 3
        · exfalso; omega
        · rw [show (dat4 V c).leavesExact 0 t = owns (c : Thread nD τ) (ms4_0 t) fullShare ((dat4 V c).after 0 t) from by
      unfold Dat.leavesExact; rw [liveAt4_0 t], after4_0]
          rw [show (dat4 V c).leavesExact 1 t = owns (c : Thread nD τ) (ms4_1 t) fullShare ((dat4 V c).after 1 t) from by
      unfold Dat.leavesExact; rw [liveAt4_1 t], after4_1]
          rw [show (dat4 V c).leavesExact 2 t = owns (c : Thread nD τ) (ms4_2 t) fullShare ((dat4 V c).after 2 t) from by
      unfold Dat.leavesExact; rw [liveAt4_2 t], after4_2]
          rw [show (dat4 V c).leavesExact 3 t = owns (c : Thread nD τ) (ms4_3 t) fullShare ((dat4 V c).after 3 t) from by
      unfold Dat.leavesExact; rw [liveAt4_3 t], after4_3]
          rw [show (dat4 V c).leavesExact 4 t = owns (c : Thread nD τ) (ms4_4 t) fullShare ((dat4 V c).after 4 t) from by
      unfold Dat.leavesExact; rw [liveAt4_4 t], after4_4]
          rw [show (dat4 V c).leavesExact 5 t = owns (c : Thread nD τ) (ms4_5 t) fullShare ((dat4 V c).after 5 t) from by
      unfold Dat.leavesExact; rw [liveAt4_5 t], after4_5]
          rw [show (dat4 V c).leavesExact 6 t = owns (c : Thread nD τ) (ms4_6 t) fullShare ((dat4 V c).after 6 t) from by
      unfold Dat.leavesExact; rw [liveAt4_6_B t (fun h => h0 ((hcond4_0 t).mp h)) ((hcond4_1 t).mpr h1) (fun h => h2 ((hcond4_2 t).mp h)) (fun h => h3 ((hcond4_3 t).mp h))], after4_6]
          rw [outsAt4_B V c t h0 h1 h2 h3]
          simp only [before4_6_B V c t h0 h1 h2 h3]
          unfold out4_B_6
          iintro ⟨HΦ, Ho, ⟨%d0, H0⟩, ⟨%d1, H1⟩, ⟨%d2, H2⟩, ⟨%d3, H3⟩, ⟨%d4, H4⟩, ⟨%d5, H5⟩, ⟨%d6, H6⟩⟩
          iapply ((kernelRun4_B c (grid4.coords t) _ _ _ _ _ _ _ _ _ _ _ _ _ _ (fun h => h0 ((hcond4_0 t).mp h)) ((hcond4_1 t).mpr h1) (fun h => h2 ((hcond4_2 t).mp h)) (fun h => h3 ((hcond4_3 t).mp h)) (iblk4 V c 0 t) (iblk4 V c 1 t) (iblk4 V c 2 t) (iblk4 V c 3 t) (iblk4 V c 4 t) (iblk4 V c 5 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          iintro ⟨H0, H1, H2, H3, H4, H5, ⟨%e6, H6⟩⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover4_B_6 c _ _ _ _ _ _ _ _ _ _ _ _ _ _ _ _ _ _ _ _ _ _ _ _ _ _)
    · by_cases h2 : 2 ≤ t.val
      · by_cases h3 : t.val % 4 = 3
        · rw [show (dat4 V c).leavesExact 0 t = owns (c : Thread nD τ) (ms4_0 t) fullShare ((dat4 V c).after 0 t) from by
      unfold Dat.leavesExact; rw [liveAt4_0 t], after4_0]
          rw [show (dat4 V c).leavesExact 1 t = owns (c : Thread nD τ) (ms4_1 t) fullShare ((dat4 V c).after 1 t) from by
      unfold Dat.leavesExact; rw [liveAt4_1 t], after4_1]
          rw [show (dat4 V c).leavesExact 2 t = owns (c : Thread nD τ) (ms4_2 t) fullShare ((dat4 V c).after 2 t) from by
      unfold Dat.leavesExact; rw [liveAt4_2 t], after4_2]
          rw [show (dat4 V c).leavesExact 3 t = owns (c : Thread nD τ) (ms4_3 t) fullShare ((dat4 V c).after 3 t) from by
      unfold Dat.leavesExact; rw [liveAt4_3 t], after4_3]
          rw [show (dat4 V c).leavesExact 4 t = owns (c : Thread nD τ) (ms4_4 t) fullShare ((dat4 V c).after 4 t) from by
      unfold Dat.leavesExact; rw [liveAt4_4 t], after4_4]
          rw [show (dat4 V c).leavesExact 5 t = owns (c : Thread nD τ) (ms4_5 t) fullShare ((dat4 V c).after 5 t) from by
      unfold Dat.leavesExact; rw [liveAt4_5 t], after4_5]
          rw [show (dat4 V c).leavesExact 6 t = owns (c : Thread nD τ) (ms4_6 t) fullShare ((dat4 V c).after 6 t) from by
      unfold Dat.leavesExact; rw [liveAt4_6_D t (fun h => h0 ((hcond4_0 t).mp h)) (fun h => h1 ((hcond4_1 t).mp h)) ((hcond4_2 t).mpr h2) ((hcond4_3 t).mpr h3)], after4_6]
          rw [outsAt4_D V c t h0 h1 h2 h3]
          simp only [before4_6_D V c t h0 h1 h2 h3]
          unfold out4_D_6
          iintro ⟨HΦ, Ho, ⟨%d0, H0⟩, ⟨%d1, H1⟩, ⟨%d2, H2⟩, ⟨%d3, H3⟩, ⟨%d4, H4⟩, ⟨%d5, H5⟩, ⟨%d6, H6⟩⟩
          iapply ((kernelRun4_D c (grid4.coords t) _ _ _ _ _ _ _ _ _ _ _ _ _ _ (fun h => h0 ((hcond4_0 t).mp h)) (fun h => h1 ((hcond4_1 t).mp h)) ((hcond4_2 t).mpr h2) ((hcond4_3 t).mpr h3) (iblk4 V c 0 t) (iblk4 V c 1 t) (iblk4 V c 2 t) (iblk4 V c 3 t) (iblk4 V c 4 t) (iblk4 V c 5 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          iintro ⟨H0, H1, H2, H3, H4, H5, ⟨%e6, H6⟩⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover4_D_6 c _ _ _ _ _ _ _ _ _ _ _ _ _ _ _ _ _ _ _ _ _ _ _ _ _ _)
        · rw [show (dat4 V c).leavesExact 0 t = owns (c : Thread nD τ) (ms4_0 t) fullShare ((dat4 V c).after 0 t) from by
      unfold Dat.leavesExact; rw [liveAt4_0 t], after4_0]
          rw [show (dat4 V c).leavesExact 1 t = owns (c : Thread nD τ) (ms4_1 t) fullShare ((dat4 V c).after 1 t) from by
      unfold Dat.leavesExact; rw [liveAt4_1 t], after4_1]
          rw [show (dat4 V c).leavesExact 2 t = owns (c : Thread nD τ) (ms4_2 t) fullShare ((dat4 V c).after 2 t) from by
      unfold Dat.leavesExact; rw [liveAt4_2 t], after4_2]
          rw [show (dat4 V c).leavesExact 3 t = owns (c : Thread nD τ) (ms4_3 t) fullShare ((dat4 V c).after 3 t) from by
      unfold Dat.leavesExact; rw [liveAt4_3 t], after4_3]
          rw [show (dat4 V c).leavesExact 4 t = owns (c : Thread nD τ) (ms4_4 t) fullShare ((dat4 V c).after 4 t) from by
      unfold Dat.leavesExact; rw [liveAt4_4 t], after4_4]
          rw [show (dat4 V c).leavesExact 5 t = owns (c : Thread nD τ) (ms4_5 t) fullShare ((dat4 V c).after 5 t) from by
      unfold Dat.leavesExact; rw [liveAt4_5 t], after4_5]
          rw [show (dat4 V c).leavesExact 6 t = owns (c : Thread nD τ) (ms4_6 t) fullShare ((dat4 V c).after 6 t) from by
      unfold Dat.leavesExact; rw [liveAt4_6_C t (fun h => h0 ((hcond4_0 t).mp h)) (fun h => h1 ((hcond4_1 t).mp h)) ((hcond4_2 t).mpr h2) (fun h => h3 ((hcond4_3 t).mp h))], after4_6]
          rw [outsAt4_C V c t h0 h1 h2 h3]
          simp only [before4_6_C V c t h0 h1 h2 h3]
          unfold out4_C_6
          iintro ⟨HΦ, Ho, ⟨%d0, H0⟩, ⟨%d1, H1⟩, ⟨%d2, H2⟩, ⟨%d3, H3⟩, ⟨%d4, H4⟩, ⟨%d5, H5⟩, ⟨%d6, H6⟩⟩
          iapply ((kernelRun4_C c (grid4.coords t) _ _ _ _ _ _ _ _ _ _ _ _ _ _ (fun h => h0 ((hcond4_0 t).mp h)) (fun h => h1 ((hcond4_1 t).mp h)) ((hcond4_2 t).mpr h2) (fun h => h3 ((hcond4_3 t).mp h)) (iblk4 V c 0 t) (iblk4 V c 1 t) (iblk4 V c 2 t) (iblk4 V c 3 t) (iblk4 V c 4 t) (iblk4 V c 5 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          iintro ⟨H0, H1, H2, H3, H4, H5, ⟨%e6, H6⟩⟩
          isplitl [HΦ]; · iexact HΦ
          isplitl [Ho]; · iexact Ho
          isplitl [H0]; · iexact H0
          isplitl [H1]; · iexact H1
          isplitl [H2]; · iexact H2
          isplitl [H3]; · iexact H3
          isplitl [H4]; · iexact H4
          isplitl [H5]; · iexact H5
          unfold owns; iexists _; isplitr
          swap; · iexact H6
          ipureintro; exact View.read_writes_of_cover _ _ _ _ _ (cover4_C_6 c _ _ _ _ _ _ _ _ _ _ _ _ _ _ _ _ _ _ _ _ _ _ _ _ _ _)
      · exfalso; omega

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.Run.Region5.lean ====
/- Region 5: the second projection of the controller. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 0).val) 0#32)) 0#32) = 1#1
theorem hcond5_0 : ∀ t : Fin cfg5.N, cond5_0 (grid5.coords t) ↔ t.val % 2 = 0 :=
  (fun t => by
    have ht : t.val < 2 := Nat.lt_of_lt_of_eq t.isLt N_5
    have e0 : (grid5.coords t 0).val = t.val / 1 % 2 := Pipeline.Grid.coords_val t 0 (by decide) rfl
    simp only [cond5_0, e0]
    word_cmp
   : ∀ t : Fin grid5.N, cond5_0 (grid5.coords t) ↔ t.val % 2 = 0)

abbrev cond5_1 (i : grid5.Coords) : Prop := (Scalar.cmpi .ne (Scalar.extui (Scalar.cmpi .eq (BitVec.ofNat 32 (i 0).val) 1#32)) 0#32) = 1#1
theorem hcond5_1 : ∀ t : Fin cfg5.N, cond5_1 (grid5.coords t) ↔ t.val % 2 = 1 :=
  (fun t => by
    have ht : t.val < 2 := Nat.lt_of_lt_of_eq t.isLt N_5
    have e0 : (grid5.coords t 0).val = t.val / 1 % 2 := Pipeline.Grid.coords_val t 0 (by decide) rfl
    simp only [cond5_1, e0]
    word_cmp
   : ∀ t : Fin grid5.N, cond5_1 (grid5.coords t) ↔ t.val % 2 = 1)

abbrev VO5_3 : View sig .tc .vmem S1024x2048 .f32 := (Memref.whole cc5_stg3_0 : Memref sig .tc .vmem S1024x2048 .f32).view
abbrev ms5_0 (t : Fin cfg5.N) : Memref sig .tc .vmem S1024x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x2048 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x2048 .f32 := win5_3.stage (cfg5.slots t 3)
abbrev hs5_3 (t : Fin cfg5.N) : (ms5_3 t).IsWhole := hstage5_3 ((cfg5.slots t 3).cast nbuf5_3)
set_option maxHeartbeats 1000000 in
noncomputable def kernelRun5_A (c : Dev nD) (i : grid5.Coords) (arg1 : Memref sig .tc .vmem S1024x1024 .f32) (harg1 : arg1.IsWhole) (arg2 : Memref sig .tc .vmem S1024x2048 .f32) (harg2 : arg2.IsWhole) (arg3 : Memref sig .tc .vmem S2048 .f32) (harg3 : arg3.IsWhole) (arg4 : Memref sig .tc .vmem S1024x2048 .f32) (harg4 : arg4.IsWhole) (hc0 : cond5_0 i) (hc1 : ¬cond5_1 i)
    (x0 : Vec F S1024x1024 .f32) (x1 : Vec F S1024x2048 .f32) (x2 : Vec F S2048 .f32) :
    { L3 : List (View.Piece (Elt F) S1024x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc5__o_body i arg1 harg1 arg2 harg2 arg3 harg3 arg4 harg4) K } := by
  refine ⟨?_, fun E K => ?run⟩
  case run =>
    simp only [cc5__o_body_eq_skeleton]; unfold cc5__o_body_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

theorem cover5_A_3 (c : Dev nD) (i : grid5.Coords) (arg1 : Memref sig .tc .vmem S1024x1024 .f32) (harg1 : arg1.IsWhole) (arg2 : Memref sig .tc .vmem S1024x2048 .f32) (harg2 : arg2.IsWhole) (arg3 : Memref sig .tc .vmem S2048 .f32) (harg3 : arg3.IsWhole) (arg4 : Memref sig .tc .vmem S1024x2048 .f32) (harg4 : arg4.IsWhole) (hc0 : cond5_0 i) (hc1 : ¬cond5_1 i)
    (x0 : Vec F S1024x1024 .f32) (x1 : Vec F S1024x2048 .f32) (x2 : Vec F S2048 .f32) (y : S1024x2048.Idx) :
    ∃ pc ∈ (kernelRun5_A c i arg1 harg1 arg2 harg2 arg3 harg3 arg4 harg4 hc0 hc1 x0 x1 x2).1, y ∈ pc.1.set :=
  View.cover_of_tiledL (kernelRun5_A c i arg1 harg1 arg2 harg2 arg3 harg3 arg4 harg4 hc0 hc1 x0 x1 x2).1 S1024x2048.size (by sl_kernel_rfl) y

def out5_A_3 (c : Dev nD) (i : grid5.Coords) (arg1 : Memref sig .tc .vmem S1024x1024 .f32) (harg1 : arg1.IsWhole) (arg2 : Memref sig .tc .vmem S1024x2048 .f32) (harg2 : arg2.IsWhole) (arg3 : Memref sig .tc .vmem S2048 .f32) (harg3 : arg3.IsWhole) (arg4 : Memref sig .tc .vmem S1024x2048 .f32) (harg4 : arg4.IsWhole) (hc0 : cond5_0 i) (hc1 : ¬cond5_1 i)
    (x0 : Vec F S1024x1024 .f32) (x1 : Vec F S1024x2048 .f32) (x2 : Vec F S2048 .f32) : Vec F S1024x2048 .f32 :=
  VO5_3.read (Elt F) (VO5_3.writes (Elt F) VO5_3.junk (kernelRun5_A c i arg1 harg1 arg2 harg2 arg3 harg3 arg4 harg4 hc0 hc1 x0 x1 x2).1)
set_option maxHeartbeats 1000000 in
noncomputable def kernelRun5_B (c : Dev nD) (i : grid5.Coords) (arg1 : Memref sig .tc .vmem S1024x1024 .f32) (harg1 : arg1.IsWhole) (arg2 : Memref sig .tc .vmem S1024x2048 .f32) (harg2 : arg2.IsWhole) (arg3 : Memref sig .tc .vmem S2048 .f32) (harg3 : arg3.IsWhole) (arg4 : Memref sig .tc .vmem S1024x2048 .f32) (harg4 : arg4.IsWhole) (hc0 : ¬cond5_0 i) (hc1 : cond5_1 i)
    (x0 : Vec F S1024x1024 .f32) (x1 : Vec F S1024x2048 .f32) (x2 : Vec F S2048 .f32) (xo3 : Vec F S1024x2048 .f32) :
    { L3 : List (View.Piece (Elt F) S1024x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc5__o_body i arg1 harg1 arg2 harg2 arg3 harg3 arg4 harg4) K } := by
  refine ⟨?_, fun E K => ?run⟩
  case run =>
    simp only [cc5__o_body_eq_skeleton]; unfold cc5__o_body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

theorem cover5_B_3 (c : Dev nD) (i : grid5.Coords) (arg1 : Memref sig .tc .vmem S1024x1024 .f32) (harg1 : arg1.IsWhole) (arg2 : Memref sig .tc .vmem S1024x2048 .f32) (harg2 : arg2.IsWhole) (arg3 : Memref sig .tc .vmem S2048 .f32) (harg3 : arg3.IsWhole) (arg4 : Memref sig .tc .vmem S1024x2048 .f32) (harg4 : arg4.IsWhole) (hc0 : ¬cond5_0 i) (hc1 : cond5_1 i)
    (x0 : Vec F S1024x1024 .f32) (x1 : Vec F S1024x2048 .f32) (x2 : Vec F S2048 .f32) (xo3 : Vec F S1024x2048 .f32) (y : S1024x2048.Idx) :
    ∃ pc ∈ (kernelRun5_B c i arg1 harg1 arg2 harg2 arg3 harg3 arg4 harg4 hc0 hc1 x0 x1 x2 xo3).1, y ∈ pc.1.set :=
  View.cover_of_tiledL (kernelRun5_B c i arg1 harg1 arg2 harg2 arg3 harg3 arg4 harg4 hc0 hc1 x0 x1 x2 xo3).1 S1024x2048.size (by sl_kernel_rfl) y

def out5_B_3 (c : Dev nD) (i : grid5.Coords) (arg1 : Memref sig .tc .vmem S1024x1024 .f32) (harg1 : arg1.IsWhole) (arg2 : Memref sig .tc .vmem S1024x2048 .f32) (harg2 : arg2.IsWhole) (arg3 : Memref sig .tc .vmem S2048 .f32) (harg3 : arg3.IsWhole) (arg4 : Memref sig .tc .vmem S1024x2048 .f32) (harg4 : arg4.IsWhole) (hc0 : ¬cond5_0 i) (hc1 : cond5_1 i)
    (x0 : Vec F S1024x1024 .f32) (x1 : Vec F S1024x2048 .f32) (x2 : Vec F S2048 .f32) (xo3 : Vec F S1024x2048 .f32) : Vec F S1024x2048 .f32 :=
  VO5_3.read (Elt F) (VO5_3.writes (Elt F) VO5_3.junk (kernelRun5_B c i arg1 harg1 arg2 harg2 arg3 harg3 arg4 harg4 hc0 hc1 x0 x1 x2 xo3).1)

def outsAt5 (c : Dev nD) : (n : ℕ) → n < cfg5.N → Vec F S1024x2048 .f32
  | 0, hn => out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩)
  | n + 1, hn =>
    if h0 : (n + 1) % 2 = 0 then
      if h1 : (n + 1) % 2 = 1 then
        False.elim (by have hN : n + 1 < 2 := lt_of_lt_of_eq hn (show cfg5.N = 2 from N_5); omega)
      else
        out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩)
    else
      if h1 : (n + 1) % 2 = 1 then
        out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn))
      else
        False.elim (by have hN : n + 1 < 2 := lt_of_lt_of_eq hn (show cfg5.N = 2 from N_5); omega)

theorem outsAt5_A (c : Dev nD) (t : Fin cfg5.N) (h0 : t.val % 2 = 0) (h1 : ¬t.val % 2 = 1) :
    outsAt5 V c t.val t.isLt = out5_A_3 c (grid5.coords t) (ms5_0 t) (hs5_0 t) (ms5_1 t) (hs5_1 t) (ms5_2 t) (hs5_2 t) (ms5_3 t) (hs5_3 t) ((hcond5_0 t).mpr h0) (fun h => h1 ((hcond5_1 t).mp h)) (iblk5 V c 0 t) (iblk5 V c 1 t) (iblk5 V c 2 t) := by
  obtain ⟨n, hn⟩ := t
  cases n with
  | zero => exact rfl
  | succ n => exact (dif_pos h0).trans ((dif_neg h1).trans rfl)

theorem outsAt5_B (c : Dev nD) (t : Fin cfg5.N) (h0 : ¬t.val % 2 = 0) (h1 : t.val % 2 = 1) :
    outsAt5 V c t.val t.isLt = out5_B_3 c (grid5.coords t) (ms5_0 t) (hs5_0 t) (ms5_1 t) (hs5_1 t) (ms5_2 t) (hs5_2 t) (ms5_3 t) (hs5_3 t) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3_B (c : Dev nD) (t : Fin cfg5.N) (h0 : ¬t.val % 2 = 0) (h1 : t.val % 2 = 1) (d) :
    (dat5 V c).before 3 t d = (outsAt5 V c (t.val - 1) (Nat.lt_of_le_of_lt (Nat.sub_le _ _) t.isLt)) := by
  have hN : t.val < 2 := lt_of_lt_of_eq t.isLt (show cfg5.N = 2 from N_5)
  rw [Dat.before_out_kept _ 3 rfl t (by omega) (Bool.eq_false_iff.mpr fun h => by have := (flush5_3 _).mp h; dsimp only at this; omega)
    (fun _ => rfl) (fun _ _ => rfl)]
  dsimp only [dat5]

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t))

set_option maxHeartbeats 800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  have hN : t.val < 2 := lt_of_lt_of_eq t.isLt (show cfg5.N = 2 from N_5)
  by_cases h0 : t.val % 2 = 0
  · by_cases h1 : t.val % 2 = 1
    · exfalso; omega
    · rw [outsAt5_A V c t h0 h1]
      unfold out5_A_3
      iintro ⟨HΦ, Ho, ⟨%d0, H0⟩, ⟨%d1, H1⟩, ⟨%d2, H2⟩, ⟨%d3, H3⟩⟩
      iapply ((kernelRun5_A c (grid5.coords t) _ _ _ _ _ _ _ _ ((hcond5_0 t).mpr h0) (fun h => h1 ((hcond5_1 t).mp h)) (iblk5 V c 0 t) (iblk5 V c 1 t) (iblk5 V c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_A_3 c _ _ _ _ _ _ _ _ _ _ _ _ _ _)
  · by_cases h1 : t.val % 2 = 1
    · rw [outsAt5_B V c t h0 h1]
      simp only [before5_3_B V c t h0 h1]
      unfold out5_B_3
      iintro ⟨HΦ, Ho, ⟨%d0, H0⟩, ⟨%d1, H1⟩, ⟨%d2, H2⟩, ⟨%d3, H3⟩⟩
      iapply ((kernelRun5_B c (grid5.coords t) _ _ _ _ _ _ _ _ (fun h => h0 ((hcond5_0 t).mp h)) ((hcond5_1 t).mpr h1) (iblk5 V c 0 t) (iblk5 V c 1 t) (iblk5 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_B_3 c _ _ _ _ _ _ _ _ _ _ _ _ _ _ _)
    · exfalso; omega

theorem defs₀_row5 (t : Fin cfg5.N) :
    defs₀ (F := F) .tc cfg5.body (cfg5.bodyArgs t (cfg5.slots t)) = bodyAt5 t := by
  unfold defs₀; rw [Defs.onTc_tc]

theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Gen

end
-- ==== Proof.Run.Region6.lean ====
/- Region 6: the policy heads, one at each grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S1024x128 := Rect.unit (s := S1024x128) ![0, 0] S1024x128.size inb_S1024x128_S1024x128_0_0
abbrev r6_1 : Rect S2x128x64 := Rect.unit (s := S2x128x64) ![0, 0, 0] S1x128x64.size inb_S2x128x64_S1x128x64_0_0_0
abbrev r6_2 : Rect S1x128 := Rect.unit (s := S1x128) ![0, 0] S1x64.size inb_S1x128_S1x64_0_0
abbrev r6_3 : Rect S2x128x64 := Rect.unit (s := S2x128x64) ![1, 0, 0] S1x128x64.size inb_S2x128x64_S1x128x64_1_0_0
abbrev r6_4 : Rect S1x128 := Rect.unit (s := S1x128) ![0, 64] S1x64.size inb_S1x128_S1x64_0_64

def out6_6 (x0 : Vec F S1024x128 .f32) (x1 : Vec F S1024x128 .f32) (x2 : Vec F S2x128x64 .f32) (x3 : Vec F S1x128 .f32) (x4 : Vec F S1x128 .f32) (x5 : Vec F S1x128 .f32) : Vec F S1024x128 .f32 :=
  View.canon [⟨r6_0, k6_pay1 (k6_pay5 (k6_pay4 (View.ld x0 r6_0) (View.ld x1 r6_0) (View.ld x2 r6_1) (View.ld x3 r6_2) (View.ld x4 r6_2)) (View.ld x5 r6_2)) (k6_pay6 (k6_pay2 (View.ld x0 r6_0)) (k6_pay3 (View.ld x1 r6_0)) (View.ld x2 r6_3) (View.ld x3 r6_4) (View.ld x4 r6_4)) (View.ld x5 r6_4)⟩]

theorem cover6_6 (p0 : Vec F S1024x128 .f32) (y : S1024x128.Idx) :
    ∃ pc ∈ ([⟨r6_0, p0⟩] : List (View.Piece (Elt F) S1024x128 .f32)), y ∈ pc.1.set :=
  View.cover_of_tiled [⟨r6_0, p0⟩] S1024x128.size (by rfl) y

set_option maxHeartbeats 1000000 in
theorem sound_kernel6 (c : Dev nD) (E : Set ℕ) (i : grid6.Coords) (arg1 : Memref sig .tc .vmem S1024x128 .f32) (harg1 : arg1.IsWhole) (arg2 : Memref sig .tc .vmem S1024x128 .f32) (harg2 : arg2.IsWhole) (arg3 : Memref sig .tc .vmem S2x128x64 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole)
    (x0 : Vec F S1024x128 .f32) (x1 : Vec F S1024x128 .f32) (x2 : Vec F S2x128x64 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6__head_body i arg1 harg1 arg2 harg2 arg3 harg3 arg4 harg4 arg5 harg5 arg6 harg6 arg7 harg7) K := by
  simp only [cc6__head_body_eq_skeleton]; unfold cc6__head_body_skel
  simp only [k6_part1_eq_skeleton, k6_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ (grid6.coords t) _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row6 (t : Fin cfg6.N) :
    defs₀ (F := F) .tc cfg6.body (cfg6.bodyArgs t (cfg6.slots t)) = bodyAt6 t := by
  unfold defs₀; rw [Defs.onTc_tc]

theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Regions

end Cert.KernelIdeal.Gen

end
-- ==== Proof.Run.Hosts0.lean ====
/- The host operations between the regions: each leaves the arguments as they are. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps6_fresh : (hostOps6 : List (HloOp τ sig (Elt F))).Forall fun op => op.fresh = ∅ := by
  simp only [List.Forall]; repeat' constructor
abbrev hostOps6_W : List (Ref sig .tc) := [main_v8, main_v9, main_v10]
theorem hostOps6_writes : (hostOps6 : List (HloOp τ sig (Elt F))).Forall fun op => op.writes ⊆ (hostOps6_W.map (Proc.devRef (τ := τ) .tc)).toFinset :=
  StableHlo.forall_writes_sub_of_map rfl
theorem hostOps6_args : ∀ a ∈ argRefs, a ∉ hostOps6_W := ListAll.forall_mem_of_all_decide (by decide +kernel)

theorem hostOps7_fresh : (hostOps7 : List (HloOp τ sig (Elt F))).Forall fun op => op.fresh = ∅ := by
  simp only [List.Forall]; repeat' constructor
abbrev hostOps7_W : List (Ref sig .tc) := [main_v12]
theorem hostOps7_writes : (hostOps7 : List (HloOp τ sig (Elt F))).Forall fun op => op.writes ⊆ (hostOps7_W.map (Proc.devRef (τ := τ) .tc)).toFinset :=
  StableHlo.forall_writes_sub_of_map rfl
theorem hostOps7_args : ∀ a ∈ argRefs, a ∉ hostOps7_W := ListAll.forall_mem_of_all_decide (by decide +kernel)

end Cert.KernelIdeal.Gen

end
-- ==== Proof.Run.Fold0.lean ====
/- What the arrays hold between the regions, from the launch to the return. -/
module

public import proofs.«01_k».proof.Proof.Run.Region0
public import proofs.«01_k».proof.Proof.Run.Region1
public import proofs.«01_k».proof.Proof.Run.Region2
public import proofs.«01_k».proof.Proof.Run.Region3
public import proofs.«01_k».proof.Proof.Run.Region4
public import proofs.«01_k».proof.Proof.Run.Region5
public import proofs.«01_k».proof.Proof.Run.Region6
public import proofs.«01_k».proof.Proof.Run.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (V5 m ρ) c).arrAt_in w (h w rfl) _).trans (A_eq4 (V5 m ρ) c w))
  · exact W6_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn4 a ha)).trans (W5_args m ρ c a ha)
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

def W7 (c : Dev nD) : Valuation τ sig (Elt F) :=
  Pipeline.withArrays spec5 c (W6 m ρ c) fun w => (dat5 (V6 m ρ) c).arrAt w cfg5.N
theorem W7_arr (c : Dev nD) (w : Fin cfg5.W) :
    W7 m ρ c (Proc.devRef .tc (Pipeline.arrRef spec5 w)) = (dat5 (V6 m ρ) c).arrAt w cfg5.N := by
  unfold W7; exact Pipeline.withArrays_arr spec5 launch5.win.arr_inj c _ _ w
theorem W7_of_ne (c : Dev nD) (b : Ref sig .tc) (hb : ∀ w, Pipeline.arrRef spec5 w ≠ b) :
    W7 m ρ c (Proc.devRef .tc b) = W6 m ρ c (Proc.devRef .tc b) := by
  unfold W7; exact Pipeline.withArrays_of_ne spec5 c _ _ b hb
theorem W7_of (c : Dev nD) (r : Ref sig .tc) (h : ∀ w : Fin cfg5.W, Pipeline.arrRef spec5 w = r → (cfg5.win w).isOut = false) :
    W7 m ρ c (Proc.devRef .tc r) = W6 m ρ c (Proc.devRef .tc r) := by
  by_cases hw : ∃ w : Fin cfg5.W, Pipeline.arrRef spec5 w = r
  · obtain ⟨w, rfl⟩ := hw
    exact (W7_arr m ρ c w).trans (((dat5 (V6 m ρ) c).arrAt_in w (h w rfl) _).trans (A_eq5 (V6 m ρ) c w))
  · exact W7_of_ne m ρ c r fun w e => hw ⟨w, e⟩
theorem argsIn5 : ∀ a ∈ argRefs, ∀ w : Fin cfg5.W, Pipeline.arrRef spec5 w = a → (cfg5.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn5 a ha)).trans (W6_args m ρ c a ha)
abbrev V7 : (c : Dev nD) → (b : Ref sig .tc) → Buf (Elt F) ((c : Thread nD τ).loc b) := fun c b => W7 m ρ c b
theorem hF5 (c : Dev nD) (w : Fin cfg5.W) : (dat5 (V6 m ρ) c).arrAt w cfg5.N = V7 m ρ c (Pipeline.arrRef spec5 w) :=
  (W7_arr m ρ c w).symm
theorem hrest5 (c : Dev nD) : ∀ b, b ∉ Finset.univ.image (Pipeline.arrRef spec5) → V7 m ρ c b = V6 m ρ c b :=
  fun b hb => W7_of_ne m ρ c b fun w e => hb (Finset.mem_image.mpr ⟨w, Finset.mem_univ _, e⟩)

abbrev W8 : Dev nD → Valuation τ sig (Elt F) := fun c => StableHlo.after hostOps6 (W7 m ρ c)
theorem W8_of (c : Dev nD) (r : Ref sig .tc) (h : r ∉ hostOps6_W) : W8 m ρ c (Proc.devRef .tc r) = W7 m ρ c (Proc.devRef .tc r) :=
  StableHlo.after_of_writes_sub hostOps6 _ hostOps6_writes h
theorem W8_args (c : Dev nD) : ∀ a ∈ argRefs, W8 m ρ c (Proc.devRef .tc a) = m ((c : Thread nD τ).loc a) :=
  fun a ha => (W8_of m ρ c a (hostOps6_args a ha)).trans (W7_args m ρ c a ha)
abbrev V8 : (c : Dev nD) → (b : Ref sig .tc) → Buf (Elt F) ((c : Thread nD τ).loc b) := fun c b => W8 m ρ c b
def W9 (c : Dev nD) : Valuation τ sig (Elt F) :=
  Pipeline.withArrays spec6 c (W8 m ρ c) fun w => (dat6 (V8 m ρ) c).arrAt w cfg6.N
theorem W9_arr (c : Dev nD) (w : Fin cfg6.W) :
    W9 m ρ c (Proc.devRef .tc (Pipeline.arrRef spec6 w)) = (dat6 (V8 m ρ) c).arrAt w cfg6.N := by
  unfold W9; exact Pipeline.withArrays_arr spec6 launch6.win.arr_inj c _ _ w
theorem W9_of_ne (c : Dev nD) (b : Ref sig .tc) (hb : ∀ w, Pipeline.arrRef spec6 w ≠ b) :
    W9 m ρ c (Proc.devRef .tc b) = W8 m ρ c (Proc.devRef .tc b) := by
  unfold W9; exact Pipeline.withArrays_of_ne spec6 c _ _ b hb
theorem W9_of (c : Dev nD) (r : Ref sig .tc) (h : ∀ w : Fin cfg6.W, Pipeline.arrRef spec6 w = r → (cfg6.win w).isOut = false) :
    W9 m ρ c (Proc.devRef .tc r) = W8 m ρ c (Proc.devRef .tc r) := by
  by_cases hw : ∃ w : Fin cfg6.W, Pipeline.arrRef spec6 w = r
  · obtain ⟨w, rfl⟩ := hw
    exact (W9_arr m ρ c w).trans (((dat6 (V8 m ρ) c).arrAt_in w (h w rfl) _).trans (A_eq6 (V8 m ρ) c w))
  · exact W9_of_ne m ρ c r fun w e => hw ⟨w, e⟩
theorem argsIn6 : ∀ a ∈ argRefs, ∀ w : Fin cfg6.W, Pipeline.arrRef spec6 w = a → (cfg6.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn6 a ha)).trans (W8_args m ρ c a ha)
abbrev V9 : (c : Dev nD) → (b : Ref sig .tc) → Buf (Elt F) ((c : Thread nD τ).loc b) := fun c b => W9 m ρ c b
theorem hF6 (c : Dev nD) (w : Fin cfg6.W) : (dat6 (V8 m ρ) c).arrAt w cfg6.N = V9 m ρ c (Pipeline.arrRef spec6 w) :=
  (W9_arr m ρ c w).symm
theorem hrest6 (c : Dev nD) : ∀ b, b ∉ Finset.univ.image (Pipeline.arrRef spec6) → V9 m ρ c b = V8 m ρ c b :=
  fun b hb => W9_of_ne m ρ c b fun w e => hb (Finset.mem_image.mpr ⟨w, Finset.mem_univ _, e⟩)

abbrev W10 : Dev nD → Valuation τ sig (Elt F) := fun c => StableHlo.after hostOps7 (W9 m ρ c)
theorem W10_of (c : Dev nD) (r : Ref sig .tc) (h : r ∉ hostOps7_W) : W10 m ρ c (Proc.devRef .tc r) = W9 m ρ c (Proc.devRef .tc r) :=
  StableHlo.after_of_writes_sub hostOps7 _ hostOps7_writes h
theorem W10_args (c : Dev nD) : ∀ a ∈ argRefs, W10 m ρ c (Proc.devRef .tc a) = m ((c : Thread nD τ).loc a) :=
  fun a ha => (W10_of m ρ c a (hostOps7_args a ha)).trans (W9_args m ρ c a ha)

theorem W10_main_arg0 (c : Dev nD) : W10 m ρ c (Proc.devRef .tc main_arg0) = m ((c : Thread nD τ).loc main_arg0) :=
  W10_args m ρ c main_arg0 (by decide)
theorem W10_main_arg1 (c : Dev nD) : W10 m ρ c (Proc.devRef .tc main_arg1) = m ((c : Thread nD τ).loc main_arg1) :=
  W10_args m ρ c main_arg1 (by decide)
theorem W10_main_arg2 (c : Dev nD) : W10 m ρ c (Proc.devRef .tc main_arg2) = m ((c : Thread nD τ).loc main_arg2) :=
  W10_args m ρ c main_arg2 (by decide)
theorem W10_main_arg3 (c : Dev nD) : W10 m ρ c (Proc.devRef .tc main_arg3) = m ((c : Thread nD τ).loc main_arg3) :=
  W10_args m ρ c main_arg3 (by decide)
theorem W10_main_arg4 (c : Dev nD) : W10 m ρ c (Proc.devRef .tc main_arg4) = m ((c : Thread nD τ).loc main_arg4) :=
  W10_args m ρ c main_arg4 (by decide)
theorem W10_main_arg5 (c : Dev nD) : W10 m ρ c (Proc.devRef .tc main_arg5) = m ((c : Thread nD τ).loc main_arg5) :=
  W10_args m ρ c main_arg5 (by decide)
theorem W10_main_arg6 (c : Dev nD) : W10 m ρ c (Proc.devRef .tc main_arg6) = m ((c : Thread nD τ).loc main_arg6) :=
  W10_args m ρ c main_arg6 (by decide)
theorem W10_main_arg7 (c : Dev nD) : W10 m ρ c (Proc.devRef .tc main_arg7) = m ((c : Thread nD τ).loc main_arg7) :=
  W10_args m ρ c main_arg7 (by decide)
theorem W10_main_arg8 (c : Dev nD) : W10 m ρ c (Proc.devRef .tc main_arg8) = m ((c : Thread nD τ).loc main_arg8) :=
  W10_args m ρ c main_arg8 (by decide)
theorem W10_main_arg9 (c : Dev nD) : W10 m ρ c (Proc.devRef .tc main_arg9) = m ((c : Thread nD τ).loc main_arg9) :=
  W10_args m ρ c main_arg9 (by decide)
theorem W10_main_arg10 (c : Dev nD) : W10 m ρ c (Proc.devRef .tc main_arg10) = m ((c : Thread nD τ).loc main_arg10) :=
  W10_args m ρ c main_arg10 (by decide)
theorem W10_main_arg11 (c : Dev nD) : W10 m ρ c (Proc.devRef .tc main_arg11) = m ((c : Thread nD τ).loc main_arg11) :=
  W10_args m ρ c main_arg11 (by decide)
theorem W10_main_arg12 (c : Dev nD) : W10 m ρ c (Proc.devRef .tc main_arg12) = m ((c : Thread nD τ).loc main_arg12) :=
  W10_args m ρ c main_arg12 (by decide)
theorem W10_main_arg13 (c : Dev nD) : W10 m ρ c (Proc.devRef .tc main_arg13) = m ((c : Thread nD τ).loc main_arg13) :=
  W10_args m ρ c main_arg13 (by decide)
theorem W10_main_arg14 (c : Dev nD) : W10 m ρ c (Proc.devRef .tc main_arg14) = m ((c : Thread nD τ).loc main_arg14) :=
  W10_args m ρ c main_arg14 (by decide)
theorem W10_main_arg15 (c : Dev nD) : W10 m ρ c (Proc.devRef .tc main_arg15) = m ((c : Thread nD τ).loc main_arg15) :=
  W10_args m ρ c main_arg15 (by decide)
end Cert.KernelIdeal.Gen

end
-- ==== Proof.Run.State.lean ====
/- The state handed from one region to the next. -/
module

public import proofs.«01_k».proof.Proof.Run.Fold0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev adm : (p : Fin 7) → (pcfgs (F := F) p).Adm := fun p => (cfgs p).toPCfg_adm
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
  | ⟨6, _⟩ => fun c => dat6 (V8 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

end Cert.KernelIdeal.Gen

end
-- ==== Proof.Run.Record0.lean ====
/- Region 0 as one segment of the whole run. -/
module

public import proofs.«01_k».proof.Proof.Run.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.Record1.lean ====
/- Region 1 as one segment of the whole run. -/
module

public import proofs.«01_k».proof.Proof.Run.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.Record2.lean ====
/- Region 2 as one segment of the whole run. -/
module

public import proofs.«01_k».proof.Proof.Run.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.Record3.lean ====
/- Region 3 as one segment of the whole run. -/
module

public import proofs.«01_k».proof.Proof.Run.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.Record4.lean ====
/- Region 4 as one segment of the whole run. -/
module

public import proofs.«01_k».proof.Proof.Run.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (A_eq4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.Record5.lean ====
/- Region 5 as one segment of the whole run. -/
module

public import proofs.«01_k».proof.Proof.Run.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V6 m ρ) c).loose
  hwaits := Pipeline.hwaits_of_owed_zero _ _ _ _ L lv 5 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec5 c (V6 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V6 m ρ c) (A_eq5 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V6 m ρ c) (V7 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.Record6.lean ====
/- Region 6 as one segment of the whole run. -/
module

public import proofs.«01_k».proof.Proof.Run.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V8 m ρ) c).loose
  hwaits := Pipeline.hwaits_of_owed_zero _ _ _ _ L lv 6 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec6 c (V8 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V8 m ρ c) (A_eq6 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V8 m ρ c) (V9 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.Whole.lean ====
/- The whole run of the idealized kernel: from any launch it ends with the arguments unchanged, every semaphore at zero, and each result array holding what the chain of regions leaves there. -/
module

public import proofs.«01_k».proof.Proof.Run.Record0
public import proofs.«01_k».proof.Proof.Run.Record1
public import proofs.«01_k».proof.Proof.Run.Record2
public import proofs.«01_k».proof.Proof.Run.Record3
public import proofs.«01_k».proof.Proof.Run.Record4
public import proofs.«01_k».proof.Proof.Run.Record5
public import proofs.«01_k».proof.Proof.Run.Record6

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .region (reg5 m ρ),
    .host (hseg hostOps6 hostOps6_sub hostOps6_fresh (W7 m ρ)),
    .region (reg6 m ρ),
    .host (hseg hostOps7 hostOps7_sub hostOps7_fresh (W9 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
theorem run_whole : θ_run defs (onTc (τ := τ) (main (F := F))) ⟨m, fun _ => 0, ρ⟩ (fun r =>
      (∀ c : Dev nD, ∀ b ∈ Pipeline.ucRefs τ sig, r.2.mem (((c : Thread nD τ)).1, b) = W10 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

/-- A reference that no region scopes holds, at the end of a run, what the chain of regions leaves there. -/
theorem at_end {μ : MemSt nD τ sig (Elt F)} (h : ∀ c : Dev nD, ∀ b ∈ Pipeline.ucRefs τ sig, μ.mem (((c : Thread nD τ)).1, b) = W10 m ρ c b)
    (c : Dev nD) (b : Ref sig .tc) (hb : ¬ (Proc.devRef .tc b : DevRef τ sig).isScoped) :
    μ.mem ((c.tc : Thread nD τ).loc b) = W10 m ρ c (Proc.devRef .tc b) := h c _ (mem_uc b hb)

end Cert.KernelIdeal.Gen

end
-- ==== Proof.Frames.lean ====
/- The frame of the idealized kernel at any float instance, and through it the frame of the kernel on bit patterns: the two
   programs are the same text but for three literals, which the idealized one takes by name. -/
module

public import proofs.«01_k».proof.Defs
public import proofs.«01_k».proof.Proof.Gen.Kernel
public import proofs.«01_k».proof.Proof.Run.Whole
public import Idealize.ShloMosaic.Lib.Tactic
public import Idealize.ShloMosaic.Lib.Ring

@[expose] public section

set_option maxRecDepth 16384

noncomputable section

namespace Cert.KernelIdeal.Gen

open Idealize.ShloMosaic Idealize.ShloMosaic.TcCoe Idealize.SL.Sem Idealize.ShloMosaic.Tactic

/-- The kernel's arguments as they were. -/
abbrev Unchanged {F : FTy → Type} [FloatOps F] (m : (ℓ : Loc nD τ sig) → Buf (Elt F) ℓ) (μ : MemSt nD τ sig (Elt F)) : Prop :=
  ∀ c : Dev nD, μ.mem ((c.tc : Thread nD τ).loc main_arg0) = m ((c.tc : Thread nD τ).loc main_arg0) ∧ μ.mem ((c.tc : Thread nD τ).loc main_arg1) = m ((c.tc : Thread nD τ).loc main_arg1) ∧ μ.mem ((c.tc : Thread nD τ).loc main_arg2) = m ((c.tc : Thread nD τ).loc main_arg2) ∧ μ.mem ((c.tc : Thread nD τ).loc main_arg3) = m ((c.tc : Thread nD τ).loc main_arg3) ∧ μ.mem ((c.tc : Thread nD τ).loc main_arg4) = m ((c.tc : Thread nD τ).loc main_arg4) ∧ μ.mem ((c.tc : Thread nD τ).loc main_arg5) = m ((c.tc : Thread nD τ).loc main_arg5) ∧ μ.mem ((c.tc : Thread nD τ).loc main_arg6) = m ((c.tc : Thread nD τ).loc main_arg6) ∧ μ.mem ((c.tc : Thread nD τ).loc main_arg7) = m ((c.tc : Thread nD τ).loc main_arg7) ∧ μ.mem ((c.tc : Thread nD τ).loc main_arg8) = m ((c.tc : Thread nD τ).loc main_arg8) ∧ μ.mem ((c.tc : Thread nD τ).loc main_arg9) = m ((c.tc : Thread nD τ).loc main_arg9) ∧ μ.mem ((c.tc : Thread nD τ).loc main_arg10) = m ((c.tc : Thread nD τ).loc main_arg10) ∧ μ.mem ((c.tc : Thread nD τ).loc main_arg11) = m ((c.tc : Thread nD τ).loc main_arg11) ∧ μ.mem ((c.tc : Thread nD τ).loc main_arg12) = m ((c.tc : Thread nD τ).loc main_arg12) ∧ μ.mem ((c.tc : Thread nD τ).loc main_arg13) = m ((c.tc : Thread nD τ).loc main_arg13) ∧ μ.mem ((c.tc : Thread nD τ).loc main_arg14) = m ((c.tc : Thread nD τ).loc main_arg14) ∧ μ.mem ((c.tc : Thread nD τ).loc main_arg15) = m ((c.tc : Thread nD τ).loc main_arg15)

variable {F : FTy → Type} [FloatOps F] [Named F]

/-- A run that ends as the whole run does leaves the arguments unchanged. -/
theorem unchanged (m : (ℓ : Loc nD τ sig) → Buf (Elt F) ℓ) (ρ : Dev nD → PrngReg) {μ : MemSt nD τ sig (Elt F)}
    (h : ∀ c : Dev nD, ∀ b ∈ Pipeline.ucRefs τ sig, μ.mem (((c : Thread nD τ)).1, b) = W10 m ρ c b) : Unchanged m μ := fun c =>
  ⟨(at_end m ρ h c main_arg0 (by decide)).trans (W10_args m ρ c main_arg0 (by decide)), (at_end m ρ h c main_arg1 (by decide)).trans (W10_args m ρ c main_arg1 (by decide)), (at_end m ρ h c main_arg2 (by decide)).trans (W10_args m ρ c main_arg2 (by decide)), (at_end m ρ h c main_arg3 (by decide)).trans (W10_args m ρ c main_arg3 (by decide)), (at_end m ρ h c main_arg4 (by decide)).trans (W10_args m ρ c main_arg4 (by decide)), (at_end m ρ h c main_arg5 (by decide)).trans (W10_args m ρ c main_arg5 (by decide)), (at_end m ρ h c main_arg6 (by decide)).trans (W10_args m ρ c main_arg6 (by decide)), (at_end m ρ h c main_arg7 (by decide)).trans (W10_args m ρ c main_arg7 (by decide)), (at_end m ρ h c main_arg8 (by decide)).trans (W10_args m ρ c main_arg8 (by decide)), (at_end m ρ h c main_arg9 (by decide)).trans (W10_args m ρ c main_arg9 (by decide)), (at_end m ρ h c main_arg10 (by decide)).trans (W10_args m ρ c main_arg10 (by decide)), (at_end m ρ h c main_arg11 (by decide)).trans (W10_args m ρ c main_arg11 (by decide)), (at_end m ρ h c main_arg12 (by decide)).trans (W10_args m ρ c main_arg12 (by decide)), (at_end m ρ h c main_arg13 (by decide)).trans (W10_args m ρ c main_arg13 (by decide)), (at_end m ρ h c main_arg14 (by decide)).trans (W10_args m ρ c main_arg14 (by decide)), (at_end m ρ h c main_arg15 (by decide)).trans (W10_args m ρ c main_arg15 (by decide))⟩

/-- The frame: every run ends, with the arguments unchanged and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => Unchanged m r.2 ∧ r.2.sem = fun _ => 0) :=
  (θ_run defs _ _).mono (fun _ h => ⟨unchanged m ρ h.1, h.2⟩) (run_whole m ρ)

end Cert.KernelIdeal.Gen

namespace Cert.Proof

open Idealize.ShloMosaic Idealize.ShloMosaic.TcCoe Idealize.SL.Sem Idealize.ShloMosaic.Tactic

/-- On bit patterns a named constant is the float word it names. -/
@[reducible] def bitsNamed : Named Bits := ⟨fun _ _ {φ} b => Scalar.ofBits φ b⟩

attribute [local instance] bitsNamed
attribute [local instance] Cert.Kernel.Gen.facts Cert.KernelIdeal.Gen.facts

/-- With that reading of the names, the kernel's frame claim is the idealized text's on bit patterns. -/
theorem kernel_frame_eq : Cert.quiescent_Kernel (hKernel := Cert.Kernel.Gen.facts)
    = (∀ (m : (ℓ : Loc Cert.KernelIdeal.nD Cert.KernelIdeal.τ Cert.KernelIdeal.sig) → Buf (Elt Bits) ℓ) (g : Dev Cert.KernelIdeal.nD → PrngReg),
        Cert.Pre_Kernel m →
        θ_run (Cert.KernelIdeal.defs (F := Bits)) (onTc (τ := Cert.KernelIdeal.τ) (Cert.KernelIdeal.main (F := Bits))) ⟨m, fun _ => 0, g⟩
          (fun r => Cert.KernelIdeal.Gen.Unchanged m r.2 ∧ r.2.sem = fun _ => 0)) := by
  sl_kernel_rfl

theorem frame_Kernel : Cert.quiescent_Kernel (hKernel := Cert.Kernel.Gen.facts) := by
  rw [kernel_frame_eq]
  exact fun m g _ => Cert.KernelIdeal.Gen.frame m g

theorem frame_KernelIdeal : Cert.quiescent_KernelIdeal (hKernelIdeal := Cert.KernelIdeal.Gen.facts) :=
  fun m g _ => Cert.KernelIdeal.Gen.frame m g

end Cert.Proof

end
-- ==== Proof.Ref.Ops.lean ====
/- The reference's operations, in the order they run, cut into short stages; and its run: it ends with every array holding
   what the operations, one after another, leave there. -/
module

public import proofs.«01_k».proof.Proof.Gen.ReferenceIdeal
public import Idealize.ShloMosaic.Lib.StableHlo.Run
public import Idealize.ShloMosaic.Lib.Pipeline.Frame

@[expose] public section

set_option maxRecDepth 8192
set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The two retrievals side by side. -/
def fn_main_v43 : (⟨S1024x2048, .f32⟩ : BufTy).Contents (Elt F) → (⟨S1024x2048, .f32⟩ : BufTy).Contents (Elt F) → (⟨S1024x4096, .f32⟩ : BufTy).Contents (Elt F) :=
  (fun a b => concatenate S1024x4096 1 [⟨S1024x2048, a⟩, ⟨S1024x2048, b⟩] concatenates_S1024x2048_S1024x2048_S1024x4096_d1)

/-- State and retrieved controls side by side. -/
def fn_main_v86 : (⟨S1024x32x64, .f32⟩ : BufTy).Contents (Elt F) → (⟨S1024x32x64, .f32⟩ : BufTy).Contents (Elt F) → (⟨S1024x32x128, .f32⟩ : BufTy).Contents (Elt F) :=
  (fun a b => concatenate S1024x32x128 2 [⟨S1024x32x64, a⟩, ⟨S1024x32x64, b⟩] concatenates_S1024x32x64_S1024x32x64_S1024x32x128_d2)
/-- Stage 0, up to `main_v7`. -/
abbrev st0 : List (HloOp τ sig (Elt F)) :=
  [ nullary main_cst (constant S_ .f32 0x00000000#32),
    binary main_arg0 main_cst main_v0 ((fun x v => Host.reduceAdd x v reducesTo_S1024x32x64_S1024x64_d1 h_S_) : (⟨S1024x32x64, .f32⟩ : BufTy).Contents (Elt F) → (⟨S_, .f32⟩ : BufTy).Contents (Elt F) → (⟨S1024x64, .f32⟩ : BufTy).Contents (Elt F)),
    nullary main_cst_0 (constant S_ .f32 0x42000000#32),
    unary main_cst_0 main_v1 (broadcastInDim S1024x64 ![] bcast_S_S1024x64 : (⟨S_, .f32⟩ : BufTy).Contents (Elt F) → (⟨S1024x64, .f32⟩ : BufTy).Contents (Elt F)),
    binary main_v0 main_v1 main_v2 (Host.divf : (⟨S1024x64, .f32⟩ : BufTy).Contents (Elt F) → (⟨S1024x64, .f32⟩ : BufTy).Contents (Elt F) → (⟨S1024x64, .f32⟩ : BufTy).Contents (Elt F)),
    unary main_arg12 main_v3 ((transpose S64x4096 [1, 0] · transposes_S4096x64_S64x4096_1_0) : (⟨S4096x64, .f32⟩ : BufTy).Contents (Elt F) → (⟨S64x4096, .f32⟩ : BufTy).Contents (Elt F)),
    binary main_v2 main_v3 main_v4 ((fun l r => Host.dotGeneral dot_S1024x64_S64x4096_S1024x4096_1_0_0_1_n_n none l r) : (⟨S1024x64, .f32⟩ : BufTy).Contents (Elt F) → (⟨S64x4096, .f32⟩ : BufTy).Contents (Elt F) → (⟨S1024x4096, .f32⟩ : BufTy).Contents (Elt F)),
    nullary main_cst_1 (constant S_ .f32 0x42800000#32),
    unary main_cst_1 main_v5 (Host.sqrt : (⟨S_, .f32⟩ : BufTy).Contents (Elt F) → (⟨S_, .f32⟩ : BufTy).Contents (Elt F)),
    unary main_v5 main_v6 (broadcastInDim S1024x4096 ![] bcast_S_S1024x4096 : (⟨S_, .f32⟩ : BufTy).Contents (Elt F) → (⟨S1024x4096, .f32⟩ : BufTy).Contents (Elt F)),
    binary main_v4 main_v6 main_v7 (Host.divf : (⟨S1024x4096, .f32⟩ : BufTy).Contents (Elt F) → (⟨S1024x4096, .f32⟩ : BufTy).Contents (Elt F) → (⟨S1024x4096, .f32⟩ : BufTy).Contents (Elt F)) ]
/-- The references stage 0 writes. -/
abbrev wr0 : List (Ref sig .tc) := [main_cst, main_v0, main_cst_0, main_v1, main_v2, main_v3, main_v4, main_cst_1, main_v5, main_v6, main_v7]
theorem st0_writes : (st0 : List (HloOp τ sig (Elt F))).map HloOp.writes = wr0.map fun r => {Proc.devRef (τ := τ) .tc r} := rfl
theorem st0_sub : (st0 : List (HloOp τ sig (Elt F))).Forall fun op => op.bufs ⊆ tcRefs τ sig :=
  ⟨nullary_bufs_sub .., binary_bufs_sub .., nullary_bufs_sub .., unary_bufs_sub .., binary_bufs_sub .., unary_bufs_sub .., binary_bufs_sub .., nullary_bufs_sub .., unary_bufs_sub .., unary_bufs_sub .., binary_bufs_sub ..⟩
theorem st0_fresh : (st0 : List (HloOp τ sig (Elt F))).Forall fun op => op.fresh = ∅ := forall_fresh_of_map rfl

/-- Stage 1, up to `main_v18`. -/
abbrev st1 : List (HloOp τ sig (Elt F)) :=
  [ nullary main_cst_2 (constant S_ .f32 0xFF800000#32),
    binary main_v7 main_cst_2 main_v8 ((fun x v => Host.reduce FloatOps.maximumf x v reducesTo_S1024x4096_S1024_d1 h_S_) : (⟨S1024x4096, .f32⟩ : BufTy).Contents (Elt F) → (⟨S_, .f32⟩ : BufTy).Contents (Elt F) → (⟨S1024, .f32⟩ : BufTy).Contents (Elt F)),
    nullary main_cst_3 (constant S_ .f32 0xFF800000#32),
    unary main_cst_3 main_v9 (broadcastInDim S1024 ![] bcast_S_S1024 : (⟨S_, .f32⟩ : BufTy).Contents (Elt F) → (⟨S1024, .f32⟩ : BufTy).Contents (Elt F)),
    binary main_v9 main_v8 main_v10 (maximumf : (⟨S1024, .f32⟩ : BufTy).Contents (Elt F) → (⟨S1024, .f32⟩ : BufTy).Contents (Elt F) → (⟨S1024, .f32⟩ : BufTy).Contents (Elt F)),
    unary main_v10 main_v11 (broadcastInDim S1024x1 ![0] bcast_S1024_S1024x1_0 : (⟨S1024, .f32⟩ : BufTy).Contents (Elt F) → (⟨S1024x1, .f32⟩ : BufTy).Contents (Elt F)),
    unary main_v11 main_v12 (broadcastInDim S1024x4096 ![0, 1] bcast_S1024x1_S1024x4096_0_1 : (⟨S1024x1, .f32⟩ : BufTy).Contents (Elt F) → (⟨S1024x4096, .f32⟩ : BufTy).Contents (Elt F)),
    binary main_v7 main_v12 main_v13 (subf : (⟨S1024x4096, .f32⟩ : BufTy).Contents (Elt F) → (⟨S1024x4096, .f32⟩ : BufTy).Contents (Elt F) → (⟨S1024x4096, .f32⟩ : BufTy).Contents (Elt F)),
    unary main_v13 main_v14 (Host.exp : (⟨S1024x4096, .f32⟩ : BufTy).Contents (Elt F) → (⟨S1024x4096, .f32⟩ : BufTy).Contents (Elt F)),
    nullary main_cst_4 (constant S_ .f32 0x00000000#32),
    binary main_v14 main_cst_4 main_v15 ((fun x v => Host.reduceAdd x v reducesTo_S1024x4096_S1024_d1 h_S_) : (⟨S1024x4096, .f32⟩ : BufTy).Contents (Elt F) → (⟨S_, .f32⟩ : BufTy).Contents (Elt F) → (⟨S1024, .f32⟩ : BufTy).Contents (Elt F)),
    unary main_v15 main_v16 (broadcastInDim S1024x1 ![0] bcast_S1024_S1024x1_0 : (⟨S1024, .f32⟩ : BufTy).Contents (Elt F) → (⟨S1024x1, .f32⟩ : BufTy).Contents (Elt F)),
    unary main_v16 main_v17 (broadcastInDim S1024x4096 ![0, 1] bcast_S1024x1_S1024x4096_0_1 : (⟨S1024x1, .f32⟩ : BufTy).Contents (Elt F) → (⟨S1024x4096, .f32⟩ : BufTy).Contents (Elt F)),
    binary main_v14 main_v17 main_v18 (Host.divf : (⟨S1024x4096, .f32⟩ : BufTy).Contents (Elt F) → (⟨S1024x4096, .f32⟩ : BufTy).Contents (Elt F) → (⟨S1024x4096, .f32⟩ : BufTy).Contents (Elt F)) ]
/-- The references stage 1 writes. -/
abbrev wr1 : List (Ref sig .tc) := [main_cst_2, main_v8, main_cst_3, main_v9, main_v10, main_v11, main_v12, main_v13, main_v14, main_cst_4, main_v15, main_v16, main_v17, main_v18]
theorem st1_writes : (st1 : List (HloOp τ sig (Elt F))).map HloOp.writes = wr1.map fun r => {Proc.devRef (τ := τ) .tc r} := rfl
theorem st1_sub : (st1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem st1_fresh : (st1 : List (HloOp τ sig (Elt F))).Forall fun op => op.fresh = ∅ := forall_fresh_of_map rfl

/-- Stage 2, up to `main_v22`. -/
abbrev st2 : List (HloOp τ sig (Elt F)) :=
  [ binary main_v18 main_arg13 main_v19 ((fun l r => Host.dotGeneral dot_S1024x4096_S4096x2048_S1024x2048_1_0_0_1_n_n none l r) : (⟨S1024x4096, .f32⟩ : BufTy).Contents (Elt F) → (⟨S4096x2048, .f32⟩ : BufTy).Contents (Elt F) → (⟨S1024x2048, .f32⟩ : BufTy).Contents (Elt F)),
    nullary main_cst_5 (constant S_ .f32 0xFF800000#32),
    binary main_v18 main_cst_5 main_v20 ((fun x v => Host.reduce FloatOps.maximumf x v reducesTo_S1024x4096_S1024_d1 h_S_) : (⟨S1024x4096, .f32⟩ : BufTy).Contents (Elt F) → (⟨S_, .f32⟩ : BufTy).Contents (Elt F) → (⟨S1024, .f32⟩ : BufTy).Contents (Elt F)),
    nullary main_cst_6 (constant S_ .f32 0x3F800000#32),
    unary main_cst_6 main_v21 (broadcastInDim S1024 ![] bcast_S_S1024 : (⟨S_, .f32⟩ : BufTy).Contents (Elt F) → (⟨S1024, .f32⟩ : BufTy).Contents (Elt F)),
    binary main_v21 main_v20 main_v22 (subf : (⟨S1024, .f32⟩ : BufTy).Contents (Elt F) → (⟨S1024, .f32⟩ : BufTy).Contents (Elt F) → (⟨S1024, .f32⟩ : BufTy).Contents (Elt F)) ]
/-- The references stage 2 writes. -/
abbrev wr2 : List (Ref sig .tc) := [main_v19, main_cst_5, main_v20, main_cst_6, main_v21, main_v22]
theorem st2_writes : (st2 : List (HloOp τ sig (Elt F))).map HloOp.writes = wr2.map fun r => {Proc.devRef (τ := τ) .tc r} := rfl
theorem st2_sub : (st2 : List (HloOp τ sig (Elt F))).Forall fun op => op.bufs ⊆ tcRefs τ sig :=
  ⟨binary_bufs_sub .., nullary_bufs_sub .., binary_bufs_sub .., nullary_bufs_sub .., unary_bufs_sub .., binary_bufs_sub ..⟩
theorem st2_fresh : (st2 : List (HloOp τ sig (Elt F))).Forall fun op => op.fresh = ∅ := forall_fresh_of_map rfl

/-- Stage 3, up to `main_v27`. -/
abbrev st3 : List (HloOp τ sig (Elt F)) :=
  [ unary main_arg14 main_v23 ((transpose S128x4096 [1, 0] · transposes_S4096x128_S128x4096_1_0) : (⟨S4096x128, .f32⟩ : BufTy).Contents (Elt F) → (⟨S128x4096, .f32⟩ : BufTy).Contents (Elt F)),
    binary main_arg1 main_v23 main_v24 ((fun l r => Host.dotGeneral dot_S1024x128_S128x4096_S1024x4096_1_0_0_1_n_n none l r) : (⟨S1024x128, .f32⟩ : BufTy).Contents (Elt F) → (⟨S128x4096, .f32⟩ : BufTy).Contents (Elt F) → (⟨S1024x4096, .f32⟩ : BufTy).Contents (Elt F)),
    nullary main_cst_7 (constant S_ .f32 0x43000000#32),
    unary main_cst_7 main_v25 (Host.sqrt : (⟨S_, .f32⟩ : BufTy).Contents (Elt F) → (⟨S_, .f32⟩ : BufTy).Contents (Elt F)),
    unary main_v25 main_v26 (broadcastInDim S1024x4096 ![] bcast_S_S1024x4096 : (⟨S_, .f32⟩ : BufTy).Contents (Elt F) → (⟨S1024x4096, .f32⟩ : BufTy).Contents (Elt F)),
    binary main_v24 main_v26 main_v27 (Host.divf : (⟨S1024x4096, .f32⟩ : BufTy).Contents (Elt F) → (⟨S1024x4096, .f32⟩ : BufTy).Contents (Elt F) → (⟨S1024x4096, .f32⟩ : BufTy).Contents (Elt F)) ]
/-- The references stage 3 writes. -/
abbrev wr3 : List (Ref sig .tc) := [main_v23, main_v24, main_cst_7, main_v25, main_v26, main_v27]
theorem st3_writes : (st3 : List (HloOp τ sig (Elt F))).map HloOp.writes = wr3.map fun r => {Proc.devRef (τ := τ) .tc r} := rfl
theorem st3_sub : (st3 : List (HloOp τ sig (Elt F))).Forall fun op => op.bufs ⊆ tcRefs τ sig :=
  ⟨unary_bufs_sub .., binary_bufs_sub .., nullary_bufs_sub .., unary_bufs_sub .., unary_bufs_sub .., binary_bufs_sub ..⟩
theorem st3_fresh : (st3 : List (HloOp τ sig (Elt F))).Forall fun op => op.fresh = ∅ := forall_fresh_of_map rfl

/-- Stage 4, up to `main_v38`. -/
abbrev st4 : List (HloOp τ sig (Elt F)) :=
  [ nullary main_cst_8 (constant S_ .f32 0xFF800000#32),
    binary main_v27 main_cst_8 main_v28 ((fun x v => Host.reduce FloatOps.maximumf x v reducesTo_S1024x4096_S1024_d1 h_S_) : (⟨S1024x4096, .f32⟩ : BufTy).Contents (Elt F) → (⟨S_, .f32⟩ : BufTy).Contents (Elt F) → (⟨S1024, .f32⟩ : BufTy).Contents (Elt F)),
    nullary main_cst_9 (constant S_ .f32 0xFF800000#32),
    unary main_cst_9 main_v29 (broadcastInDim S1024 ![] bcast_S_S1024 : (⟨S_, .f32⟩ : BufTy).Contents (Elt F) → (⟨S1024, .f32⟩ : BufTy).Contents (Elt F)),
    binary main_v29 main_v28 main_v30 (maximumf : (⟨S1024, .f32⟩ : BufTy).Contents (Elt F) → (⟨S1024, .f32⟩ : BufTy).Contents (Elt F) → (⟨S1024, .f32⟩ : BufTy).Contents (Elt F)),
    unary main_v30 main_v31 (broadcastInDim S1024x1 ![0] bcast_S1024_S1024x1_0 : (⟨S1024, .f32⟩ : BufTy).Contents (Elt F) → (⟨S1024x1, .f32⟩ : BufTy).Contents (Elt F)),
    unary main_v31 main_v32 (broadcastInDim S1024x4096 ![0, 1] bcast_S1024x1_S1024x4096_0_1 : (⟨S1024x1, .f32⟩ : BufTy).Contents (Elt F) → (⟨S1024x4096, .f32⟩ : BufTy).Contents (Elt F)),
    binary main_v27 main_v32 main_v33 (subf : (⟨S1024x4096, .f32⟩ : BufTy).Contents (Elt F) → (⟨S1024x4096, .f32⟩ : BufTy).Contents (Elt F) → (⟨S1024x4096, .f32⟩ : BufTy).Contents (Elt F)),
    unary main_v33 main_v34 (Host.exp : (⟨S1024x4096, .f32⟩ : BufTy).Contents (Elt F) → (⟨S1024x4096, .f32⟩ : BufTy).Contents (Elt F)),
    nullary main_cst_10 (constant S_ .f32 0x00000000#32),
    binary main_v34 main_cst_10 main_v35 ((fun x v => Host.reduceAdd x v reducesTo_S1024x4096_S1024_d1 h_S_) : (⟨S1024x4096, .f32⟩ : BufTy).Contents (Elt F) → (⟨S_, .f32⟩ : BufTy).Contents (Elt F) → (⟨S1024, .f32⟩ : BufTy).Contents (Elt F)),
    unary main_v35 main_v36 (broadcastInDim S1024x1 ![0] bcast_S1024_S1024x1_0 : (⟨S1024, .f32⟩ : BufTy).Contents (Elt F) → (⟨S1024x1, .f32⟩ : BufTy).Contents (Elt F)),
    unary main_v36 main_v37 (broadcastInDim S1024x4096 ![0, 1] bcast_S1024x1_S1024x4096_0_1 : (⟨S1024x1, .f32⟩ : BufTy).Contents (Elt F) → (⟨S1024x4096, .f32⟩ : BufTy).Contents (Elt F)),
    binary main_v34 main_v37 main_v38 (Host.divf : (⟨S1024x4096, .f32⟩ : BufTy).Contents (Elt F) → (⟨S1024x4096, .f32⟩ : BufTy).Contents (Elt F) → (⟨S1024x4096, .f32⟩ : BufTy).Contents (Elt F)) ]
/-- The references stage 4 writes. -/
abbrev wr4 : List (Ref sig .tc) := [main_cst_8, main_v28, main_cst_9, main_v29, main_v30, main_v31, main_v32, main_v33, main_v34, main_cst_10, main_v35, main_v36, main_v37, main_v38]
theorem st4_writes : (st4 : List (HloOp τ sig (Elt F))).map HloOp.writes = wr4.map fun r => {Proc.devRef (τ := τ) .tc r} := rfl
theorem st4_sub : (st4 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem st4_fresh : (st4 : List (HloOp τ sig (Elt F))).Forall fun op => op.fresh = ∅ := forall_fresh_of_map rfl

/-- Stage 5, up to `main_v42`. -/
abbrev st5 : List (HloOp τ sig (Elt F)) :=
  [ binary main_v38 main_arg15 main_v39 ((fun l r => Host.dotGeneral dot_S1024x4096_S4096x2048_S1024x2048_1_0_0_1_n_n none l r) : (⟨S1024x4096, .f32⟩ : BufTy).Contents (Elt F) → (⟨S4096x2048, .f32⟩ : BufTy).Contents (Elt F) → (⟨S1024x2048, .f32⟩ : BufTy).Contents (Elt F)),
    nullary main_cst_11 (constant S_ .f32 0xFF800000#32),
    binary main_v38 main_cst_11 main_v40 ((fun x v => Host.reduce FloatOps.maximumf x v reducesTo_S1024x4096_S1024_d1 h_S_) : (⟨S1024x4096, .f32⟩ : BufTy).Contents (Elt F) → (⟨S_, .f32⟩ : BufTy).Contents (Elt F) → (⟨S1024, .f32⟩ : BufTy).Contents (Elt F)),
    nullary main_cst_12 (constant S_ .f32 0x3F800000#32),
    unary main_cst_12 main_v41 (broadcastInDim S1024 ![] bcast_S_S1024 : (⟨S_, .f32⟩ : BufTy).Contents (Elt F) → (⟨S1024, .f32⟩ : BufTy).Contents (Elt F)),
    binary main_v41 main_v40 main_v42 (subf : (⟨S1024, .f32⟩ : BufTy).Contents (Elt F) → (⟨S1024, .f32⟩ : BufTy).Contents (Elt F) → (⟨S1024, .f32⟩ : BufTy).Contents (Elt F)) ]
/-- The references stage 5 writes. -/
abbrev wr5 : List (Ref sig .tc) := [main_v39, main_cst_11, main_v40, main_cst_12, main_v41, main_v42]
theorem st5_writes : (st5 : List (HloOp τ sig (Elt F))).map HloOp.writes = wr5.map fun r => {Proc.devRef (τ := τ) .tc r} := rfl
theorem st5_sub : (st5 : List (HloOp τ sig (Elt F))).Forall fun op => op.bufs ⊆ tcRefs τ sig :=
  ⟨binary_bufs_sub .., nullary_bufs_sub .., binary_bufs_sub .., nullary_bufs_sub .., unary_bufs_sub .., binary_bufs_sub ..⟩
theorem st5_fresh : (st5 : List (HloOp τ sig (Elt F))).Forall fun op => op.fresh = ∅ := forall_fresh_of_map rfl

/-- Stage 6, up to `main_v45`. -/
abbrev st6 : List (HloOp τ sig (Elt F)) :=
  [ binary main_v19 main_v39 main_v43 (fn_main_v43 (F := F)),
    binary main_v43 main_arg2 main_v44 ((fun l r => Host.dotGeneral dot_S1024x4096_S4096x2048_S1024x2048_1_0_0_1_n_n none l r) : (⟨S1024x4096, .f32⟩ : BufTy).Contents (Elt F) → (⟨S4096x2048, .f32⟩ : BufTy).Contents (Elt F) → (⟨S1024x2048, .f32⟩ : BufTy).Contents (Elt F)),
    unary main_arg3 main_v45 (broadcastInDim S1x2048 ![1] bcast_S2048_S1x2048_1 : (⟨S2048, .f32⟩ : BufTy).Contents (Elt F) → (⟨S1x2048, .f32⟩ : BufTy).Contents (Elt F)) ]
/-- The references stage 6 writes. -/
abbrev wr6 : List (Ref sig .tc) := [main_v43, main_v44, main_v45]
theorem st6_writes : (st6 : List (HloOp τ sig (Elt F))).map HloOp.writes = wr6.map fun r => {Proc.devRef (τ := τ) .tc r} := rfl
theorem st6_sub : (st6 : List (HloOp τ sig (Elt F))).Forall fun op => op.bufs ⊆ tcRefs τ sig :=
  ⟨binary_bufs_sub .., binary_bufs_sub .., unary_bufs_sub ..⟩
theorem st6_fresh : (st6 : List (HloOp τ sig (Elt F))).Forall fun op => op.fresh = ∅ := forall_fresh_of_map rfl

/-- Stage 7, up to `main_v47`. -/
abbrev st7 : List (HloOp τ sig (Elt F)) :=
  [ unary main_v45 main_v46 (broadcastInDim S1024x2048 ![0, 1] bcast_S1x2048_S1024x2048_0_1 : (⟨S1x2048, .f32⟩ : BufTy).Contents (Elt F) → (⟨S1024x2048, .f32⟩ : BufTy).Contents (Elt F)),
    binary main_v44 main_v46 main_v47 (addf : (⟨S1024x2048, .f32⟩ : BufTy).Contents (Elt F) → (⟨S1024x2048, .f32⟩ : BufTy).Contents (Elt F) → (⟨S1024x2048, .f32⟩ : BufTy).Contents (Elt F)) ]
/-- The references stage 7 writes. -/
abbrev wr7 : List (Ref sig .tc) := [main_v46, main_v47]
theorem st7_writes : (st7 : List (HloOp τ sig (Elt F))).map HloOp.writes = wr7.map fun r => {Proc.devRef (τ := τ) .tc r} := rfl
theorem st7_sub : (st7 : List (HloOp τ sig (Elt F))).Forall fun op => op.bufs ⊆ tcRefs τ sig :=
  ⟨unary_bufs_sub .., binary_bufs_sub ..⟩
theorem st7_fresh : (st7 : List (HloOp τ sig (Elt F))).Forall fun op => op.fresh = ∅ := forall_fresh_of_map rfl

/-- Stage 8, up to `main_v71`. -/
abbrev st8 : List (HloOp τ sig (Elt F)) :=
  [ nullary main_cst_13 (constant S_ .f32 0x00000000#32),
    binary main_v47 main_cst_13 main_v48 ((fun x v => Host.reduceAdd x v reducesTo_S1024x2048_S1024_d1 h_S_) : (⟨S1024x2048, .f32⟩ : BufTy).Contents (Elt F) → (⟨S_, .f32⟩ : BufTy).Contents (Elt F) → (⟨S1024, .f32⟩ : BufTy).Contents (Elt F)),
    unary main_v48 main_v49 (broadcastInDim S1024x1 ![0] bcast_S1024_S1024x1_0 : (⟨S1024, .f32⟩ : BufTy).Contents (Elt F) → (⟨S1024x1, .f32⟩ : BufTy).Contents (Elt F)),
    nullary main_cst_14 (constant S_ .f32 0x45000000#32),
    unary main_cst_14 main_v50 (broadcastInDim S1024x1 ![] bcast_S_S1024x1 : (⟨S_, .f32⟩ : BufTy).Contents (Elt F) → (⟨S1024x1, .f32⟩ : BufTy).Contents (Elt F)),
    binary main_v49 main_v50 main_v51 (Host.divf : (⟨S1024x1, .f32⟩ : BufTy).Contents (Elt F) → (⟨S1024x1, .f32⟩ : BufTy).Contents (Elt F) → (⟨S1024x1, .f32⟩ : BufTy).Contents (Elt F)),
    unary main_v51 main_v52 (broadcastInDim S1024x2048 ![0, 1] bcast_S1024x1_S1024x2048_0_1 : (⟨S1024x1, .f32⟩ : BufTy).Contents (Elt F) → (⟨S1024x2048, .f32⟩ : BufTy).Contents (Elt F)),
    binary main_v47 main_v52 main_v53 (subf : (⟨S1024x2048, .f32⟩ : BufTy).Contents (Elt F) → (⟨S1024x2048, .f32⟩ : BufTy).Contents (Elt F) → (⟨S1024x2048, .f32⟩ : BufTy).Contents (Elt F)),
    binary main_v53 main_v53 main_v54 (mulf : (⟨S1024x2048, .f32⟩ : BufTy).Contents (Elt F) → (⟨S1024x2048, .f32⟩ : BufTy).Contents (Elt F) → (⟨S1024x2048, .f32⟩ : BufTy).Contents (Elt F)),
    nullary main_cst_15 (constant S_ .f32 0x00000000#32),
    binary main_v54 main_cst_15 main_v55 ((fun x v => Host.reduceAdd x v reducesTo_S1024x2048_S1024_d1 h_S_) : (⟨S1024x2048, .f32⟩ : BufTy).Contents (Elt F) → (⟨S_, .f32⟩ : BufTy).Contents (Elt F) → (⟨S1024, .f32⟩ : BufTy).Contents (Elt F)),
    unary main_v55 main_v56 (broadcastInDim S1024x1 ![0] bcast_S1024_S1024x1_0 : (⟨S1024, .f32⟩ : BufTy).Contents (Elt F) → (⟨S1024x1, .f32⟩ : BufTy).Contents (Elt F)),
    nullary main_cst_16 (constant S_ .f32 0x45000000#32),
    unary main_cst_16 main_v57 (broadcastInDim S1024x1 ![] bcast_S_S1024x1 : (⟨S_, .f32⟩ : BufTy).Contents (Elt F) → (⟨S1024x1, .f32⟩ : BufTy).Contents (Elt F)),
    binary main_v56 main_v57 main_v58 (Host.divf : (⟨S1024x1, .f32⟩ : BufTy).Contents (Elt F) → (⟨S1024x1, .f32⟩ : BufTy).Contents (Elt F) → (⟨S1024x1, .f32⟩ : BufTy).Contents (Elt F)),
    unary main_v51 main_v59 (broadcastInDim S1024x2048 ![0, 1] bcast_S1024x1_S1024x2048_0_1 : (⟨S1024x1, .f32⟩ : BufTy).Contents (Elt F) → (⟨S1024x2048, .f32⟩ : BufTy).Contents (Elt F)),
    binary main_v47 main_v59 main_v60 (subf : (⟨S1024x2048, .f32⟩ : BufTy).Contents (Elt F) → (⟨S1024x2048, .f32⟩ : BufTy).Contents (Elt F) → (⟨S1024x2048, .f32⟩ : BufTy).Contents (Elt F)),
    nullary main_cst_17 (constant S_ .f32 0x3727C5AC#32),
    unary main_cst_17 main_v61 (broadcastInDim S1024x1 ![] bcast_S_S1024x1 : (⟨S_, .f32⟩ : BufTy).Contents (Elt F) → (⟨S1024x1, .f32⟩ : BufTy).Contents (Elt F)),
    binary main_v58 main_v61 main_v62 (addf : (⟨S1024x1, .f32⟩ : BufTy).Contents (Elt F) → (⟨S1024x1, .f32⟩ : BufTy).Contents (Elt F) → (⟨S1024x1, .f32⟩ : BufTy).Contents (Elt F)),
    unary main_v62 main_v63 (Host.sqrt : (⟨S1024x1, .f32⟩ : BufTy).Contents (Elt F) → (⟨S1024x1, .f32⟩ : BufTy).Contents (Elt F)),
    unary main_v63 main_v64 (broadcastInDim S1024x2048 ![0, 1] bcast_S1024x1_S1024x2048_0_1 : (⟨S1024x1, .f32⟩ : BufTy).Contents (Elt F) → (⟨S1024x2048, .f32⟩ : BufTy).Contents (Elt F)),
    binary main_v60 main_v64 main_v65 (Host.divf : (⟨S1024x2048, .f32⟩ : BufTy).Contents (Elt F) → (⟨S1024x2048, .f32⟩ : BufTy).Contents (Elt F) → (⟨S1024x2048, .f32⟩ : BufTy).Contents (Elt F)),
    unary main_arg4 main_v66 (broadcastInDim S1x2048 ![1] bcast_S2048_S1x2048_1 : (⟨S2048, .f32⟩ : BufTy).Contents (Elt F) → (⟨S1x2048, .f32⟩ : BufTy).Contents (Elt F)),
    unary main_v66 main_v67 (broadcastInDim S1024x2048 ![0, 1] bcast_S1x2048_S1024x2048_0_1 : (⟨S1x2048, .f32⟩ : BufTy).Contents (Elt F) → (⟨S1024x2048, .f32⟩ : BufTy).Contents (Elt F)),
    binary main_v65 main_v67 main_v68 (mulf : (⟨S1024x2048, .f32⟩ : BufTy).Contents (Elt F) → (⟨S1024x2048, .f32⟩ : BufTy).Contents (Elt F) → (⟨S1024x2048, .f32⟩ : BufTy).Contents (Elt F)),
    unary main_arg5 main_v69 (broadcastInDim S1x2048 ![1] bcast_S2048_S1x2048_1 : (⟨S2048, .f32⟩ : BufTy).Contents (Elt F) → (⟨S1x2048, .f32⟩ : BufTy).Contents (Elt F)),
    unary main_v69 main_v70 (broadcastInDim S1024x2048 ![0, 1] bcast_S1x2048_S1024x2048_0_1 : (⟨S1x2048, .f32⟩ : BufTy).Contents (Elt F) → (⟨S1024x2048, .f32⟩ : BufTy).Contents (Elt F)),
    binary main_v68 main_v70 main_v71 (addf : (⟨S1024x2048, .f32⟩ : BufTy).Contents (Elt F) → (⟨S1024x2048, .f32⟩ : BufTy).Contents (Elt F) → (⟨S1024x2048, .f32⟩ : BufTy).Contents (Elt F)) ]
/-- The references stage 8 writes. -/
abbrev wr8 : List (Ref sig .tc) := [main_cst_13, main_v48, main_v49, main_cst_14, main_v50, main_v51, main_v52, main_v53, main_v54, main_cst_15, main_v55, main_v56, main_cst_16, main_v57, main_v58, main_v59, main_v60, main_cst_17, main_v61, main_v62, main_v63, main_v64, main_v65, main_v66, main_v67, main_v68, main_v69, main_v70, main_v71]
theorem st8_writes : (st8 : List (HloOp τ sig (Elt F))).map HloOp.writes = wr8.map fun r => {Proc.devRef (τ := τ) .tc r} := rfl
theorem st8_sub : (st8 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem st8_fresh : (st8 : List (HloOp τ sig (Elt F))).Forall fun op => op.fresh = ∅ := forall_fresh_of_map rfl

/-- Stage 9, up to `main_v80`. -/
abbrev st9 : List (HloOp τ sig (Elt F)) :=
  [ nullary main_cst_18 (constant S_ .f32 0x3F000000#32),
    unary main_cst_18 main_v72 (broadcastInDim S1024x2048 ![] bcast_S_S1024x2048 : (⟨S_, .f32⟩ : BufTy).Contents (Elt F) → (⟨S1024x2048, .f32⟩ : BufTy).Contents (Elt F)),
    binary main_v72 main_v71 main_v73 (mulf : (⟨S1024x2048, .f32⟩ : BufTy).Contents (Elt F) → (⟨S1024x2048, .f32⟩ : BufTy).Contents (Elt F) → (⟨S1024x2048, .f32⟩ : BufTy).Contents (Elt F)),
    nullary main_cst_19 (constant S_ .f32 0x40000000#32),
    unary main_cst_19 main_v74 (Host.sqrt : (⟨S_, .f32⟩ : BufTy).Contents (Elt F) → (⟨S_, .f32⟩ : BufTy).Contents (Elt F)),
    unary main_v74 main_v75 (broadcastInDim S1024x2048 ![] bcast_S_S1024x2048 : (⟨S_, .f32⟩ : BufTy).Contents (Elt F) → (⟨S1024x2048, .f32⟩ : BufTy).Contents (Elt F)),
    binary main_v71 main_v75 main_v76 (Host.divf : (⟨S1024x2048, .f32⟩ : BufTy).Contents (Elt F) → (⟨S1024x2048, .f32⟩ : BufTy).Contents (Elt F) → (⟨S1024x2048, .f32⟩ : BufTy).Contents (Elt F)),
    unary main_v76 main_v77 (Host.erf : (⟨S1024x2048, .f32⟩ : BufTy).Contents (Elt F) → (⟨S1024x2048, .f32⟩ : BufTy).Contents (Elt F)),
    nullary main_cst_20 (constant S_ .f32 0x3F800000#32),
    unary main_cst_20 main_v78 (broadcastInDim S1024x2048 ![] bcast_S_S1024x2048 : (⟨S_, .f32⟩ : BufTy).Contents (Elt F) → (⟨S1024x2048, .f32⟩ : BufTy).Contents (Elt F)),
    binary main_v78 main_v77 main_v79 (addf : (⟨S1024x2048, .f32⟩ : BufTy).Contents (Elt F) → (⟨S1024x2048, .f32⟩ : BufTy).Contents (Elt F) → (⟨S1024x2048, .f32⟩ : BufTy).Contents (Elt F)),
    binary main_v73 main_v79 main_v80 (mulf : (⟨S1024x2048, .f32⟩ : BufTy).Contents (Elt F) → (⟨S1024x2048, .f32⟩ : BufTy).Contents (Elt F) → (⟨S1024x2048, .f32⟩ : BufTy).Contents (Elt F)) ]
/-- The references stage 9 writes. -/
abbrev wr9 : List (Ref sig .tc) := [main_cst_18, main_v72, main_v73, main_cst_19, main_v74, main_v75, main_v76, main_v77, main_cst_20, main_v78, main_v79, main_v80]
theorem st9_writes : (st9 : List (HloOp τ sig (Elt F))).map HloOp.writes = wr9.map fun r => {Proc.devRef (τ := τ) .tc r} := rfl
theorem st9_sub : (st9 : List (HloOp τ sig (Elt F))).Forall fun op => op.bufs ⊆ tcRefs τ sig :=
  ⟨nullary_bufs_sub .., unary_bufs_sub .., binary_bufs_sub .., nullary_bufs_sub .., unary_bufs_sub .., unary_bufs_sub .., binary_bufs_sub .., unary_bufs_sub .., nullary_bufs_sub .., unary_bufs_sub .., binary_bufs_sub .., binary_bufs_sub ..⟩
theorem st9_fresh : (st9 : List (HloOp τ sig (Elt F))).Forall fun op => op.fresh = ∅ := forall_fresh_of_map rfl

/-- Stage 10, up to `main_v85`. -/
abbrev st10 : List (HloOp τ sig (Elt F)) :=
  [ binary main_v80 main_arg6 main_v81 ((fun l r => Host.dotGeneral dot_S1024x2048_S2048x2048_S1024x2048_1_0_0_1_n_n none l r) : (⟨S1024x2048, .f32⟩ : BufTy).Contents (Elt F) → (⟨S2048x2048, .f32⟩ : BufTy).Contents (Elt F) → (⟨S1024x2048, .f32⟩ : BufTy).Contents (Elt F)),
    unary main_arg7 main_v82 (broadcastInDim S1x2048 ![1] bcast_S2048_S1x2048_1 : (⟨S2048, .f32⟩ : BufTy).Contents (Elt F) → (⟨S1x2048, .f32⟩ : BufTy).Contents (Elt F)),
    unary main_v82 main_v83 (broadcastInDim S1024x2048 ![0, 1] bcast_S1x2048_S1024x2048_0_1 : (⟨S1x2048, .f32⟩ : BufTy).Contents (Elt F) → (⟨S1024x2048, .f32⟩ : BufTy).Contents (Elt F)),
    binary main_v81 main_v83 main_v84 (addf : (⟨S1024x2048, .f32⟩ : BufTy).Contents (Elt F) → (⟨S1024x2048, .f32⟩ : BufTy).Contents (Elt F) → (⟨S1024x2048, .f32⟩ : BufTy).Contents (Elt F)),
    reshape main_v84 main_v85 (rfl : (.f32 : EltTy) = .f32) shapeCasts_S1024x2048_S1024x32x64 ]
/-- The references stage 10 writes. -/
abbrev wr10 : List (Ref sig .tc) := [main_v81, main_v82, main_v83, main_v84, main_v85]
theorem st10_writes : (st10 : List (HloOp τ sig (Elt F))).map HloOp.writes = wr10.map fun r => {Proc.devRef (τ := τ) .tc r} := rfl
theorem st10_sub : (st10 : List (HloOp τ sig (Elt F))).Forall fun op => op.bufs ⊆ tcRefs τ sig :=
  ⟨binary_bufs_sub .., unary_bufs_sub .., unary_bufs_sub .., binary_bufs_sub .., reshape_bufs_sub ..⟩
theorem st10_fresh : (st10 : List (HloOp τ sig (Elt F))).Forall fun op => op.fresh = ∅ := forall_fresh_of_map rfl

/-- Stage 11, up to `main_v91`. -/
abbrev st11 : List (HloOp τ sig (Elt F)) :=
  [ binary main_arg0 main_v85 main_v86 (fn_main_v86 (F := F)),
    binary main_arg8 main_v86 main_v87 ((fun l r => Host.dotGeneral dot_S32x128x64_S1024x32x128_S32x64x1024_1_2_2_0_0_1 none l r) : (⟨S32x128x64, .f32⟩ : BufTy).Contents (Elt F) → (⟨S1024x32x128, .f32⟩ : BufTy).Contents (Elt F) → (⟨S32x64x1024, .f32⟩ : BufTy).Contents (Elt F)),
    unary main_v87 main_v88 ((transpose S1024x32x64 [2, 0, 1] · transposes_S32x64x1024_S1024x32x64_2_0_1) : (⟨S32x64x1024, .f32⟩ : BufTy).Contents (Elt F) → (⟨S1024x32x64, .f32⟩ : BufTy).Contents (Elt F)),
    unary main_arg9 main_v89 (broadcastInDim S1x32x64 ![1, 2] bcast_S32x64_S1x32x64_1_2 : (⟨S32x64, .f32⟩ : BufTy).Contents (Elt F) → (⟨S1x32x64, .f32⟩ : BufTy).Contents (Elt F)),
    unary main_v89 main_v90 (broadcastInDim S1024x32x64 ![0, 1, 2] bcast_S1x32x64_S1024x32x64_0_1_2 : (⟨S1x32x64, .f32⟩ : BufTy).Contents (Elt F) → (⟨S1024x32x64, .f32⟩ : BufTy).Contents (Elt F)),
    binary main_v88 main_v90 main_v91 (addf : (⟨S1024x32x64, .f32⟩ : BufTy).Contents (Elt F) → (⟨S1024x32x64, .f32⟩ : BufTy).Contents (Elt F) → (⟨S1024x32x64, .f32⟩ : BufTy).Contents (Elt F)) ]
/-- The references stage 11 writes. -/
abbrev wr11 : List (Ref sig .tc) := [main_v86, main_v87, main_v88, main_v89, main_v90, main_v91]
theorem st11_writes : (st11 : List (HloOp τ sig (Elt F))).map HloOp.writes = wr11.map fun r => {Proc.devRef (τ := τ) .tc r} := rfl
theorem st11_sub : (st11 : List (HloOp τ sig (Elt F))).Forall fun op => op.bufs ⊆ tcRefs τ sig :=
  ⟨binary_bufs_sub .., binary_bufs_sub .., unary_bufs_sub .., unary_bufs_sub .., unary_bufs_sub .., binary_bufs_sub ..⟩
theorem st11_fresh : (st11 : List (HloOp τ sig (Elt F))).Forall fun op => op.fresh = ∅ := forall_fresh_of_map rfl

/-- Stage 12, up to `main_v95`. -/
abbrev st12 : List (HloOp τ sig (Elt F)) :=
  [ nullary main_cst_21 (constant S_ .f32 0x00000000#32),
    binary main_v91 main_cst_21 main_v92 ((fun x v => Host.reduceAdd x v reducesTo_S1024x32x64_S1024x32_d2 h_S_) : (⟨S1024x32x64, .f32⟩ : BufTy).Contents (Elt F) → (⟨S_, .f32⟩ : BufTy).Contents (Elt F) → (⟨S1024x32, .f32⟩ : BufTy).Contents (Elt F)),
    unary main_v92 main_v93 (broadcastInDim S1024x32x1 ![0, 1] bcast_S1024x32_S1024x32x1_0_1 : (⟨S1024x32, .f32⟩ : BufTy).Contents (Elt F) → (⟨S1024x32x1, .f32⟩ : BufTy).Contents (Elt F)),
    nullary main_cst_22 (constant S_ .f32 0x42800000#32),
    unary main_cst_22 main_v94 (broadcastInDim S1024x32x1 ![] bcast_S_S1024x32x1 : (⟨S_, .f32⟩ : BufTy).Contents (Elt F) → (⟨S1024x32x1, .f32⟩ : BufTy).Contents (Elt F)),
    binary main_v93 main_v94 main_v95 (Host.divf : (⟨S1024x32x1, .f32⟩ : BufTy).Contents (Elt F) → (⟨S1024x32x1, .f32⟩ : BufTy).Contents (Elt F) → (⟨S1024x32x1, .f32⟩ : BufTy).Contents (Elt F)) ]
/-- The references stage 12 writes. -/
abbrev wr12 : List (Ref sig .tc) := [main_cst_21, main_v92, main_v93, main_cst_22, main_v94, main_v95]
theorem st12_writes : (st12 : List (HloOp τ sig (Elt F))).map HloOp.writes = wr12.map fun r => {Proc.devRef (τ := τ) .tc r} := rfl
theorem st12_sub : (st12 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem st12_fresh : (st12 : List (HloOp τ sig (Elt F))).Forall fun op => op.fresh = ∅ := forall_fresh_of_map rfl

/-- Stage 13, up to `main_v115`. -/
abbrev st13 : List (HloOp τ sig (Elt F)) :=
  [ unary main_v95 main_v96 (broadcastInDim S1024x32x64 ![0, 1, 2] bcast_S1024x32x1_S1024x32x64_0_1_2 : (⟨S1024x32x1, .f32⟩ : BufTy).Contents (Elt F) → (⟨S1024x32x64, .f32⟩ : BufTy).Contents (Elt F)),
    binary main_v91 main_v96 main_v97 (subf : (⟨S1024x32x64, .f32⟩ : BufTy).Contents (Elt F) → (⟨S1024x32x64, .f32⟩ : BufTy).Contents (Elt F) → (⟨S1024x32x64, .f32⟩ : BufTy).Contents (Elt F)),
    binary main_v97 main_v97 main_v98 (mulf : (⟨S1024x32x64, .f32⟩ : BufTy).Contents (Elt F) → (⟨S1024x32x64, .f32⟩ : BufTy).Contents (Elt F) → (⟨S1024x32x64, .f32⟩ : BufTy).Contents (Elt F)),
    nullary main_cst_23 (constant S_ .f32 0x00000000#32),
    binary main_v98 main_cst_23 main_v99 ((fun x v => Host.reduceAdd x v reducesTo_S1024x32x64_S1024x32_d2 h_S_) : (⟨S1024x32x64, .f32⟩ : BufTy).Contents (Elt F) → (⟨S_, .f32⟩ : BufTy).Contents (Elt F) → (⟨S1024x32, .f32⟩ : BufTy).Contents (Elt F)),
    unary main_v99 main_v100 (broadcastInDim S1024x32x1 ![0, 1] bcast_S1024x32_S1024x32x1_0_1 : (⟨S1024x32, .f32⟩ : BufTy).Contents (Elt F) → (⟨S1024x32x1, .f32⟩ : BufTy).Contents (Elt F)),
    nullary main_cst_24 (constant S_ .f32 0x42800000#32),
    unary main_cst_24 main_v101 (broadcastInDim S1024x32x1 ![] bcast_S_S1024x32x1 : (⟨S_, .f32⟩ : BufTy).Contents (Elt F) → (⟨S1024x32x1, .f32⟩ : BufTy).Contents (Elt F)),
    binary main_v100 main_v101 main_v102 (Host.divf : (⟨S1024x32x1, .f32⟩ : BufTy).Contents (Elt F) → (⟨S1024x32x1, .f32⟩ : BufTy).Contents (Elt F) → (⟨S1024x32x1, .f32⟩ : BufTy).Contents (Elt F)),
    unary main_v95 main_v103 (broadcastInDim S1024x32x64 ![0, 1, 2] bcast_S1024x32x1_S1024x32x64_0_1_2 : (⟨S1024x32x1, .f32⟩ : BufTy).Contents (Elt F) → (⟨S1024x32x64, .f32⟩ : BufTy).Contents (Elt F)),
    binary main_v91 main_v103 main_v104 (subf : (⟨S1024x32x64, .f32⟩ : BufTy).Contents (Elt F) → (⟨S1024x32x64, .f32⟩ : BufTy).Contents (Elt F) → (⟨S1024x32x64, .f32⟩ : BufTy).Contents (Elt F)),
    nullary main_cst_25 (constant S_ .f32 0x3727C5AC#32),
    unary main_cst_25 main_v105 (broadcastInDim S1024x32x1 ![] bcast_S_S1024x32x1 : (⟨S_, .f32⟩ : BufTy).Contents (Elt F) → (⟨S1024x32x1, .f32⟩ : BufTy).Contents (Elt F)),
    binary main_v102 main_v105 main_v106 (addf : (⟨S1024x32x1, .f32⟩ : BufTy).Contents (Elt F) → (⟨S1024x32x1, .f32⟩ : BufTy).Contents (Elt F) → (⟨S1024x32x1, .f32⟩ : BufTy).Contents (Elt F)),
    unary main_v106 main_v107 (Host.sqrt : (⟨S1024x32x1, .f32⟩ : BufTy).Contents (Elt F) → (⟨S1024x32x1, .f32⟩ : BufTy).Contents (Elt F)),
    unary main_v107 main_v108 (broadcastInDim S1024x32x64 ![0, 1, 2] bcast_S1024x32x1_S1024x32x64_0_1_2 : (⟨S1024x32x1, .f32⟩ : BufTy).Contents (Elt F) → (⟨S1024x32x64, .f32⟩ : BufTy).Contents (Elt F)),
    binary main_v104 main_v108 main_v109 (Host.divf : (⟨S1024x32x64, .f32⟩ : BufTy).Contents (Elt F) → (⟨S1024x32x64, .f32⟩ : BufTy).Contents (Elt F) → (⟨S1024x32x64, .f32⟩ : BufTy).Contents (Elt F)),
    unary main_arg10 main_v110 (broadcastInDim S1x32x64 ![1, 2] bcast_S32x64_S1x32x64_1_2 : (⟨S32x64, .f32⟩ : BufTy).Contents (Elt F) → (⟨S1x32x64, .f32⟩ : BufTy).Contents (Elt F)),
    unary main_v110 main_v111 (broadcastInDim S1024x32x64 ![0, 1, 2] bcast_S1x32x64_S1024x32x64_0_1_2 : (⟨S1x32x64, .f32⟩ : BufTy).Contents (Elt F) → (⟨S1024x32x64, .f32⟩ : BufTy).Contents (Elt F)),
    binary main_v109 main_v111 main_v112 (mulf : (⟨S1024x32x64, .f32⟩ : BufTy).Contents (Elt F) → (⟨S1024x32x64, .f32⟩ : BufTy).Contents (Elt F) → (⟨S1024x32x64, .f32⟩ : BufTy).Contents (Elt F)),
    unary main_arg11 main_v113 (broadcastInDim S1x32x64 ![1, 2] bcast_S32x64_S1x32x64_1_2 : (⟨S32x64, .f32⟩ : BufTy).Contents (Elt F) → (⟨S1x32x64, .f32⟩ : BufTy).Contents (Elt F)),
    unary main_v113 main_v114 (broadcastInDim S1024x32x64 ![0, 1, 2] bcast_S1x32x64_S1024x32x64_0_1_2 : (⟨S1x32x64, .f32⟩ : BufTy).Contents (Elt F) → (⟨S1024x32x64, .f32⟩ : BufTy).Contents (Elt F)),
    binary main_v112 main_v114 main_v115 (addf : (⟨S1024x32x64, .f32⟩ : BufTy).Contents (Elt F) → (⟨S1024x32x64, .f32⟩ : BufTy).Contents (Elt F) → (⟨S1024x32x64, .f32⟩ : BufTy).Contents (Elt F)) ]
/-- The references stage 13 writes. -/
abbrev wr13 : List (Ref sig .tc) := [main_v96, main_v97, main_v98, main_cst_23, main_v99, main_v100, main_cst_24, main_v101, main_v102, main_v103, main_v104, main_cst_25, main_v105, main_v106, main_v107, main_v108, main_v109, main_v110, main_v111, main_v112, main_v113, main_v114, main_v115]
theorem st13_writes : (st13 : List (HloOp τ sig (Elt F))).map HloOp.writes = wr13.map fun r => {Proc.devRef (τ := τ) .tc r} := rfl
theorem st13_sub : (st13 : List (HloOp τ sig (Elt F))).Forall fun op => op.bufs ⊆ tcRefs τ sig :=
  ⟨unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem st13_fresh : (st13 : List (HloOp τ sig (Elt F))).Forall fun op => op.fresh = ∅ := forall_fresh_of_map rfl

/-- Stage 14, up to `main_v116`. -/
abbrev st14 : List (HloOp τ sig (Elt F)) :=
  [ reshape main_arg0 main_v116 (rfl : (.f32 : EltTy) = .f32) shapeCasts_S1024x32x64_S1024x2048 ]
/-- The references stage 14 writes. -/
abbrev wr14 : List (Ref sig .tc) := [main_v116]
theorem st14_writes : (st14 : List (HloOp τ sig (Elt F))).map HloOp.writes = wr14.map fun r => {Proc.devRef (τ := τ) .tc r} := rfl
theorem st14_sub : (st14 : List (HloOp τ sig (Elt F))).Forall fun op => op.bufs ⊆ tcRefs τ sig :=
  reshape_bufs_sub ..
theorem st14_fresh : (st14 : List (HloOp τ sig (Elt F))).Forall fun op => op.fresh = ∅ := forall_fresh_of_map rfl

/-- Stage 15, up to `main_v121`. -/
abbrev st15 : List (HloOp τ sig (Elt F)) :=
  [ unary main_arg12 main_v117 ((transpose S64x4096 [1, 0] · transposes_S4096x64_S64x4096_1_0) : (⟨S4096x64, .f32⟩ : BufTy).Contents (Elt F) → (⟨S64x4096, .f32⟩ : BufTy).Contents (Elt F)),
    binary main_v2 main_v117 main_v118 ((fun l r => Host.dotGeneral dot_S1024x64_S64x4096_S1024x4096_1_0_0_1_n_n none l r) : (⟨S1024x64, .f32⟩ : BufTy).Contents (Elt F) → (⟨S64x4096, .f32⟩ : BufTy).Contents (Elt F) → (⟨S1024x4096, .f32⟩ : BufTy).Contents (Elt F)),
    nullary main_cst_26 (constant S_ .f32 0x42800000#32),
    unary main_cst_26 main_v119 (Host.sqrt : (⟨S_, .f32⟩ : BufTy).Contents (Elt F) → (⟨S_, .f32⟩ : BufTy).Contents (Elt F)),
    unary main_v119 main_v120 (broadcastInDim S1024x4096 ![] bcast_S_S1024x4096 : (⟨S_, .f32⟩ : BufTy).Contents (Elt F) → (⟨S1024x4096, .f32⟩ : BufTy).Contents (Elt F)),
    binary main_v118 main_v120 main_v121 (Host.divf : (⟨S1024x4096, .f32⟩ : BufTy).Contents (Elt F) → (⟨S1024x4096, .f32⟩ : BufTy).Contents (Elt F) → (⟨S1024x4096, .f32⟩ : BufTy).Contents (Elt F)) ]
/-- The references stage 15 writes. -/
abbrev wr15 : List (Ref sig .tc) := [main_v117, main_v118, main_cst_26, main_v119, main_v120, main_v121]
theorem st15_writes : (st15 : List (HloOp τ sig (Elt F))).map HloOp.writes = wr15.map fun r => {Proc.devRef (τ := τ) .tc r} := rfl
theorem st15_sub : (st15 : List (HloOp τ sig (Elt F))).Forall fun op => op.bufs ⊆ tcRefs τ sig :=
  ⟨unary_bufs_sub .., binary_bufs_sub .., nullary_bufs_sub .., unary_bufs_sub .., unary_bufs_sub .., binary_bufs_sub ..⟩
theorem st15_fresh : (st15 : List (HloOp τ sig (Elt F))).Forall fun op => op.fresh = ∅ := forall_fresh_of_map rfl

/-- Stage 16, up to `main_v122`. -/
abbrev st16 : List (HloOp τ sig (Elt F)) :=
  [ TRef.nullary (TRef.of (T := ⟨S1024x4096, .i32⟩) main_call0_v0) (iotaInDim S1024x4096 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S1024x4096, .f32⟩) main_v121) (TRef.of (T := ⟨S1024x4096, .i32⟩) main_call0_v0) (TRef.of (T := ⟨S_, .f32⟩) main_call0_cst) (TRef.of (T := ⟨S_, .i32⟩) main_call0_c) (TRef.of (T := ⟨S1024, .f32⟩) main_call0_v1_0) (fun x y u v j => (Host.argReduce reducer_argmax_f32_i32 x y u v reducesTo_S1024x4096_S1024_d1 h_S_ j).1),
    TRef.quaternary (TRef.of (T := ⟨S1024x4096, .f32⟩) main_v121) (TRef.of (T := ⟨S1024x4096, .i32⟩) main_call0_v0) (TRef.of (T := ⟨S_, .f32⟩) main_call0_cst) (TRef.of (T := ⟨S_, .i32⟩) main_call0_c) (TRef.of (T := ⟨S1024, .i32⟩) main_v122) (fun x y u v j => (Host.argReduce reducer_argmax_f32_i32 x y u v reducesTo_S1024x4096_S1024_d1 h_S_ j).2) ]
/-- The references stage 16 writes. -/
abbrev wr16 : List (Ref sig .tc) := [main_call0_v0, main_call0_cst, main_call0_c, main_call0_v1_0, main_v122]
theorem st16_writes : (st16 : List (HloOp τ sig (Elt F))).map HloOp.writes = wr16.map fun r => {Proc.devRef (τ := τ) .tc r} := rfl
theorem st16_sub : (st16 : List (HloOp τ sig (Elt F))).Forall fun op => op.bufs ⊆ tcRefs τ sig :=
  ⟨nullary_bufs_sub .., nullary_bufs_sub .., nullary_bufs_sub .., quaternary_bufs_sub .., quaternary_bufs_sub ..⟩
theorem st16_fresh : (st16 : List (HloOp τ sig (Elt F))).Forall fun op => op.fresh = ∅ := forall_fresh_of_map rfl

/-- Stage 17, up to `main_v130`. -/
abbrev st17 : List (HloOp τ sig (Elt F)) :=
  [ unary main_v22 main_v123 (Host.negf : (⟨S1024, .f32⟩ : BufTy).Contents (Elt F) → (⟨S1024, .f32⟩ : BufTy).Contents (Elt F)),
    unary main_v123 main_v124 (Host.exp : (⟨S1024, .f32⟩ : BufTy).Contents (Elt F) → (⟨S1024, .f32⟩ : BufTy).Contents (Elt F)),
    nullary main_cst_27 (constant S_ .f32 0x3F800000#32),
    unary main_cst_27 main_v125 (broadcastInDim S1024 ![] bcast_S_S1024 : (⟨S_, .f32⟩ : BufTy).Contents (Elt F) → (⟨S1024, .f32⟩ : BufTy).Contents (Elt F)),
    binary main_v125 main_v124 main_v126 (addf : (⟨S1024, .f32⟩ : BufTy).Contents (Elt F) → (⟨S1024, .f32⟩ : BufTy).Contents (Elt F) → (⟨S1024, .f32⟩ : BufTy).Contents (Elt F)),
    nullary main_cst_28 (constant S_ .f32 0x3F800000#32),
    unary main_cst_28 main_v127 (broadcastInDim S1024 ![] bcast_S_S1024 : (⟨S_, .f32⟩ : BufTy).Contents (Elt F) → (⟨S1024, .f32⟩ : BufTy).Contents (Elt F)),
    binary main_v127 main_v126 main_v128 (Host.divf : (⟨S1024, .f32⟩ : BufTy).Contents (Elt F) → (⟨S1024, .f32⟩ : BufTy).Contents (Elt F) → (⟨S1024, .f32⟩ : BufTy).Contents (Elt F)),
    nullary main_cst_29 (constant S_ .f32 0x3DCCCCCD#32),
    unary main_cst_29 main_v129 (broadcastInDim S1024 ![] bcast_S_S1024 : (⟨S_, .f32⟩ : BufTy).Contents (Elt F) → (⟨S1024, .f32⟩ : BufTy).Contents (Elt F)),
    binary main_v129 main_v128 main_v130 (mulf : (⟨S1024, .f32⟩ : BufTy).Contents (Elt F) → (⟨S1024, .f32⟩ : BufTy).Contents (Elt F) → (⟨S1024, .f32⟩ : BufTy).Contents (Elt F)) ]
/-- The references stage 17 writes. -/
abbrev wr17 : List (Ref sig .tc) := [main_v123, main_v124, main_cst_27, main_v125, main_v126, main_cst_28, main_v127, main_v128, main_cst_29, main_v129, main_v130]
theorem st17_writes : (st17 : List (HloOp τ sig (Elt F))).map HloOp.writes = wr17.map fun r => {Proc.devRef (τ := τ) .tc r} := rfl
theorem st17_sub : (st17 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub ..⟩
theorem st17_fresh : (st17 : List (HloOp τ sig (Elt F))).Forall fun op => op.fresh = ∅ := forall_fresh_of_map rfl

/-- Stage 18, up to `main_v138`. -/
abbrev st18 : List (HloOp τ sig (Elt F)) :=
  [ nullary main_cst_30 (constant S_ .f32 0x00000000#32),
    unary main_cst_30 main_v131 (broadcastInDim S4096 ![] bcast_S_S4096 : (⟨S_, .f32⟩ : BufTy).Contents (Elt F) → (⟨S4096, .f32⟩ : BufTy).Contents (Elt F)),
    nullary main_c (constantI S_ 32 0#32),
    unary main_c main_v132 (broadcastInDim S1024 ![] bcast_S_S1024 : (⟨S_, .i32⟩ : BufTy).Contents (Elt F) → (⟨S1024, .i32⟩ : BufTy).Contents (Elt F)),
    binary main_v122 main_v132 main_v133 (cmpi .slt : (⟨S1024, .i32⟩ : BufTy).Contents (Elt F) → (⟨S1024, .i32⟩ : BufTy).Contents (Elt F) → (⟨S1024, .i1⟩ : BufTy).Contents (Elt F)),
    nullary main_c_31 (constantI S_ 32 4096#32),
    unary main_c_31 main_v134 (broadcastInDim S1024 ![] bcast_S_S1024 : (⟨S_, .i32⟩ : BufTy).Contents (Elt F) → (⟨S1024, .i32⟩ : BufTy).Contents (Elt F)),
    binary main_v122 main_v134 main_v135 (addi : (⟨S1024, .i32⟩ : BufTy).Contents (Elt F) → (⟨S1024, .i32⟩ : BufTy).Contents (Elt F) → (⟨S1024, .i32⟩ : BufTy).Contents (Elt F)),
    ternary main_v133 main_v135 main_v122 main_v136 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v136 main_v137 (broadcastInDim S1024x1 ![0] bcast_S1024_S1024x1_0 : (⟨S1024, .i32⟩ : BufTy).Contents (Elt F) → (⟨S1024x1, .i32⟩ : BufTy).Contents (Elt F)),
    ternary main_v131 main_v137 main_v130 main_v138 ((fun x i u => Host.scatterAdd scatter_S4096_S1024x1_S1024_n_0_0_1 x i u) : (⟨S4096, .f32⟩ : BufTy).Contents (Elt F) → (⟨S1024x1, .i32⟩ : BufTy).Contents (Elt F) → (⟨S1024, .f32⟩ : BufTy).Contents (Elt F) → (⟨S4096, .f32⟩ : BufTy).Contents (Elt F)) ]
/-- The references stage 18 writes. -/
abbrev wr18 : List (Ref sig .tc) := [main_cst_30, main_v131, main_c, main_v132, main_v133, main_c_31, main_v134, main_v135, main_v136, main_v137, main_v138]
theorem st18_writes : (st18 : List (HloOp τ sig (Elt F))).map HloOp.writes = wr18.map fun r => {Proc.devRef (τ := τ) .tc r} := rfl
theorem st18_sub : (st18 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩
theorem st18_fresh : (st18 : List (HloOp τ sig (Elt F))).Forall fun op => op.fresh = ∅ := forall_fresh_of_map rfl

/-- Stage 19, up to `main_v143`. -/
abbrev st19 : List (HloOp τ sig (Elt F)) :=
  [ nullary main_cst_32 (constant S_ .f32 0x00000000#32),
    unary main_cst_32 main_v139 (broadcastInDim S4096x64 ![] bcast_S_S4096x64 : (⟨S_, .f32⟩ : BufTy).Contents (Elt F) → (⟨S4096x64, .f32⟩ : BufTy).Contents (Elt F)),
    unary main_v130 main_v140 (broadcastInDim S1024x1 ![0] bcast_S1024_S1024x1_0 : (⟨S1024, .f32⟩ : BufTy).Contents (Elt F) → (⟨S1024x1, .f32⟩ : BufTy).Contents (Elt F)),
    unary main_v140 main_v141 (broadcastInDim S1024x64 ![0, 1] bcast_S1024x1_S1024x64_0_1 : (⟨S1024x1, .f32⟩ : BufTy).Contents (Elt F) → (⟨S1024x64, .f32⟩ : BufTy).Contents (Elt F)),
    binary main_v141 main_v2 main_v142 (mulf : (⟨S1024x64, .f32⟩ : BufTy).Contents (Elt F) → (⟨S1024x64, .f32⟩ : BufTy).Contents (Elt F) → (⟨S1024x64, .f32⟩ : BufTy).Contents (Elt F)),
    nullary main_c_33 (constantI S_ 32 0#32),
    unary main_c_33 main_v143 (broadcastInDim S1024 ![] bcast_S_S1024 : (⟨S_, .i32⟩ : BufTy).Contents (Elt F) → (⟨S1024, .i32⟩ : BufTy).Contents (Elt F)) ]
/-- The references stage 19 writes. -/
abbrev wr19 : List (Ref sig .tc) := [main_cst_32, main_v139, main_v140, main_v141, main_v142, main_c_33, main_v143]
theorem st19_writes : (st19 : List (HloOp τ sig (Elt F))).map HloOp.writes = wr19.map fun r => {Proc.devRef (τ := τ) .tc r} := rfl
theorem st19_sub : (st19 : List (HloOp τ sig (Elt F))).Forall fun op => op.bufs ⊆ tcRefs τ sig :=
  ⟨nullary_bufs_sub .., unary_bufs_sub .., unary_bufs_sub .., unary_bufs_sub .., binary_bufs_sub .., nullary_bufs_sub .., unary_bufs_sub ..⟩
theorem st19_fresh : (st19 : List (HloOp τ sig (Elt F))).Forall fun op => op.fresh = ∅ := forall_fresh_of_map rfl

/-- Stage 20, up to `main_v149`. -/
abbrev st20 : List (HloOp τ sig (Elt F)) :=
  [ binary main_v122 main_v143 main_v144 (cmpi .slt : (⟨S1024, .i32⟩ : BufTy).Contents (Elt F) → (⟨S1024, .i32⟩ : BufTy).Contents (Elt F) → (⟨S1024, .i1⟩ : BufTy).Contents (Elt F)),
    nullary main_c_34 (constantI S_ 32 4096#32),
    unary main_c_34 main_v145 (broadcastInDim S1024 ![] bcast_S_S1024 : (⟨S_, .i32⟩ : BufTy).Contents (Elt F) → (⟨S1024, .i32⟩ : BufTy).Contents (Elt F)),
    binary main_v122 main_v145 main_v146 (addi : (⟨S1024, .i32⟩ : BufTy).Contents (Elt F) → (⟨S1024, .i32⟩ : BufTy).Contents (Elt F) → (⟨S1024, .i32⟩ : BufTy).Contents (Elt F)),
    ternary main_v144 main_v146 main_v122 main_v147 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v147 main_v148 (broadcastInDim S1024x1 ![0] bcast_S1024_S1024x1_0 : (⟨S1024, .i32⟩ : BufTy).Contents (Elt F) → (⟨S1024x1, .i32⟩ : BufTy).Contents (Elt F)),
    ternary main_v139 main_v148 main_v142 main_v149 ((fun x i u => Host.scatterAdd scatter_S4096x64_S1024x1_S1024x64_1_0_0_1 x i u) : (⟨S4096x64, .f32⟩ : BufTy).Contents (Elt F) → (⟨S1024x1, .i32⟩ : BufTy).Contents (Elt F) → (⟨S1024x64, .f32⟩ : BufTy).Contents (Elt F) → (⟨S4096x64, .f32⟩ : BufTy).Contents (Elt F)) ]
/-- The references stage 20 writes. -/
abbrev wr20 : List (Ref sig .tc) := [main_v144, main_c_34, main_v145, main_v146, main_v147, main_v148, main_v149]
theorem st20_writes : (st20 : List (HloOp τ sig (Elt F))).map HloOp.writes = wr20.map fun r => {Proc.devRef (τ := τ) .tc r} := rfl
theorem st20_sub : (st20 : List (HloOp τ sig (Elt F))).Forall fun op => op.bufs ⊆ tcRefs τ sig :=
  ⟨binary_bufs_sub .., nullary_bufs_sub .., unary_bufs_sub .., binary_bufs_sub .., ternary_bufs_sub .., unary_bufs_sub .., ternary_bufs_sub ..⟩
theorem st20_fresh : (st20 : List (HloOp τ sig (Elt F))).Forall fun op => op.fresh = ∅ := forall_fresh_of_map rfl

/-- Stage 21, up to `main_v160`. -/
abbrev st21 : List (HloOp τ sig (Elt F)) :=
  [ nullary main_cst_35 (constant S_ .f32 0x00000000#32),
    unary main_cst_35 main_v150 (broadcastInDim S4096x2048 ![] bcast_S_S4096x2048 : (⟨S_, .f32⟩ : BufTy).Contents (Elt F) → (⟨S4096x2048, .f32⟩ : BufTy).Contents (Elt F)),
    unary main_v130 main_v151 (broadcastInDim S1024x1 ![0] bcast_S1024_S1024x1_0 : (⟨S1024, .f32⟩ : BufTy).Contents (Elt F) → (⟨S1024x1, .f32⟩ : BufTy).Contents (Elt F)),
    unary main_v151 main_v152 (broadcastInDim S1024x2048 ![0, 1] bcast_S1024x1_S1024x2048_0_1 : (⟨S1024x1, .f32⟩ : BufTy).Contents (Elt F) → (⟨S1024x2048, .f32⟩ : BufTy).Contents (Elt F)),
    binary main_v152 main_v116 main_v153 (mulf : (⟨S1024x2048, .f32⟩ : BufTy).Contents (Elt F) → (⟨S1024x2048, .f32⟩ : BufTy).Contents (Elt F) → (⟨S1024x2048, .f32⟩ : BufTy).Contents (Elt F)),
    nullary main_c_36 (constantI S_ 32 0#32),
    unary main_c_36 main_v154 (broadcastInDim S1024 ![] bcast_S_S1024 : (⟨S_, .i32⟩ : BufTy).Contents (Elt F) → (⟨S1024, .i32⟩ : BufTy).Contents (Elt F)),
    binary main_v122 main_v154 main_v155 (cmpi .slt : (⟨S1024, .i32⟩ : BufTy).Contents (Elt F) → (⟨S1024, .i32⟩ : BufTy).Contents (Elt F) → (⟨S1024, .i1⟩ : BufTy).Contents (Elt F)),
    nullary main_c_37 (constantI S_ 32 4096#32),
    unary main_c_37 main_v156 (broadcastInDim S1024 ![] bcast_S_S1024 : (⟨S_, .i32⟩ : BufTy).Contents (Elt F) → (⟨S1024, .i32⟩ : BufTy).Contents (Elt F)),
    binary main_v122 main_v156 main_v157 (addi : (⟨S1024, .i32⟩ : BufTy).Contents (Elt F) → (⟨S1024, .i32⟩ : BufTy).Contents (Elt F) → (⟨S1024, .i32⟩ : BufTy).Contents (Elt F)),
    ternary main_v155 main_v157 main_v122 main_v158 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v158 main_v159 (broadcastInDim S1024x1 ![0] bcast_S1024_S1024x1_0 : (⟨S1024, .i32⟩ : BufTy).Contents (Elt F) → (⟨S1024x1, .i32⟩ : BufTy).Contents (Elt F)),
    ternary main_v150 main_v159 main_v153 main_v160 ((fun x i u => Host.scatterAdd scatter_S4096x2048_S1024x1_S1024x2048_1_0_0_1 x i u) : (⟨S4096x2048, .f32⟩ : BufTy).Contents (Elt F) → (⟨S1024x1, .i32⟩ : BufTy).Contents (Elt F) → (⟨S1024x2048, .f32⟩ : BufTy).Contents (Elt F) → (⟨S4096x2048, .f32⟩ : BufTy).Contents (Elt F)) ]
/-- The references stage 21 writes. -/
abbrev wr21 : List (Ref sig .tc) := [main_cst_35, main_v150, main_v151, main_v152, main_v153, main_c_36, main_v154, main_v155, main_c_37, main_v156, main_v157, main_v158, main_v159, main_v160]
theorem st21_writes : (st21 : List (HloOp τ sig (Elt F))).map HloOp.writes = wr21.map fun r => {Proc.devRef (τ := τ) .tc r} := rfl
theorem st21_sub : (st21 : List (HloOp τ sig (Elt F))).Forall fun op => op.bufs ⊆ tcRefs τ sig :=
  ⟨nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem st21_fresh : (st21 : List (HloOp τ sig (Elt F))).Forall fun op => op.fresh = ∅ := forall_fresh_of_map rfl

/-- Stage 22, up to `main_v166`. -/
abbrev st22 : List (HloOp τ sig (Elt F)) :=
  [ nullary main_cst_38 (constant S_ .f32 0x3F800000#32),
    unary main_cst_38 main_v161 (broadcastInDim S4096 ![] bcast_S_S4096 : (⟨S_, .f32⟩ : BufTy).Contents (Elt F) → (⟨S4096, .f32⟩ : BufTy).Contents (Elt F)),
    binary main_v161 main_v138 main_v162 (subf : (⟨S4096, .f32⟩ : BufTy).Contents (Elt F) → (⟨S4096, .f32⟩ : BufTy).Contents (Elt F) → (⟨S4096, .f32⟩ : BufTy).Contents (Elt F)),
    unary main_v162 main_v163 (broadcastInDim S4096x1 ![0] bcast_S4096_S4096x1_0 : (⟨S4096, .f32⟩ : BufTy).Contents (Elt F) → (⟨S4096x1, .f32⟩ : BufTy).Contents (Elt F)),
    unary main_v163 main_v164 (broadcastInDim S4096x64 ![0, 1] bcast_S4096x1_S4096x64_0_1 : (⟨S4096x1, .f32⟩ : BufTy).Contents (Elt F) → (⟨S4096x64, .f32⟩ : BufTy).Contents (Elt F)),
    binary main_arg12 main_v164 main_v165 (mulf : (⟨S4096x64, .f32⟩ : BufTy).Contents (Elt F) → (⟨S4096x64, .f32⟩ : BufTy).Contents (Elt F) → (⟨S4096x64, .f32⟩ : BufTy).Contents (Elt F)),
    binary main_v165 main_v149 main_v166 (addf : (⟨S4096x64, .f32⟩ : BufTy).Contents (Elt F) → (⟨S4096x64, .f32⟩ : BufTy).Contents (Elt F) → (⟨S4096x64, .f32⟩ : BufTy).Contents (Elt F)) ]
/-- The references stage 22 writes. -/
abbrev wr22 : List (Ref sig .tc) := [main_cst_38, main_v161, main_v162, main_v163, main_v164, main_v165, main_v166]
theorem st22_writes : (st22 : List (HloOp τ sig (Elt F))).map HloOp.writes = wr22.map fun r => {Proc.devRef (τ := τ) .tc r} := rfl
theorem st22_sub : (st22 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub ..⟩
theorem st22_fresh : (st22 : List (HloOp τ sig (Elt F))).Forall fun op => op.fresh = ∅ := forall_fresh_of_map rfl

/-- Stage 23, up to `main_v172`. -/
abbrev st23 : List (HloOp τ sig (Elt F)) :=
  [ nullary main_cst_39 (constant S_ .f32 0x3F800000#32),
    unary main_cst_39 main_v167 (broadcastInDim S4096 ![] bcast_S_S4096 : (⟨S_, .f32⟩ : BufTy).Contents (Elt F) → (⟨S4096, .f32⟩ : BufTy).Contents (Elt F)),
    binary main_v167 main_v138 main_v168 (subf : (⟨S4096, .f32⟩ : BufTy).Contents (Elt F) → (⟨S4096, .f32⟩ : BufTy).Contents (Elt F) → (⟨S4096, .f32⟩ : BufTy).Contents (Elt F)),
    unary main_v168 main_v169 (broadcastInDim S4096x1 ![0] bcast_S4096_S4096x1_0 : (⟨S4096, .f32⟩ : BufTy).Contents (Elt F) → (⟨S4096x1, .f32⟩ : BufTy).Contents (Elt F)),
    unary main_v169 main_v170 (broadcastInDim S4096x2048 ![0, 1] bcast_S4096x1_S4096x2048_0_1 : (⟨S4096x1, .f32⟩ : BufTy).Contents (Elt F) → (⟨S4096x2048, .f32⟩ : BufTy).Contents (Elt F)),
    binary main_arg13 main_v170 main_v171 (mulf : (⟨S4096x2048, .f32⟩ : BufTy).Contents (Elt F) → (⟨S4096x2048, .f32⟩ : BufTy).Contents (Elt F) → (⟨S4096x2048, .f32⟩ : BufTy).Contents (Elt F)),
    binary main_v171 main_v160 main_v172 (addf : (⟨S4096x2048, .f32⟩ : BufTy).Contents (Elt F) → (⟨S4096x2048, .f32⟩ : BufTy).Contents (Elt F) → (⟨S4096x2048, .f32⟩ : BufTy).Contents (Elt F)) ]
/-- The references stage 23 writes. -/
abbrev wr23 : List (Ref sig .tc) := [main_cst_39, main_v167, main_v168, main_v169, main_v170, main_v171, main_v172]
theorem st23_writes : (st23 : List (HloOp τ sig (Elt F))).map HloOp.writes = wr23.map fun r => {Proc.devRef (τ := τ) .tc r} := rfl
theorem st23_sub : (st23 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub ..⟩
theorem st23_fresh : (st23 : List (HloOp τ sig (Elt F))).Forall fun op => op.fresh = ∅ := forall_fresh_of_map rfl

/-- Stage 24, up to `main_v177`. -/
abbrev st24 : List (HloOp τ sig (Elt F)) :=
  [ unary main_arg14 main_v173 ((transpose S128x4096 [1, 0] · transposes_S4096x128_S128x4096_1_0) : (⟨S4096x128, .f32⟩ : BufTy).Contents (Elt F) → (⟨S128x4096, .f32⟩ : BufTy).Contents (Elt F)),
    binary main_arg1 main_v173 main_v174 ((fun l r => Host.dotGeneral dot_S1024x128_S128x4096_S1024x4096_1_0_0_1_n_n none l r) : (⟨S1024x128, .f32⟩ : BufTy).Contents (Elt F) → (⟨S128x4096, .f32⟩ : BufTy).Contents (Elt F) → (⟨S1024x4096, .f32⟩ : BufTy).Contents (Elt F)),
    nullary main_cst_40 (constant S_ .f32 0x43000000#32),
    unary main_cst_40 main_v175 (Host.sqrt : (⟨S_, .f32⟩ : BufTy).Contents (Elt F) → (⟨S_, .f32⟩ : BufTy).Contents (Elt F)),
    unary main_v175 main_v176 (broadcastInDim S1024x4096 ![] bcast_S_S1024x4096 : (⟨S_, .f32⟩ : BufTy).Contents (Elt F) → (⟨S1024x4096, .f32⟩ : BufTy).Contents (Elt F)),
    binary main_v174 main_v176 main_v177 (Host.divf : (⟨S1024x4096, .f32⟩ : BufTy).Contents (Elt F) → (⟨S1024x4096, .f32⟩ : BufTy).Contents (Elt F) → (⟨S1024x4096, .f32⟩ : BufTy).Contents (Elt F)) ]
/-- The references stage 24 writes. -/
abbrev wr24 : List (Ref sig .tc) := [main_v173, main_v174, main_cst_40, main_v175, main_v176, main_v177]
theorem st24_writes : (st24 : List (HloOp τ sig (Elt F))).map HloOp.writes = wr24.map fun r => {Proc.devRef (τ := τ) .tc r} := rfl
theorem st24_sub : (st24 : List (HloOp τ sig (Elt F))).Forall fun op => op.bufs ⊆ tcRefs τ sig :=
  ⟨unary_bufs_sub .., binary_bufs_sub .., nullary_bufs_sub .., unary_bufs_sub .., unary_bufs_sub .., binary_bufs_sub ..⟩
theorem st24_fresh : (st24 : List (HloOp τ sig (Elt F))).Forall fun op => op.fresh = ∅ := forall_fresh_of_map rfl

/-- Stage 25, up to `main_v178`. -/
abbrev st25 : List (HloOp τ sig (Elt F)) :=
  [ TRef.nullary (TRef.of (T := ⟨S1024x4096, .i32⟩) main_call1_v0) (iotaInDim S1024x4096 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S1024x4096, .f32⟩) main_v177) (TRef.of (T := ⟨S1024x4096, .i32⟩) main_call1_v0) (TRef.of (T := ⟨S_, .f32⟩) main_call1_cst) (TRef.of (T := ⟨S_, .i32⟩) main_call1_c) (TRef.of (T := ⟨S1024, .f32⟩) main_call1_v1_0) (fun x y u v j => (Host.argReduce reducer_argmax_f32_i32 x y u v reducesTo_S1024x4096_S1024_d1 h_S_ j).1),
    TRef.quaternary (TRef.of (T := ⟨S1024x4096, .f32⟩) main_v177) (TRef.of (T := ⟨S1024x4096, .i32⟩) main_call1_v0) (TRef.of (T := ⟨S_, .f32⟩) main_call1_cst) (TRef.of (T := ⟨S_, .i32⟩) main_call1_c) (TRef.of (T := ⟨S1024, .i32⟩) main_v178) (fun x y u v j => (Host.argReduce reducer_argmax_f32_i32 x y u v reducesTo_S1024x4096_S1024_d1 h_S_ j).2) ]
/-- The references stage 25 writes. -/
abbrev wr25 : List (Ref sig .tc) := [main_call1_v0, main_call1_cst, main_call1_c, main_call1_v1_0, main_v178]
theorem st25_writes : (st25 : List (HloOp τ sig (Elt F))).map HloOp.writes = wr25.map fun r => {Proc.devRef (τ := τ) .tc r} := rfl
theorem st25_sub : (st25 : List (HloOp τ sig (Elt F))).Forall fun op => op.bufs ⊆ tcRefs τ sig :=
  ⟨nullary_bufs_sub .., nullary_bufs_sub .., nullary_bufs_sub .., quaternary_bufs_sub .., quaternary_bufs_sub ..⟩
theorem st25_fresh : (st25 : List (HloOp τ sig (Elt F))).Forall fun op => op.fresh = ∅ := forall_fresh_of_map rfl

/-- Stage 26, up to `main_v186`. -/
abbrev st26 : List (HloOp τ sig (Elt F)) :=
  [ unary main_v42 main_v179 (Host.negf : (⟨S1024, .f32⟩ : BufTy).Contents (Elt F) → (⟨S1024, .f32⟩ : BufTy).Contents (Elt F)),
    unary main_v179 main_v180 (Host.exp : (⟨S1024, .f32⟩ : BufTy).Contents (Elt F) → (⟨S1024, .f32⟩ : BufTy).Contents (Elt F)),
    nullary main_cst_41 (constant S_ .f32 0x3F800000#32),
    unary main_cst_41 main_v181 (broadcastInDim S1024 ![] bcast_S_S1024 : (⟨S_, .f32⟩ : BufTy).Contents (Elt F) → (⟨S1024, .f32⟩ : BufTy).Contents (Elt F)),
    binary main_v181 main_v180 main_v182 (addf : (⟨S1024, .f32⟩ : BufTy).Contents (Elt F) → (⟨S1024, .f32⟩ : BufTy).Contents (Elt F) → (⟨S1024, .f32⟩ : BufTy).Contents (Elt F)),
    nullary main_cst_42 (constant S_ .f32 0x3F800000#32),
    unary main_cst_42 main_v183 (broadcastInDim S1024 ![] bcast_S_S1024 : (⟨S_, .f32⟩ : BufTy).Contents (Elt F) → (⟨S1024, .f32⟩ : BufTy).Contents (Elt F)),
    binary main_v183 main_v182 main_v184 (Host.divf : (⟨S1024, .f32⟩ : BufTy).Contents (Elt F) → (⟨S1024, .f32⟩ : BufTy).Contents (Elt F) → (⟨S1024, .f32⟩ : BufTy).Contents (Elt F)),
    nullary main_cst_43 (constant S_ .f32 0x3DCCCCCD#32),
    unary main_cst_43 main_v185 (broadcastInDim S1024 ![] bcast_S_S1024 : (⟨S_, .f32⟩ : BufTy).Contents (Elt F) → (⟨S1024, .f32⟩ : BufTy).Contents (Elt F)),
    binary main_v185 main_v184 main_v186 (mulf : (⟨S1024, .f32⟩ : BufTy).Contents (Elt F) → (⟨S1024, .f32⟩ : BufTy).Contents (Elt F) → (⟨S1024, .f32⟩ : BufTy).Contents (Elt F)) ]
/-- The references stage 26 writes. -/
abbrev wr26 : List (Ref sig .tc) := [main_v179, main_v180, main_cst_41, main_v181, main_v182, main_cst_42, main_v183, main_v184, main_cst_43, main_v185, main_v186]
theorem st26_writes : (st26 : List (HloOp τ sig (Elt F))).map HloOp.writes = wr26.map fun r => {Proc.devRef (τ := τ) .tc r} := rfl
theorem st26_sub : (st26 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub ..⟩
theorem st26_fresh : (st26 : List (HloOp τ sig (Elt F))).Forall fun op => op.fresh = ∅ := forall_fresh_of_map rfl

/-- Stage 27, up to `main_v190`. -/
abbrev st27 : List (HloOp τ sig (Elt F)) :=
  [ nullary main_cst_44 (constant S_ .f32 0x00000000#32),
    unary main_cst_44 main_v187 (broadcastInDim S4096 ![] bcast_S_S4096 : (⟨S_, .f32⟩ : BufTy).Contents (Elt F) → (⟨S4096, .f32⟩ : BufTy).Contents (Elt F)),
    nullary main_c_45 (constantI S_ 32 0#32),
    unary main_c_45 main_v188 (broadcastInDim S1024 ![] bcast_S_S1024 : (⟨S_, .i32⟩ : BufTy).Contents (Elt F) → (⟨S1024, .i32⟩ : BufTy).Contents (Elt F)),
    binary main_v178 main_v188 main_v189 (cmpi .slt : (⟨S1024, .i32⟩ : BufTy).Contents (Elt F) → (⟨S1024, .i32⟩ : BufTy).Contents (Elt F) → (⟨S1024, .i1⟩ : BufTy).Contents (Elt F)),
    nullary main_c_46 (constantI S_ 32 4096#32),
    unary main_c_46 main_v190 (broadcastInDim S1024 ![] bcast_S_S1024 : (⟨S_, .i32⟩ : BufTy).Contents (Elt F) → (⟨S1024, .i32⟩ : BufTy).Contents (Elt F)) ]
/-- The references stage 27 writes. -/
abbrev wr27 : List (Ref sig .tc) := [main_cst_44, main_v187, main_c_45, main_v188, main_v189, main_c_46, main_v190]
theorem st27_writes : (st27 : List (HloOp τ sig (Elt F))).map HloOp.writes = wr27.map fun r => {Proc.devRef (τ := τ) .tc r} := rfl
theorem st27_sub : (st27 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub ..⟩
theorem st27_fresh : (st27 : List (HloOp τ sig (Elt F))).Forall fun op => op.fresh = ∅ := forall_fresh_of_map rfl

/-- Stage 28, up to `main_v194`. -/
abbrev st28 : List (HloOp τ sig (Elt F)) :=
  [ binary main_v178 main_v190 main_v191 (addi : (⟨S1024, .i32⟩ : BufTy).Contents (Elt F) → (⟨S1024, .i32⟩ : BufTy).Contents (Elt F) → (⟨S1024, .i32⟩ : BufTy).Contents (Elt F)),
    ternary main_v189 main_v191 main_v178 main_v192 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v192 main_v193 (broadcastInDim S1024x1 ![0] bcast_S1024_S1024x1_0 : (⟨S1024, .i32⟩ : BufTy).Contents (Elt F) → (⟨S1024x1, .i32⟩ : BufTy).Contents (Elt F)),
    ternary main_v187 main_v193 main_v186 main_v194 ((fun x i u => Host.scatterAdd scatter_S4096_S1024x1_S1024_n_0_0_1 x i u) : (⟨S4096, .f32⟩ : BufTy).Contents (Elt F) → (⟨S1024x1, .i32⟩ : BufTy).Contents (Elt F) → (⟨S1024, .f32⟩ : BufTy).Contents (Elt F) → (⟨S4096, .f32⟩ : BufTy).Contents (Elt F)) ]
/-- The references stage 28 writes. -/
abbrev wr28 : List (Ref sig .tc) := [main_v191, main_v192, main_v193, main_v194]
theorem st28_writes : (st28 : List (HloOp τ sig (Elt F))).map HloOp.writes = wr28.map fun r => {Proc.devRef (τ := τ) .tc r} := rfl
theorem st28_sub : (st28 : List (HloOp τ sig (Elt F))).Forall fun op => op.bufs ⊆ tcRefs τ sig :=
  ⟨binary_bufs_sub .., ternary_bufs_sub .., unary_bufs_sub .., ternary_bufs_sub ..⟩
theorem st28_fresh : (st28 : List (HloOp τ sig (Elt F))).Forall fun op => op.fresh = ∅ := forall_fresh_of_map rfl

/-- Stage 29, up to `main_v205`. -/
abbrev st29 : List (HloOp τ sig (Elt F)) :=
  [ nullary main_cst_47 (constant S_ .f32 0x00000000#32),
    unary main_cst_47 main_v195 (broadcastInDim S4096x128 ![] bcast_S_S4096x128 : (⟨S_, .f32⟩ : BufTy).Contents (Elt F) → (⟨S4096x128, .f32⟩ : BufTy).Contents (Elt F)),
    unary main_v186 main_v196 (broadcastInDim S1024x1 ![0] bcast_S1024_S1024x1_0 : (⟨S1024, .f32⟩ : BufTy).Contents (Elt F) → (⟨S1024x1, .f32⟩ : BufTy).Contents (Elt F)),
    unary main_v196 main_v197 (broadcastInDim S1024x128 ![0, 1] bcast_S1024x1_S1024x128_0_1 : (⟨S1024x1, .f32⟩ : BufTy).Contents (Elt F) → (⟨S1024x128, .f32⟩ : BufTy).Contents (Elt F)),
    binary main_v197 main_arg1 main_v198 (mulf : (⟨S1024x128, .f32⟩ : BufTy).Contents (Elt F) → (⟨S1024x128, .f32⟩ : BufTy).Contents (Elt F) → (⟨S1024x128, .f32⟩ : BufTy).Contents (Elt F)),
    nullary main_c_48 (constantI S_ 32 0#32),
    unary main_c_48 main_v199 (broadcastInDim S1024 ![] bcast_S_S1024 : (⟨S_, .i32⟩ : BufTy).Contents (Elt F) → (⟨S1024, .i32⟩ : BufTy).Contents (Elt F)),
    binary main_v178 main_v199 main_v200 (cmpi .slt : (⟨S1024, .i32⟩ : BufTy).Contents (Elt F) → (⟨S1024, .i32⟩ : BufTy).Contents (Elt F) → (⟨S1024, .i1⟩ : BufTy).Contents (Elt F)),
    nullary main_c_49 (constantI S_ 32 4096#32),
    unary main_c_49 main_v201 (broadcastInDim S1024 ![] bcast_S_S1024 : (⟨S_, .i32⟩ : BufTy).Contents (Elt F) → (⟨S1024, .i32⟩ : BufTy).Contents (Elt F)),
    binary main_v178 main_v201 main_v202 (addi : (⟨S1024, .i32⟩ : BufTy).Contents (Elt F) → (⟨S1024, .i32⟩ : BufTy).Contents (Elt F) → (⟨S1024, .i32⟩ : BufTy).Contents (Elt F)),
    ternary main_v200 main_v202 main_v178 main_v203 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v203 main_v204 (broadcastInDim S1024x1 ![0] bcast_S1024_S1024x1_0 : (⟨S1024, .i32⟩ : BufTy).Contents (Elt F) → (⟨S1024x1, .i32⟩ : BufTy).Contents (Elt F)),
    ternary main_v195 main_v204 main_v198 main_v205 ((fun x i u => Host.scatterAdd scatter_S4096x128_S1024x1_S1024x128_1_0_0_1 x i u) : (⟨S4096x128, .f32⟩ : BufTy).Contents (Elt F) → (⟨S1024x1, .i32⟩ : BufTy).Contents (Elt F) → (⟨S1024x128, .f32⟩ : BufTy).Contents (Elt F) → (⟨S4096x128, .f32⟩ : BufTy).Contents (Elt F)) ]
/-- The references stage 29 writes. -/
abbrev wr29 : List (Ref sig .tc) := [main_cst_47, main_v195, main_v196, main_v197, main_v198, main_c_48, main_v199, main_v200, main_c_49, main_v201, main_v202, main_v203, main_v204, main_v205]
theorem st29_writes : (st29 : List (HloOp τ sig (Elt F))).map HloOp.writes = wr29.map fun r => {Proc.devRef (τ := τ) .tc r} := rfl
theorem st29_sub : (st29 : List (HloOp τ sig (Elt F))).Forall fun op => op.bufs ⊆ tcRefs τ sig :=
  ⟨nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem st29_fresh : (st29 : List (HloOp τ sig (Elt F))).Forall fun op => op.fresh = ∅ := forall_fresh_of_map rfl

/-- Stage 30, up to `main_v216`. -/
abbrev st30 : List (HloOp τ sig (Elt F)) :=
  [ nullary main_cst_50 (constant S_ .f32 0x00000000#32),
    unary main_cst_50 main_v206 (broadcastInDim S4096x2048 ![] bcast_S_S4096x2048 : (⟨S_, .f32⟩ : BufTy).Contents (Elt F) → (⟨S4096x2048, .f32⟩ : BufTy).Contents (Elt F)),
    unary main_v186 main_v207 (broadcastInDim S1024x1 ![0] bcast_S1024_S1024x1_0 : (⟨S1024, .f32⟩ : BufTy).Contents (Elt F) → (⟨S1024x1, .f32⟩ : BufTy).Contents (Elt F)),
    unary main_v207 main_v208 (broadcastInDim S1024x2048 ![0, 1] bcast_S1024x1_S1024x2048_0_1 : (⟨S1024x1, .f32⟩ : BufTy).Contents (Elt F) → (⟨S1024x2048, .f32⟩ : BufTy).Contents (Elt F)),
    binary main_v208 main_v116 main_v209 (mulf : (⟨S1024x2048, .f32⟩ : BufTy).Contents (Elt F) → (⟨S1024x2048, .f32⟩ : BufTy).Contents (Elt F) → (⟨S1024x2048, .f32⟩ : BufTy).Contents (Elt F)),
    nullary main_c_51 (constantI S_ 32 0#32),
    unary main_c_51 main_v210 (broadcastInDim S1024 ![] bcast_S_S1024 : (⟨S_, .i32⟩ : BufTy).Contents (Elt F) → (⟨S1024, .i32⟩ : BufTy).Contents (Elt F)),
    binary main_v178 main_v210 main_v211 (cmpi .slt : (⟨S1024, .i32⟩ : BufTy).Contents (Elt F) → (⟨S1024, .i32⟩ : BufTy).Contents (Elt F) → (⟨S1024, .i1⟩ : BufTy).Contents (Elt F)),
    nullary main_c_52 (constantI S_ 32 4096#32),
    unary main_c_52 main_v212 (broadcastInDim S1024 ![] bcast_S_S1024 : (⟨S_, .i32⟩ : BufTy).Contents (Elt F) → (⟨S1024, .i32⟩ : BufTy).Contents (Elt F)),
    binary main_v178 main_v212 main_v213 (addi : (⟨S1024, .i32⟩ : BufTy).Contents (Elt F) → (⟨S1024, .i32⟩ : BufTy).Contents (Elt F) → (⟨S1024, .i32⟩ : BufTy).Contents (Elt F)),
    ternary main_v211 main_v213 main_v178 main_v214 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v214 main_v215 (broadcastInDim S1024x1 ![0] bcast_S1024_S1024x1_0 : (⟨S1024, .i32⟩ : BufTy).Contents (Elt F) → (⟨S1024x1, .i32⟩ : BufTy).Contents (Elt F)),
    ternary main_v206 main_v215 main_v209 main_v216 ((fun x i u => Host.scatterAdd scatter_S4096x2048_S1024x1_S1024x2048_1_0_0_1 x i u) : (⟨S4096x2048, .f32⟩ : BufTy).Contents (Elt F) → (⟨S1024x1, .i32⟩ : BufTy).Contents (Elt F) → (⟨S1024x2048, .f32⟩ : BufTy).Contents (Elt F) → (⟨S4096x2048, .f32⟩ : BufTy).Contents (Elt F)) ]
/-- The references stage 30 writes. -/
abbrev wr30 : List (Ref sig .tc) := [main_cst_50, main_v206, main_v207, main_v208, main_v209, main_c_51, main_v210, main_v211, main_c_52, main_v212, main_v213, main_v214, main_v215, main_v216]
theorem st30_writes : (st30 : List (HloOp τ sig (Elt F))).map HloOp.writes = wr30.map fun r => {Proc.devRef (τ := τ) .tc r} := rfl
theorem st30_sub : (st30 : List (HloOp τ sig (Elt F))).Forall fun op => op.bufs ⊆ tcRefs τ sig :=
  ⟨nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub ..⟩
theorem st30_fresh : (st30 : List (HloOp τ sig (Elt F))).Forall fun op => op.fresh = ∅ := forall_fresh_of_map rfl

/-- Stage 31, up to `main_v222`. -/
abbrev st31 : List (HloOp τ sig (Elt F)) :=
  [ nullary main_cst_53 (constant S_ .f32 0x3F800000#32),
    unary main_cst_53 main_v217 (broadcastInDim S4096 ![] bcast_S_S4096 : (⟨S_, .f32⟩ : BufTy).Contents (Elt F) → (⟨S4096, .f32⟩ : BufTy).Contents (Elt F)),
    binary main_v217 main_v194 main_v218 (subf : (⟨S4096, .f32⟩ : BufTy).Contents (Elt F) → (⟨S4096, .f32⟩ : BufTy).Contents (Elt F) → (⟨S4096, .f32⟩ : BufTy).Contents (Elt F)),
    unary main_v218 main_v219 (broadcastInDim S4096x1 ![0] bcast_S4096_S4096x1_0 : (⟨S4096, .f32⟩ : BufTy).Contents (Elt F) → (⟨S4096x1, .f32⟩ : BufTy).Contents (Elt F)),
    unary main_v219 main_v220 (broadcastInDim S4096x128 ![0, 1] bcast_S4096x1_S4096x128_0_1 : (⟨S4096x1, .f32⟩ : BufTy).Contents (Elt F) → (⟨S4096x128, .f32⟩ : BufTy).Contents (Elt F)),
    binary main_arg14 main_v220 main_v221 (mulf : (⟨S4096x128, .f32⟩ : BufTy).Contents (Elt F) → (⟨S4096x128, .f32⟩ : BufTy).Contents (Elt F) → (⟨S4096x128, .f32⟩ : BufTy).Contents (Elt F)),
    binary main_v221 main_v205 main_v222 (addf : (⟨S4096x128, .f32⟩ : BufTy).Contents (Elt F) → (⟨S4096x128, .f32⟩ : BufTy).Contents (Elt F) → (⟨S4096x128, .f32⟩ : BufTy).Contents (Elt F)) ]
/-- The references stage 31 writes. -/
abbrev wr31 : List (Ref sig .tc) := [main_cst_53, main_v217, main_v218, main_v219, main_v220, main_v221, main_v222]
theorem st31_writes : (st31 : List (HloOp τ sig (Elt F))).map HloOp.writes = wr31.map fun r => {Proc.devRef (τ := τ) .tc r} := rfl
theorem st31_sub : (st31 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub ..⟩
theorem st31_fresh : (st31 : List (HloOp τ sig (Elt F))).Forall fun op => op.fresh = ∅ := forall_fresh_of_map rfl

/-- Stage 32, up to `main_v228`. -/
abbrev st32 : List (HloOp τ sig (Elt F)) :=
  [ nullary main_cst_54 (constant S_ .f32 0x3F800000#32),
    unary main_cst_54 main_v223 (broadcastInDim S4096 ![] bcast_S_S4096 : (⟨S_, .f32⟩ : BufTy).Contents (Elt F) → (⟨S4096, .f32⟩ : BufTy).Contents (Elt F)),
    binary main_v223 main_v194 main_v224 (subf : (⟨S4096, .f32⟩ : BufTy).Contents (Elt F) → (⟨S4096, .f32⟩ : BufTy).Contents (Elt F) → (⟨S4096, .f32⟩ : BufTy).Contents (Elt F)),
    unary main_v224 main_v225 (broadcastInDim S4096x1 ![0] bcast_S4096_S4096x1_0 : (⟨S4096, .f32⟩ : BufTy).Contents (Elt F) → (⟨S4096x1, .f32⟩ : BufTy).Contents (Elt F)),
    unary main_v225 main_v226 (broadcastInDim S4096x2048 ![0, 1] bcast_S4096x1_S4096x2048_0_1 : (⟨S4096x1, .f32⟩ : BufTy).Contents (Elt F) → (⟨S4096x2048, .f32⟩ : BufTy).Contents (Elt F)),
    binary main_arg15 main_v226 main_v227 (mulf : (⟨S4096x2048, .f32⟩ : BufTy).Contents (Elt F) → (⟨S4096x2048, .f32⟩ : BufTy).Contents (Elt F) → (⟨S4096x2048, .f32⟩ : BufTy).Contents (Elt F)),
    binary main_v227 main_v216 main_v228 (addf : (⟨S4096x2048, .f32⟩ : BufTy).Contents (Elt F) → (⟨S4096x2048, .f32⟩ : BufTy).Contents (Elt F) → (⟨S4096x2048, .f32⟩ : BufTy).Contents (Elt F)) ]
/-- The references stage 32 writes. -/
abbrev wr32 : List (Ref sig .tc) := [main_cst_54, main_v223, main_v224, main_v225, main_v226, main_v227, main_v228]
theorem st32_writes : (st32 : List (HloOp τ sig (Elt F))).map HloOp.writes = wr32.map fun r => {Proc.devRef (τ := τ) .tc r} := rfl
theorem st32_sub : (st32 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub ..⟩
theorem st32_fresh : (st32 : List (HloOp τ sig (Elt F))).Forall fun op => op.fresh = ∅ := forall_fresh_of_map rfl

/-- The stages of part 0 of the program. -/
def part0 : List (HloOp τ sig (Elt F)) := st0 ++ (st1 ++ (st2 ++ (st3 ++ (st4 ++ (st5 ++ (st6))))))
set_option maxHeartbeats 4000000 in
theorem main_part0_eq (c : Dev nD) : main_part0 (F := F) c = seq part0 := rfl
/-- The stages of part 1 of the program. -/
def part1 : List (HloOp τ sig (Elt F)) := st7 ++ (st8 ++ (st9 ++ (st10 ++ (st11 ++ (st12)))))
set_option maxHeartbeats 4000000 in
theorem main_part1_eq (c : Dev nD) : main_part1 (F := F) c = seq part1 := rfl
/-- The stages of part 2 of the program. -/
def part2 : List (HloOp τ sig (Elt F)) := st13 ++ (st14 ++ (st15 ++ (st16 ++ (st17 ++ (st18 ++ (st19))))))
set_option maxHeartbeats 4000000 in
theorem main_part2_eq (c : Dev nD) : main_part2 (F := F) c = seq part2 := rfl
/-- The stages of part 3 of the program. -/
def part3 : List (HloOp τ sig (Elt F)) := st20 ++ (st21 ++ (st22 ++ (st23 ++ (st24 ++ (st25 ++ (st26 ++ (st27)))))))
set_option maxHeartbeats 4000000 in
theorem main_part3_eq (c : Dev nD) : main_part3 (F := F) c = seq part3 := rfl
/-- The stages of part 4 of the program. -/
def part4 : List (HloOp τ sig (Elt F)) := st28 ++ (st29 ++ (st30 ++ (st31 ++ (st32))))
set_option maxHeartbeats 4000000 in
theorem main_part4_eq (c : Dev nD) : main_part4 (F := F) c = seq part4 := rfl

/-- All stages, in order. -/
def stages : List (List (HloOp τ sig (Elt F))) := [st0, st1, st2, st3, st4, st5, st6, st7, st8, st9, st10, st11, st12, st13, st14, st15, st16, st17, st18, st19, st20, st21, st22, st23, st24, st25, st26, st27, st28, st29, st30, st31, st32]
/-- What each stage writes. -/
def writesOf : List (List (Ref sig .tc)) := [wr0, wr1, wr2, wr3, wr4, wr5, wr6, wr7, wr8, wr9, wr10, wr11, wr12, wr13, wr14, wr15, wr16, wr17, wr18, wr19, wr20, wr21, wr22, wr23, wr24, wr25, wr26, wr27, wr28, wr29, wr30, wr31, wr32]
/-- The whole program's operations. -/
def ops : List (HloOp τ sig (Elt F)) := (stages (F := F)).flatten

theorem ops_parts : (ops : List (HloOp τ sig (Elt F))) = part0 ++ (part1 ++ (part2 ++ (part3 ++ part4))) := by
  simp only [ops, stages, part0, part1, part2, part3, part4, List.flatten_cons, List.flatten_nil, List.append_nil, List.append_assoc]

theorem main_eq (c : Dev nD) : main (F := F) c = seq ops := by
  simp only [ops_parts, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property every stage's operations have, every operation has. -/
theorem forall_ops {p : HloOp τ sig (Elt F) → Prop} (h : ∀ s ∈ stages (F := F), s.Forall p) : (ops (F := F)).Forall p :=
  List.forall_iff_forall_mem.mpr fun op hop => by
    obtain ⟨s, hs, ho⟩ := List.mem_flatten.mp hop
    exact List.forall_iff_forall_mem.mp (h s hs) op ho

theorem ops_sub : (ops : List (HloOp τ sig (Elt F))).Forall fun op => op.bufs ⊆ tcRefs τ sig := by
  refine forall_ops fun s hs => ?_
  simp only [stages, List.mem_cons, List.not_mem_nil, or_false] at hs
  rcases hs with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  exacts [st0_sub, st1_sub, st2_sub, st3_sub, st4_sub, st5_sub, st6_sub, st7_sub, st8_sub, st9_sub, st10_sub, st11_sub, st12_sub, st13_sub, st14_sub, st15_sub, st16_sub, st17_sub, st18_sub, st19_sub, st20_sub, st21_sub, st22_sub, st23_sub, st24_sub, st25_sub, st26_sub, st27_sub, st28_sub, st29_sub, st30_sub, st31_sub, st32_sub]

theorem ops_fresh : ∀ op ∈ (ops : List (HloOp τ sig (Elt F))), op.fresh = ∅ := by
  refine List.forall_iff_forall_mem.mp (forall_ops fun s hs => ?_)
  simp only [stages, List.mem_cons, List.not_mem_nil, or_false] at hs
  rcases hs with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  exacts [st0_fresh, st1_fresh, st2_fresh, st3_fresh, st4_fresh, st5_fresh, st6_fresh, st7_fresh, st8_fresh, st9_fresh, st10_fresh, st11_fresh, st12_fresh, st13_fresh, st14_fresh, st15_fresh, st16_fresh, st17_fresh, st18_fresh, st19_fresh, st20_fresh, st21_fresh, st22_fresh, st23_fresh, st24_fresh, st25_fresh, st26_fresh, st27_fresh, st28_fresh, st29_fresh, st30_fresh, st31_fresh, st32_fresh]

/-- Stage by stage, the references written. -/
theorem stages_writes : List.Forall₂ (fun (s : List (HloOp τ sig (Elt F))) (w : List (Ref sig .tc)) =>
    s.map HloOp.writes = w.map fun r => {Proc.devRef (τ := τ) .tc r}) stages writesOf :=
  .cons st0_writes (.cons st1_writes (.cons st2_writes (.cons st3_writes (.cons st4_writes (.cons st5_writes (.cons st6_writes (.cons st7_writes (.cons st8_writes (.cons st9_writes (.cons st10_writes (.cons st11_writes (.cons st12_writes (.cons st13_writes (.cons st14_writes (.cons st15_writes (.cons st16_writes (.cons st17_writes (.cons st18_writes (.cons st19_writes (.cons st20_writes (.cons st21_writes (.cons st22_writes (.cons st23_writes (.cons st24_writes (.cons st25_writes (.cons st26_writes (.cons st27_writes (.cons st28_writes (.cons st29_writes (.cons st30_writes (.cons st31_writes (.cons st32_writes .nil))))))))))))))))))))))))))))))))

theorem flatten_writes {S : List (List (HloOp τ sig (Elt F)))} {W : List (List (Ref sig .tc))}
    (h : List.Forall₂ (fun (s : List (HloOp τ sig (Elt F))) (w : List (Ref sig .tc)) =>
      s.map HloOp.writes = w.map fun r => {Proc.devRef (τ := τ) .tc r}) S W) :
    S.flatten.map HloOp.writes = W.flatten.map fun r => {Proc.devRef (τ := τ) .tc r} := by
  induction h with
  | nil => rfl
  | cons h _ ih => rw [List.flatten_cons, List.flatten_cons, List.map_append, List.map_append, h, ih]

/-- From stage `k` on, a reference none of the remaining stages writes keeps its contents. -/
theorem after_drop (k : ℕ) (V : Valuation τ sig (Elt F)) {r : Ref sig .tc} (hr : r ∉ (writesOf.drop k).flatten) :
    after ((stages (F := F)).drop k).flatten V (Proc.devRef .tc r) = V (Proc.devRef .tc r) :=
  after_of_writes_sub _ V (forall_writes_sub_of_map (flatten_writes (List.forall₂_drop k stages_writes))) hr

/-- What the arrays hold at the end of the program. -/
def fin (V : Valuation τ sig (Elt F)) : Valuation τ sig (Elt F) := after ops V
/-- What the arrays hold before stage `k`. -/
def upto (k : ℕ) (V : Valuation τ sig (Elt F)) : Valuation τ sig (Elt F) := after ((stages (F := F)).take k).flatten V

theorem fin_split (k : ℕ) (V : Valuation τ sig (Elt F)) : fin V = after ((stages (F := F)).drop k).flatten (upto k V) := by
  unfold fin upto ops
  rw [← after_append, ← List.flatten_append, List.take_append_drop]

/-- A reference that is not written from stage `k` on holds there what it holds at the end. -/
theorem upto_eq (k : ℕ) (V : Valuation τ sig (Elt F)) (r : Ref sig .tc) (hr : r ∉ (writesOf.drop k).flatten) :
    upto k V (Proc.devRef .tc r) = fin V (Proc.devRef .tc r) := by
  rw [fin_split k V, after_drop k _ hr]

/-- What stage `k` leaves in a reference no later stage writes is there at the end. -/
theorem fin_stage (k : ℕ) (s : List (HloOp τ sig (Elt F))) (hs : (stages (F := F))[k]? = some s) (V : Valuation τ sig (Elt F)) (r : Ref sig .tc)
    (hr : r ∉ (writesOf.drop (k + 1)).flatten) : fin V (Proc.devRef .tc r) = after s (upto k V) (Proc.devRef .tc r) := by
  obtain ⟨hk, rfl⟩ := List.getElem?_eq_some_iff.mp hs
  rw [fin_split k V, List.drop_eq_getElem_cons hk, List.flatten_cons, after_append, after_drop (k + 1) _ hr]

/-- An argument holds at the end what it holds at the start. -/
theorem fin_arg (V : Valuation τ sig (Elt F)) (r : Ref sig .tc) (hr : r ∉ writesOf.flatten) :
    fin V (Proc.devRef .tc r) = V (Proc.devRef .tc r) := by
  rw [fin_split 0 V, after_drop 0 _ hr]; rfl

/-- The run of the reference: every array ends at `fin` of what the launch holds, every semaphore at zero. -/
theorem run (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = fin (launchContents m c) (Proc.devRef .tc b))
      ∧ r.2.sem = fun _ => 0 :=
  (θ_run defs _ _).mono (fun r h => ⟨h, sem_eq_zero_of_no_sems (by decide) r.2⟩)
    (run_seq scopedRefs_eq scopedSems_eq defs main (fun _ => ops) main_eq (fun _ => ops_sub) m ρ fun _ => ops_fresh)

end Cert.ReferenceIdeal.Value

end
-- ==== Proof.Ref.Frame.lean ====
/- The frame of the reference. -/
module

public import proofs.«01_k».proof.Defs
public import proofs.«01_k».proof.Proof.Ref.Ops

@[expose] public section

set_option maxRecDepth 16384

noncomputable section

namespace Cert.Proof

open Idealize.ShloMosaic Idealize.ShloMosaic.TcCoe Idealize.SL.Sem Cert.ReferenceIdeal

attribute [local instance] Cert.ReferenceIdeal.Gen.facts

/-- The reference's arguments as they were. -/
abbrev RefUnchanged (m : (ℓ : Loc nD τ sig) → Buf (Elt Ideal) ℓ) (μ : MemSt nD τ sig (Elt Ideal)) : Prop :=
  ∀ c : Dev nD, μ.mem ((c.tc : Thread nD τ).loc main_arg0) = m ((c.tc : Thread nD τ).loc main_arg0) ∧ μ.mem ((c.tc : Thread nD τ).loc main_arg1) = m ((c.tc : Thread nD τ).loc main_arg1) ∧ μ.mem ((c.tc : Thread nD τ).loc main_arg2) = m ((c.tc : Thread nD τ).loc main_arg2) ∧ μ.mem ((c.tc : Thread nD τ).loc main_arg3) = m ((c.tc : Thread nD τ).loc main_arg3) ∧ μ.mem ((c.tc : Thread nD τ).loc main_arg4) = m ((c.tc : Thread nD τ).loc main_arg4) ∧ μ.mem ((c.tc : Thread nD τ).loc main_arg5) = m ((c.tc : Thread nD τ).loc main_arg5) ∧ μ.mem ((c.tc : Thread nD τ).loc main_arg6) = m ((c.tc : Thread nD τ).loc main_arg6) ∧ μ.mem ((c.tc : Thread nD τ).loc main_arg7) = m ((c.tc : Thread nD τ).loc main_arg7) ∧ μ.mem ((c.tc : Thread nD τ).loc main_arg8) = m ((c.tc : Thread nD τ).loc main_arg8) ∧ μ.mem ((c.tc : Thread nD τ).loc main_arg9) = m ((c.tc : Thread nD τ).loc main_arg9) ∧ μ.mem ((c.tc : Thread nD τ).loc main_arg10) = m ((c.tc : Thread nD τ).loc main_arg10) ∧ μ.mem ((c.tc : Thread nD τ).loc main_arg11) = m ((c.tc : Thread nD τ).loc main_arg11) ∧ μ.mem ((c.tc : Thread nD τ).loc main_arg12) = m ((c.tc : Thread nD τ).loc main_arg12) ∧ μ.mem ((c.tc : Thread nD τ).loc main_arg13) = m ((c.tc : Thread nD τ).loc main_arg13) ∧ μ.mem ((c.tc : Thread nD τ).loc main_arg14) = m ((c.tc : Thread nD τ).loc main_arg14) ∧ μ.mem ((c.tc : Thread nD τ).loc main_arg15) = m ((c.tc : Thread nD τ).loc main_arg15)

theorem ref_unchanged (m : (ℓ : Loc nD τ sig) → Buf (Elt Ideal) ℓ) {μ : MemSt nD τ sig (Elt Ideal)}
    (h : ∀ (c : Dev nD) (b : Ref sig .tc), μ.mem ((c.tc : Thread nD τ).loc b) = Value.fin (StableHlo.launchContents m c) (Proc.devRef .tc b)) :
    RefUnchanged m μ := fun c => ⟨(h c main_arg0).trans (Value.fin_arg _ main_arg0 (by decide)), (h c main_arg1).trans (Value.fin_arg _ main_arg1 (by decide)), (h c main_arg2).trans (Value.fin_arg _ main_arg2 (by decide)), (h c main_arg3).trans (Value.fin_arg _ main_arg3 (by decide)), (h c main_arg4).trans (Value.fin_arg _ main_arg4 (by decide)), (h c main_arg5).trans (Value.fin_arg _ main_arg5 (by decide)), (h c main_arg6).trans (Value.fin_arg _ main_arg6 (by decide)), (h c main_arg7).trans (Value.fin_arg _ main_arg7 (by decide)), (h c main_arg8).trans (Value.fin_arg _ main_arg8 (by decide)), (h c main_arg9).trans (Value.fin_arg _ main_arg9 (by decide)), (h c main_arg10).trans (Value.fin_arg _ main_arg10 (by decide)), (h c main_arg11).trans (Value.fin_arg _ main_arg11 (by decide)), (h c main_arg12).trans (Value.fin_arg _ main_arg12 (by decide)), (h c main_arg13).trans (Value.fin_arg _ main_arg13 (by decide)), (h c main_arg14).trans (Value.fin_arg _ main_arg14 (by decide)), (h c main_arg15).trans (Value.fin_arg _ main_arg15 (by decide))⟩

theorem frame_ReferenceIdeal : Cert.quiescent_ReferenceIdeal (hReferenceIdeal := Cert.ReferenceIdeal.Gen.facts) := fun m g _ =>
  (θ_run defs _ _).mono (fun r h => ⟨ref_unchanged m h.1, h.2⟩) (Value.run (F := Ideal) m g)

end Cert.Proof

end
-- ==== Proof.Value.Model.lean ====
/- The mathematics both programs compute, on plain families of extended reals: the read of an associative memory (scores, softmax,
   weighted sum), the gated write into it, the normalisation of a row, the Gaussian error unit. -/
module

public import Idealize.ShloMosaic.PureOps
public import Idealize.ShloMosaic.Lib.IdealHost
public import Idealize.ShloMosaic.Lib.Pointwise

@[expose] public section

noncomputable section

namespace Cert.Model

open Idealize.ShloMosaic

/-- An array read by its coordinates. -/
abbrev fam1 {a : ℕ} (x : (⟨1, ![a]⟩ : Shape).Idx → EReal) (i : Fin a) : EReal := x (ix1 i)
abbrev fam2 {a b : ℕ} (x : (⟨2, ![a, b]⟩ : Shape).Idx → EReal) (i : Fin a) (j : Fin b) : EReal := x (ix2 i j)
abbrev fam3 {a b c : ℕ} (x : (⟨3, ![a, b, c]⟩ : Shape).Idx → EReal) (i : Fin a) (j : Fin b) (k : Fin c) : EReal := x (ix3 i j k)

variable {n : ℕ}

/-- The words of the constants: the lowest float, the learning rate, the small number under the root, one half. -/
abbrev low : EReal := Ideal.ofBits .f32 0xFF800000#32
abbrev rate : EReal := Ideal.ofBits .f32 0x3DCCCCCD#32
abbrev eps : EReal := Ideal.ofBits .f32 0x3727C5AC#32
abbrev half : EReal := Ideal.ofBits .f32 0x3F000000#32

/-- The mean of the thirty-two rows of one batch element. -/
def mean (x : Fin 1024 → Fin 32 → Fin 64 → EReal) (b : Fin 1024) (d : Fin 64) : EReal :=
  Ideal.div (∑ p, x b p d) (Ideal.ofBits .f32 0x42000000#32)

/-- Query `b` against key `s`, over the root of the width `σ`. -/
def score (σ : EReal) (q : Fin 1024 → Fin n → EReal) (k : Fin 4096 → Fin n → EReal) (b : Fin 1024) (s : Fin 4096) : EReal :=
  Ideal.div (∑ x, q b x * k s x) (Ideal.sqrt σ)

section Row
variable (z : Fin 1024 → Fin 4096 → EReal) (b : Fin 1024)

/-- The greatest score of a row. -/
def best : EReal := Finset.univ.fold max low fun s => z b s

/-- The sum of the exponentials of a row. -/
def mass : EReal := ∑ s, Ideal.exp (z b s - best z b)

/-- One weight of the softmax of a row. -/
def attn (s : Fin 4096) : EReal := Ideal.div (Ideal.exp (z b s - best z b)) (mass z b)

/-- The values read: the softmax's weighted sum. -/
def read (vals : Fin 4096 → Fin 2048 → EReal) (v : Fin 2048) : EReal := ∑ s, attn z b s * vals s v

/-- What is written with: the rate times the gate of the surprise. -/
def weight : EReal := rate * Ideal.logistic (1 - Finset.univ.fold max low fun s => attn z b s)

/-- Where is written to: the first slot that holds the greatest score. -/
def slot : BitVec 32 :=
  Finset.univ.fold IntOp.minsi 2147483647#32 fun s : Fin 4096 => if z b s = best z b then BitVec.ofNat 32 s.val else 4096#32

/-- The share of slot `s` that batch element `b` overwrites. -/
def share (s : Fin 4096) : EReal := if slot z b = BitVec.ofNat 32 s.val then weight z b else 0

end Row

/-- The memory after the write: each slot keeps what is not overwritten and takes the shares of what is written. -/
def written (z : Fin 1024 → Fin 4096 → EReal) (old : Fin 4096 → Fin n → EReal) (new : Fin 1024 → Fin n → EReal) (s : Fin 4096) (x : Fin n) : EReal :=
  old s x * (1 - ∑ b, share z b s) + ∑ b, share z b s * new b x

/-- One entry of a row, normalised by the row's mean and variance, scaled and shifted. `N` is the row's length as a float. -/
def norm (N : EReal) (h : Fin n → EReal) (g β : Fin n → EReal) (j : Fin n) : EReal :=
  Ideal.div (h j - Ideal.div (∑ x, h x) N)
      (Ideal.sqrt (Ideal.div (∑ x, (h x - Ideal.div (∑ x, h x) N) * (h x - Ideal.div (∑ x, h x) N)) N + eps)) * g j + β j

/-- The Gaussian error unit. -/
def gelu (h : EReal) : EReal := half * h * (1 + Ideal.erf (Ideal.div h (Ideal.sqrt (Ideal.ofBits .f32 0x40000000#32))))

/-- The scores of the pairs' memory, of width 64, and of the macro memory, of width 128. -/
abbrev scoreP (x : Fin 1024 → Fin 32 → Fin 64 → EReal) (k : Fin 4096 → Fin 64 → EReal) := score (Ideal.ofBits .f32 0x42800000#32) (mean x) k
abbrev scoreM (q : Fin 1024 → Fin 128 → EReal) (k : Fin 4096 → Fin 128 → EReal) := score (Ideal.ofBits .f32 0x43000000#32) q k

/-- The first layer before its normalisation: both reads against the two halves of the first matrix, and the bias. -/
def hidden (p m : Fin 1024 → Fin 2048 → EReal) (w : Fin 4096 → Fin 2048 → EReal) (b1 : Fin 2048 → EReal) (b : Fin 1024) (v : Fin 2048) : EReal :=
  (∑ x : Fin 2048, p b x * w ⟨x.val, by omega⟩ v) + (∑ x : Fin 2048, m b x * w ⟨2048 + x.val, by omega⟩ v) + b1 v

/-- The first layer. -/
def act (h : Fin 1024 → Fin 2048 → EReal) (g β : Fin 2048 → EReal) (b : Fin 1024) (v : Fin 2048) : EReal :=
  gelu (norm (Ideal.ofBits .f32 0x45000000#32) (h b) g β v)

/-- The second layer. -/
def fused (a : Fin 1024 → Fin 2048 → EReal) (w : Fin 2048 → Fin 2048 → EReal) (b2 : Fin 2048 → EReal) (b : Fin 1024) (v : Fin 2048) : EReal :=
  (∑ x, a b x * w x v) + b2 v

/-- Pair `p`'s head before its normalisation: the state and the fused row against the two halves of its matrix, and the bias. -/
def head (x : Fin 1024 → Fin 32 → Fin 64 → EReal) (f : Fin 1024 → Fin 2048 → EReal) (w : Fin 32 → Fin 128 → Fin 64 → EReal)
    (c : Fin 32 → Fin 64 → EReal) (b : Fin 1024) (p : Fin 32) (o : Fin 64) : EReal :=
  (∑ i : Fin 64, x b p i * w p ⟨i.val, by omega⟩ o) + (∑ i : Fin 64, f b ⟨p.val * 64 + i.val, by omega⟩ * w p ⟨64 + i.val, by omega⟩ o) + c p o

/-- The heads. -/
def enriched (x : Fin 1024 → Fin 32 → Fin 64 → EReal) (f : Fin 1024 → Fin 2048 → EReal) (w : Fin 32 → Fin 128 → Fin 64 → EReal)
    (c g β : Fin 32 → Fin 64 → EReal) (b : Fin 1024) (p : Fin 32) (o : Fin 64) : EReal :=
  norm (Ideal.ofBits .f32 0x42800000#32) (head x f w c b p) (g p) (β p) o

/-- What is written into the values: the pair states of one batch element, laid out as one row. -/
def flat (x : Fin 1024 → Fin 32 → Fin 64 → EReal) (b : Fin 1024) (v : Fin 2048) : EReal := x b ⟨v.val / 64, by omega⟩ ⟨v.val % 64, by omega⟩

end Cert.Model

end
-- ==== Proof.Value.Arith.lean ====
/- Facts of arithmetic on the extended reals that the two programs' forms differ by. -/
module

public import proofs.«01_k».proof.Proof.Value.Model
public import Idealize.ShloMosaic.Lib.Pointwise

@[expose] public section

noncomputable section

namespace Cert.Model

open Idealize.ShloMosaic

theorem word_two : Ideal.ofBits .f32 0x40000000#32 = ((2 : ℝ) : EReal) := by
  simp [Ideal.ofBits, Ideal.ieee, -EReal.coe_mul]; norm_num
theorem word_32 : Ideal.ofBits .f32 0x42000000#32 = ((32 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_eighth : Ideal.ofBits .f32 0x3E000000#32 = ((1 / 8 : ℝ) : EReal) := by
  simp [Ideal.ofBits, Ideal.ieee, -EReal.coe_mul]; norm_num
theorem word_low : low = (⊥ : EReal) := by
  simp [low, Ideal.ofBits, Ideal.ieee]

/-- Dividing by a root is multiplying with its inverse. -/
theorem div_root {w : EReal} {r : ℝ} (h : w = (r : EReal)) (hr : 0 < r) (x : EReal) :
    Ideal.div x (Ideal.sqrt w) = x * (((Real.sqrt r)⁻¹ : ℝ) : EReal) := by
  rw [h, Ideal.sqrt_coe, if_neg (not_lt.2 hr.le), Ideal.div_coe (Real.sqrt_pos.2 hr).ne', one_div]

theorem div_root_64 (x : EReal) : Ideal.div x (Ideal.sqrt (Ideal.ofBits .f32 0x42800000#32)) = x * Ideal.ofBits .f32 0x3E000000#32 := by
  rw [div_root word_64 (by norm_num), word_eighth, show (64 : ℝ) = 8 ^ 2 by norm_num, Real.sqrt_sq (by norm_num)]; norm_num
theorem div_root_128 (x : EReal) : Ideal.div x (Ideal.sqrt (Ideal.ofBits .f32 0x43000000#32)) = x * (((Real.sqrt 128)⁻¹ : ℝ) : EReal) :=
  div_root word_128 (by norm_num) x
theorem div_root_two (x : EReal) : Ideal.div x (Ideal.sqrt (Ideal.ofBits .f32 0x40000000#32)) = x * (((Real.sqrt 2)⁻¹ : ℝ) : EReal) :=
  div_root word_two (by norm_num) x

/-- An extended real that is a real. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.sum {ι : Type} [Fintype ι] {f : ι → EReal} (h : ∀ i, IsReal (f i)) : IsReal (∑ i, f i) := by
  classical
  refine Finset.sum_induction f IsReal (fun _ _ => IsReal.add) ⟨0, by simp⟩ fun i _ => h i
theorem IsReal.div {x y : EReal} {r : ℝ} (hx : IsReal x) (hy : y = (r : EReal)) (hr : r ≠ 0) : IsReal (Ideal.div x y) := by
  rw [hy, Ideal.div_coe hr]; exact hx.mul ⟨_, rfl⟩
theorem IsReal.of_abs_lt {x : EReal} (h : max x (-x) < (⊤ : EReal)) : IsReal x := by
  induction x using EReal.rec with
  | bot => simp at h
  | top => simp at h
  | coe r => exact ⟨r, rfl⟩

/-- The scores of real queries against real keys are real. -/
theorem score_real {n : ℕ} {σ : EReal} {r : ℝ} (h : σ = (r : EReal)) (hr : 0 < r) {q : Fin 1024 → Fin n → EReal} {k : Fin 4096 → Fin n → EReal}
    (hq : ∀ b x, IsReal (q b x)) (hk : ∀ s x, IsReal (k s x)) (b : Fin 1024) (s : Fin 4096) : IsReal (score σ q k b s) := by
  unfold score
  rw [div_root h hr]
  exact (IsReal.sum fun x => (hq b x).mul (hk s x)).mul ⟨_, rfl⟩
theorem mean_real {x : Fin 1024 → Fin 32 → Fin 64 → EReal} (h : ∀ b p d, IsReal (x b p d)) (b : Fin 1024) (d : Fin 64) : IsReal (mean x b d) :=
  (IsReal.sum fun p => h b p d).div word_32 (by norm_num)

section Row
variable {z : Fin 1024 → Fin 4096 → EReal} {b : Fin 1024}

theorem le_best (s : Fin 4096) : z b s ≤ best z b := by
  unfold best
  exact (Finset.le_fold_max _).2 (Or.inr ⟨s, Finset.mem_univ _, le_rfl⟩)

/-- Some slot holds the greatest score. -/
theorem exists_best (z : Fin 1024 → Fin 4096 → EReal) (b : Fin 1024) : ∃ s, z b s = best z b := by
  obtain ⟨s, -, hs⟩ := Finset.exists_max_image (Finset.univ : Finset (Fin 4096)) (z b) ⟨0, Finset.mem_univ _⟩
  refine ⟨s, le_antisymm (le_best s) ?_⟩
  unfold best
  refine (Finset.fold_max_le _).2 ⟨by rw [word_low]; exact bot_le, fun y hy => hs y hy⟩

theorem exp_le_one {x : EReal} (h : x ≤ 0) : Ideal.exp x ≤ 1 := by
  induction x using EReal.rec with
  | bot => exact zero_le_one
  | top => simp at h
  | coe r =>
    have : r ≤ 0 := by exact_mod_cast h
    rw [Ideal.exp_coe]; exact_mod_cast Real.exp_le_one_iff.2 this
theorem exp_nonneg (x : EReal) : 0 ≤ Ideal.exp x := by
  induction x using EReal.rec with
  | bot => exact le_rfl
  | top => exact le_top
  | coe r => rw [Ideal.exp_coe]; exact_mod_cast (Real.exp_pos r).le

/-- Of real scores the greatest softmax weight is one over the sum of the exponentials. -/
theorem fold_attn (h : ∀ s, IsReal (z b s)) : (Finset.univ.fold max low fun s => attn z b s) = Ideal.div 1 (mass z b) := by
  obtain ⟨p, hp⟩ := exists_best z b
  obtain ⟨r, hr⟩ := h p
  have e1 : Ideal.exp (z b p - best z b) = 1 := by
    rw [← hp, hr, ← EReal.coe_sub, sub_self, Ideal.exp_coe, Real.exp_zero]; rfl
  have hm : 1 ≤ mass z b := by
    rw [← e1]
    exact Finset.single_le_sum (f := fun s => Ideal.exp (z b s - best z b)) (fun s _ => exp_nonneg _) (Finset.mem_univ p)
  have hne : mass z b ≠ 0 := fun e => by rw [e] at hm; exact absurd hm (by norm_num)
  have hinv : 0 ≤ (mass z b)⁻¹ := EReal.inv_nonneg_of_nonneg (zero_le_one.trans hm)
  have hdiv : ∀ x, Ideal.div x (mass z b) = x * (mass z b)⁻¹ := fun x => if_neg hne
  refine le_antisymm ((Finset.fold_max_le _).2 ⟨by rw [word_low]; exact bot_le, fun s _ => ?_⟩) ((Finset.le_fold_max _).2 (Or.inr ⟨p, Finset.mem_univ _, ?_⟩))
  · unfold attn
    rw [hdiv, hdiv]
    refine mul_le_mul_of_nonneg_right (exp_le_one ?_) hinv
    obtain ⟨t, ht⟩ := h s
    have := le_best (z := z) (b := b) s
    rw [← hp, hr, ht] at this
    rw [← hp, hr, ht, ← EReal.coe_sub]
    have : t ≤ r := by exact_mod_cast this
    exact_mod_cast sub_nonpos.2 this
  · unfold attn; rw [e1]

theorem weight_real (h : ∀ s, IsReal (z b s)) : rate * Ideal.logistic (1 - Ideal.div 1 (mass z b)) = weight z b := by
  unfold weight; rw [fold_attn h]

end Row

end Cert.Model

end
-- ==== Proof.Value.Results.lean ====
/- The five results as functions of the sixteen arguments, on plain families of extended reals. -/
module

public import proofs.«01_k».proof.Proof.Value.Model

@[expose] public section

noncomputable section

namespace Cert.Model

open Idealize.ShloMosaic

/-- What the first layer is before its normalisation, from both memories. -/
def layer1 (x : Fin 1024 → Fin 32 → Fin 64 → EReal) (q : Fin 1024 → Fin 128 → EReal) (w1 : Fin 4096 → Fin 2048 → EReal) (b1 : Fin 2048 → EReal)
    (kp : Fin 4096 → Fin 64 → EReal) (vp : Fin 4096 → Fin 2048 → EReal) (km : Fin 4096 → Fin 128 → EReal) (vm : Fin 4096 → Fin 2048 → EReal) :
    Fin 1024 → Fin 2048 → EReal :=
  hidden (fun b => read (scoreP x kp) b vp) (fun b => read (scoreM q km) b vm) w1 b1

/-- Result 1: the enriched states. -/
def result1 (x : Fin 1024 → Fin 32 → Fin 64 → EReal) (q : Fin 1024 → Fin 128 → EReal) (w1 : Fin 4096 → Fin 2048 → EReal) (b1 g1 β1 : Fin 2048 → EReal)
    (w2 : Fin 2048 → Fin 2048 → EReal) (b2 : Fin 2048 → EReal) (w : Fin 32 → Fin 128 → Fin 64 → EReal) (c g β : Fin 32 → Fin 64 → EReal)
    (kp : Fin 4096 → Fin 64 → EReal) (vp : Fin 4096 → Fin 2048 → EReal) (km : Fin 4096 → Fin 128 → EReal) (vm : Fin 4096 → Fin 2048 → EReal) :
    Fin 1024 → Fin 32 → Fin 64 → EReal :=
  enriched x (fused (act (layer1 x q w1 b1 kp vp km vm) g1 β1) w2 b2) w c g β

/-- Results 2 and 3: the keys and the values of the pairs' memory after the write. -/
def result2 (x : Fin 1024 → Fin 32 → Fin 64 → EReal) (kp : Fin 4096 → Fin 64 → EReal) : Fin 4096 → Fin 64 → EReal := written (scoreP x kp) kp (mean x)
def result3 (x : Fin 1024 → Fin 32 → Fin 64 → EReal) (kp : Fin 4096 → Fin 64 → EReal) (vp : Fin 4096 → Fin 2048 → EReal) : Fin 4096 → Fin 2048 → EReal :=
  written (scoreP x kp) vp (flat x)

/-- Results 4 and 5: the keys and the values of the macro memory after the write. -/
def result4 (q : Fin 1024 → Fin 128 → EReal) (km : Fin 4096 → Fin 128 → EReal) : Fin 4096 → Fin 128 → EReal := written (scoreM q km) km q
def result5 (x : Fin 1024 → Fin 32 → Fin 64 → EReal) (q : Fin 1024 → Fin 128 → EReal) (km : Fin 4096 → Fin 128 → EReal) (vm : Fin 4096 → Fin 2048 → EReal) :
    Fin 4096 → Fin 2048 → EReal := written (scoreM q km) vm (flat x)

end Cert.Model

end
-- ==== Proof.Value.Stats.lean ====
/- What the two statistics calls leave: the query, the greatest score of each row, the sum of its exponentials, the write weight and
   the slot, of the pairs' memory (call 0) and of the macro memory (call 1). -/
module

public import proofs.«01_k».proof.Proof.Run.Region0
public import proofs.«01_k».proof.Proof.Run.Region1
public import proofs.«01_k».proof.Proof.Value.Arith
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe
open Model (fam1 fam2 fam3)
open Idealize.ShloMosaic.Pipeline (Dat Cfg Window)

/-! ### The payloads of call 0 -/

theorem k0_pay1_at (x : Vec Ideal S1024x32x64 .f32) (b : Fin 1024) (d : Fin 64) : k0_pay1 x (ix2 b d) = Model.mean (fam3 x) b d := by
  pointwise [k0_pay1]; rfl
theorem k0_pay2_at (x : Vec Ideal S1024x32x64 .f32) (k : Vec Ideal S4096x64 .f32) (b : Fin 1024) (s : Fin 4096) :
    k0_pay2 x k (ix2 b s) = Model.scoreP (fam3 x) (fam2 k) b s := by
  pointwise [k0_pay2]
  simp only [k0_pay1_at, Model.scoreP, Model.score, Model.div_root_64]
theorem k0_pay3_at (x : Vec Ideal S1024x32x64 .f32) (k : Vec Ideal S4096x64 .f32) (b : Fin 1024) : k0_pay3 x k (ix1 b) = Model.best (Model.scoreP (fam3 x) (fam2 k)) b := by
  pointwise [k0_pay3]; simp only [k0_pay2_at]; rfl
theorem k0_pay4_at (x : Vec Ideal S1024x32x64 .f32) (k : Vec Ideal S4096x64 .f32) (b : Fin 1024) : k0_pay4 x k (ix1 b) = Model.mass (Model.scoreP (fam3 x) (fam2 k)) b := by
  pointwise [k0_pay4]; simp only [k0_pay2_at, k0_pay3_at]; rfl
theorem k0_pay5_at (x : Vec Ideal S1024x32x64 .f32) (k : Vec Ideal S4096x64 .f32) (b : Fin 1024) : k0_pay5 x k (ix1 b) = Model.slot (Model.scoreP (fam3 x) (fam2 k)) b := by
  pointwise [k0_pay5]; simp only [k0_pay2_at, k0_pay3_at]; rfl
theorem k0_pay6_at (x : Vec Ideal S1024x32x64 .f32) (k : Vec Ideal S4096x64 .f32) (b : Fin 1024) (h : ∀ s, Model.IsReal (Model.scoreP (fam3 x) (fam2 k) b s)) : k0_pay6 x k (ix1 b) = Model.weight (Model.scoreP (fam3 x) (fam2 k)) b := by
  pointwise [k0_pay6]; simp only [k0_pay4_at]; exact Model.weight_real h

/-! ### The payloads of call 1 -/

theorem k1_pay1_at (x : Vec Ideal S1024x128 .f32) (k : Vec Ideal S4096x128 .f32) (b : Fin 1024) (s : Fin 4096) :
    k1_pay1 x k (ix2 b s) = Model.scoreM (fam2 x) (fam2 k) b s := by
  pointwise [k1_pay1]
  simp only [Model.scoreM, Model.score, Model.div_root_128]; rfl
theorem k1_pay2_at (x : Vec Ideal S1024x128 .f32) (k : Vec Ideal S4096x128 .f32) (b : Fin 1024) : k1_pay2 x k (ix1 b) = Model.best (Model.scoreM (fam2 x) (fam2 k)) b := by
  pointwise [k1_pay2]; simp only [k1_pay1_at]; rfl
theorem k1_pay3_at (x : Vec Ideal S1024x128 .f32) (k : Vec Ideal S4096x128 .f32) (b : Fin 1024) : k1_pay3 x k (ix1 b) = Model.mass (Model.scoreM (fam2 x) (fam2 k)) b := by
  pointwise [k1_pay3]; simp only [k1_pay1_at, k1_pay2_at]; rfl
theorem k1_pay4_at (x : Vec Ideal S1024x128 .f32) (k : Vec Ideal S4096x128 .f32) (b : Fin 1024) : k1_pay4 x k (ix1 b) = Model.slot (Model.scoreM (fam2 x) (fam2 k)) b := by
  pointwise [k1_pay4]; simp only [k1_pay1_at, k1_pay2_at]; rfl
theorem k1_pay5_at (x : Vec Ideal S1024x128 .f32) (k : Vec Ideal S4096x128 .f32) (b : Fin 1024) (h : ∀ s, Model.IsReal (Model.scoreM (fam2 x) (fam2 k) b s)) : k1_pay5 x k (ix1 b) = Model.weight (Model.scoreM (fam2 x) (fam2 k)) b := by
  pointwise [k1_pay5]; simp only [k1_pay3_at]; exact Model.weight_real h

section Arrays

variable (V : (c : Dev nD) → (b : Ref sig .tc) → Buf (Elt Ideal) ((c : Thread nD τ).loc b))

/-! ### The arrays call 0 leaves -/

theorem idx0_0 : ∀ t : Fin cfg0.N, win0_0.index t = ![0, 0, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0] := (by decide +kernel : ∀ t : Fin grid0.N, _)
theorem idx0_4 : ∀ t : Fin cfg0.N, win0_4.index t = ![0] := (by decide +kernel : ∀ t : Fin grid0.N, _)
theorem idx0_5 : ∀ t : Fin cfg0.N, win0_5.index t = ![0] := (by decide +kernel : ∀ t : Fin grid0.N, _)
theorem idx0_6 : ∀ t : Fin cfg0.N, win0_6.index t = ![0] := (by decide +kernel : ∀ t : Fin grid0.N, _)
theorem whole0_0 (c : Dev nD) (t : Fin cfg0.N) : iblk0 V c 0 t = V c main_arg0 := by
  funext y; blk_ext [iblk0, idx0_0 t]
theorem whole0_1 (c : Dev nD) (t : Fin cfg0.N) : iblk0 V c 1 t = V c main_arg12 := by
  funext y; blk_ext [iblk0, idx0_1 t]
theorem arr0_2 (c : Dev nD) : (dat0 V c).arrAt 2 cfg0.N = out0_2 (V c main_arg0) (V c main_arg12) := by
  refine (dat0 V c).arrAt_eq_of_covers 2 _ (by decide +kernel) fun t hf y => ?_
  blk_simp
  rw [after0_2, whole0_0, whole0_1]
  blk_ext [idx0_2 t]
theorem arr0_3 (c : Dev nD) : (dat0 V c).arrAt 3 cfg0.N = out0_3 (V c main_arg0) (V c main_arg12) := by
  refine (dat0 V c).arrAt_eq_of_covers 3 _ (by decide +kernel) fun t hf y => ?_
  blk_simp
  rw [after0_3, whole0_0, whole0_1]
  blk_ext [idx0_3 t]
theorem arr0_4 (c : Dev nD) : (dat0 V c).arrAt 4 cfg0.N = out0_4 (V c main_arg0) (V c main_arg12) := by
  refine (dat0 V c).arrAt_eq_of_covers 4 _ (by decide +kernel) fun t hf y => ?_
  blk_simp
  rw [after0_4, whole0_0, whole0_1]
  blk_ext [idx0_4 t]
theorem arr0_5 (c : Dev nD) : (dat0 V c).arrAt 5 cfg0.N = out0_5 (V c main_arg0) (V c main_arg12) := by
  refine (dat0 V c).arrAt_eq_of_covers 5 _ (by decide +kernel) fun t hf y => ?_
  blk_simp
  rw [after0_5, whole0_0, whole0_1]
  blk_ext [idx0_5 t]
theorem arr0_6 (c : Dev nD) : (dat0 V c).arrAt 6 cfg0.N = out0_6 (V c main_arg0) (V c main_arg12) := by
  refine (dat0 V c).arrAt_eq_of_covers 6 _ (by decide +kernel) fun t hf y => ?_
  blk_simp
  rw [after0_6, whole0_0, whole0_1]
  blk_ext [idx0_6 t]
/-- The scores of call 0. -/
def Z0 (c : Dev nD) : Fin 1024 → Fin 4096 → EReal := Model.scoreP (fam3 (V c main_arg0)) (fam2 (V c main_arg12))

theorem at0_2 (c : Dev nD) (b : Fin 1024) (d : Fin 64) :
    ((dat0 V c).arrAt 2 cfg0.N : Vec Ideal S1024x64 .f32) (ix2 b d) = Model.mean (fam3 (V c main_arg0)) b d := by
  rw [arr0_2]; frame_out; exact k0_pay1_at _ b d
theorem at0_3 (c : Dev nD) (b : Fin 1024) : ((dat0 V c).arrAt 3 cfg0.N : Vec Ideal S1024 .f32) (ix1 b) = Model.best (Z0 V c) b := by
  rw [arr0_3]; frame_out; exact k0_pay3_at _ _ b
theorem at0_4 (c : Dev nD) (b : Fin 1024) : ((dat0 V c).arrAt 4 cfg0.N : Vec Ideal S1024 .f32) (ix1 b) = Model.mass (Z0 V c) b := by
  rw [arr0_4]; frame_out; exact k0_pay4_at _ _ b
theorem at0_6 (c : Dev nD) (b : Fin 1024) : ((dat0 V c).arrAt 6 cfg0.N : Vec Ideal S1024 .i32) (ix1 b) = Model.slot (Z0 V c) b := by
  rw [arr0_6]; frame_out; exact k0_pay5_at _ _ b
theorem at0_5 (c : Dev nD) (b : Fin 1024) (h : ∀ s, Model.IsReal (Z0 V c b s)) :
    ((dat0 V c).arrAt 5 cfg0.N : Vec Ideal S1024 .f32) (ix1 b) = Model.weight (Z0 V c) b := by
  rw [arr0_5]; frame_out; exact k0_pay6_at _ _ b h

/-! ### The arrays call 1 leaves -/

theorem idx1_0 : ∀ t : Fin cfg1.N, win1_0.index t = ![0, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0] := (by decide +kernel : ∀ t : Fin grid1.N, _)
theorem idx1_4 : ∀ t : Fin cfg1.N, win1_4.index t = ![0] := (by decide +kernel : ∀ t : Fin grid1.N, _)
theorem idx1_5 : ∀ t : Fin cfg1.N, win1_5.index t = ![0] := (by decide +kernel : ∀ t : Fin grid1.N, _)
theorem idx1_6 : ∀ t : Fin cfg1.N, win1_6.index t = ![0] := (by decide +kernel : ∀ t : Fin grid1.N, _)
theorem whole1_0 (c : Dev nD) (t : Fin cfg1.N) : iblk1 V c 0 t = V c main_arg1 := by
  funext y; blk_ext [iblk1, idx1_0 t]
theorem whole1_1 (c : Dev nD) (t : Fin cfg1.N) : iblk1 V c 1 t = V c main_arg14 := by
  funext y; blk_ext [iblk1, idx1_1 t]
theorem arr1_2 (c : Dev nD) : (dat1 V c).arrAt 2 cfg1.N = out1_2 (V c main_arg1) (V c main_arg14) := by
  refine (dat1 V c).arrAt_eq_of_covers 2 _ (by decide +kernel) fun t hf y => ?_
  blk_simp
  rw [after1_2, whole1_0, whole1_1]
  blk_ext [idx1_2 t]
theorem arr1_3 (c : Dev nD) : (dat1 V c).arrAt 3 cfg1.N = out1_3 (V c main_arg1) (V c main_arg14) := by
  refine (dat1 V c).arrAt_eq_of_covers 3 _ (by decide +kernel) fun t hf y => ?_
  blk_simp
  rw [after1_3, whole1_0, whole1_1]
  blk_ext [idx1_3 t]
theorem arr1_4 (c : Dev nD) : (dat1 V c).arrAt 4 cfg1.N = out1_4 (V c main_arg1) (V c main_arg14) := by
  refine (dat1 V c).arrAt_eq_of_covers 4 _ (by decide +kernel) fun t hf y => ?_
  blk_simp
  rw [after1_4, whole1_0, whole1_1]
  blk_ext [idx1_4 t]
theorem arr1_5 (c : Dev nD) : (dat1 V c).arrAt 5 cfg1.N = out1_5 (V c main_arg1) (V c main_arg14) := by
  refine (dat1 V c).arrAt_eq_of_covers 5 _ (by decide +kernel) fun t hf y => ?_
  blk_simp
  rw [after1_5, whole1_0, whole1_1]
  blk_ext [idx1_5 t]
theorem arr1_6 (c : Dev nD) : (dat1 V c).arrAt 6 cfg1.N = out1_6 (V c main_arg1) (V c main_arg14) := by
  refine (dat1 V c).arrAt_eq_of_covers 6 _ (by decide +kernel) fun t hf y => ?_
  blk_simp
  rw [after1_6, whole1_0, whole1_1]
  blk_ext [idx1_6 t]
/-- The scores of call 1. -/
def Z1 (c : Dev nD) : Fin 1024 → Fin 4096 → EReal := Model.scoreM (fam2 (V c main_arg1)) (fam2 (V c main_arg14))

theorem at1_2 (c : Dev nD) : (dat1 V c).arrAt 2 cfg1.N = V c main_arg1 := by
  rw [arr1_2]; frame_out
theorem at1_3 (c : Dev nD) (b : Fin 1024) : ((dat1 V c).arrAt 3 cfg1.N : Vec Ideal S1024 .f32) (ix1 b) = Model.best (Z1 V c) b := by
  rw [arr1_3]; frame_out; exact k1_pay2_at _ _ b
theorem at1_4 (c : Dev nD) (b : Fin 1024) : ((dat1 V c).arrAt 4 cfg1.N : Vec Ideal S1024 .f32) (ix1 b) = Model.mass (Z1 V c) b := by
  rw [arr1_4]; frame_out; exact k1_pay3_at _ _ b
theorem at1_6 (c : Dev nD) (b : Fin 1024) : ((dat1 V c).arrAt 6 cfg1.N : Vec Ideal S1024 .i32) (ix1 b) = Model.slot (Z1 V c) b := by
  rw [arr1_6]; frame_out; exact k1_pay4_at _ _ b
theorem at1_5 (c : Dev nD) (b : Fin 1024) (h : ∀ s, Model.IsReal (Z1 V c b s)) :
    ((dat1 V c).arrAt 5 cfg1.N : Vec Ideal S1024 .f32) (ix1 b) = Model.weight (Z1 V c) b := by
  rw [arr1_5]; frame_out; exact k1_pay5_at _ _ b h

end Arrays

end Cert.KernelIdeal.Gen

end
-- ==== Proof.Value.Write.lean ====
/- The write into a memory: the share of a slot, from the slot and the weight of each batch element. -/
module

public import proofs.«01_k».proof.Proof.Value.Stats

@[expose] public section

set_option maxRecDepth 16384

noncomputable section

namespace Cert.KernelIdeal.Gen

open Idealize.ShloMosaic Idealize.ShloMosaic.TcCoe
open Model (fam1 fam2 fam3)

/-- What batch element `b` overwrites of slot `s`. -/
def rowShare (slot : Vec Ideal S1024 .i32) (w : Vec Ideal S1024 .f32) (s : ℕ) (b : Fin 1024) : EReal :=
  if slot (ix1 b) = BitVec.ofNat 32 s then w (ix1 b) else 0

/-- A memory after the write. -/
def afterWrite {n : ℕ} (slot : Vec Ideal S1024 .i32) (w : Vec Ideal S1024 .f32) (old : Fin 4096 → Fin n → EReal) (new : Fin 1024 → Fin n → EReal)
    (s : Fin 4096) (x : Fin n) : EReal :=
  old s x * (1 - ∑ b, rowShare slot w s.val b) + ∑ b, rowShare slot w s.val b * new b x

theorem afterWrite_eq {n : ℕ} {slot : Vec Ideal S1024 .i32} {w : Vec Ideal S1024 .f32} {z : Fin 1024 → Fin 4096 → EReal}
    (hs : ∀ b, slot (ix1 b) = Model.slot z b) (hw : ∀ b, w (ix1 b) = Model.weight z b) (old : Fin 4096 → Fin n → EReal) (new : Fin 1024 → Fin n → EReal)
    (s : Fin 4096) (x : Fin n) : afterWrite slot w old new s x = Model.written z old new s x := by
  have e : ∀ b, rowShare slot w s.val b = Model.share z b s := fun b => by unfold rowShare Model.share; rw [hs, hw]
  simp only [afterWrite, Model.written, e]

/-- The mask of a block's row against the slots, applied to the weights. -/
theorem select_row (k : BitVec 32) (w : EReal) (t s : ℕ) :
    (Scalar.select (IntOp.cmpi CmpIPredicate.eq (IntOp.addi (Scalar.muli (BitVec.ofNat 32 t) 512#32) (BitVec.ofNat 32 s)) k) w (0 : EReal))
      = if k = BitVec.ofNat 32 (t * 512 + s) then w else 0 := by
  have e : IntOp.addi (Scalar.muli (BitVec.ofNat 32 t) 512#32) (BitVec.ofNat 32 s) = BitVec.ofNat 32 (t * 512 + s) := by
    show BitVec.ofNat 32 t * 512#32 + BitVec.ofNat 32 s = _
    rw [BitVec.ofNat_add, BitVec.ofNat_mul]
  rw [e]
  by_cases h : k = BitVec.ofNat 32 (t * 512 + s)
  · rw [if_pos h, ← h]; simp [Scalar.select, IntOp.cmpi]
  · rw [if_neg h]
    have hb : (BitVec.ofNat 32 (t * 512 + s) == k) = false := beq_eq_false_iff_ne.2 (Ne.symm h)
    simp [Scalar.select, IntOp.cmpi, hb]

theorem block_lt {N : ℕ} (hN : N = 8) (t : Fin N) (s : Fin 512) : t.val * 512 + s.val < 4096 := by omega

end Cert.KernelIdeal.Gen

end
-- ==== Proof.Value.ReadWritePair.lean ====
/- What the two read-and-write calls leave: the values read from the memory, and its keys and values after the write. Call 2, over
   the memory of width 64. -/
module

public import proofs.«01_k».proof.Proof.Run.Region2
public import proofs.«01_k».proof.Proof.Value.Write
public import Idealize.ShloMosaic.Lib.Pipeline.ValueKit

@[expose] public section

set_option maxRecDepth 16384

noncomputable section

namespace Cert.KernelIdeal.Gen

open Idealize.ShloMosaic Idealize.ShloMosaic.TcCoe
open Model (fam1 fam2 fam3)
open Idealize.ShloMosaic.Pipeline (Dat Cfg Window)

/-! ### The payloads -/

theorem k2_pay7_at (q : Vec Ideal S1024x64 .f32) (k : Vec Ideal S512x64 .f32) (v : Vec Ideal S512x2048 .f32) (m l : Vec Ideal S1024 .f32)
    (b : Fin 1024) (x : Fin 2048) :
    k2_pay7 q k v m l (ix2 b x)
      = ∑ s : Fin 512, Ideal.div (Ideal.exp (Ideal.div (∑ d : Fin 64, q (ix2 b d) * k (ix2 s d)) (Ideal.sqrt (Ideal.ofBits .f32 0x42800000#32)) - m (ix1 b))) (l (ix1 b))
          * v (ix2 s x) := by
  pointwise [k2_pay7, k2_pay6]
  simp only [Model.div_root_64, mul_comm (k _) (q _)]

theorem k2_pay1_at (i : grid2.Coords) (slot : Vec Ideal S1024 .i32) (w : Vec Ideal S1024 .f32) (s : Fin 512) (b : Fin 1024) :
    k2_pay1 (k2_pay9 i slot) (k2_pay10 w) (0 : EReal) (ix2 s b) = rowShare slot w ((i 0).val * 512 + s.val) b := by
  pointwise [k2_pay1, k2_pay9, k2_pay10]
  exact select_row _ _ _ _

theorem k2_pay8_at (q : Vec Ideal S1024x64 .f32) (k : Vec Ideal S512x64 .f32) (v : Vec Ideal S512x2048 .f32) (m l : Vec Ideal S1024 .f32)
    (a : Vec Ideal S1024x2048 .f32) (i : S1024x2048.Idx) : k2_pay8 q k v m l a i = a i + k2_pay7 q k v m l i := by
  pointwise [k2_pay8]

theorem k2_pay5_at (i : grid2.Coords) (slot : Vec Ideal S1024 .i32) (w : Vec Ideal S1024 .f32) (q : Vec Ideal S1024x64 .f32)
    (k : Vec Ideal S512x64 .f32) (s : Fin 512) (x : Fin 64) :
    k2_pay5 (k2_pay6 q) k (k2_pay9 i slot) (k2_pay10 w) (FloatOps.ofBits .f32 0#32) (ix2 s x)
      = k (ix2 s x) * (1 - ∑ b, rowShare slot w ((i 0).val * 512 + s.val) b) + ∑ b, rowShare slot w ((i 0).val * 512 + s.val) b * q (ix2 b x) := by
  pointwise [k2_pay5, k2_pay2, k2_pay3, k2_pay6]
  simp only [k2_pay1_at]

theorem k2_pay4_at (i : grid2.Coords) (slot : Vec Ideal S1024 .i32) (w : Vec Ideal S1024 .f32) (a : Vec Ideal S1024x2048 .bf16)
    (k : Vec Ideal S512x2048 .f32) (s : Fin 512) (x : Fin 2048) :
    k2_pay4 k (k2_pay9 i slot) (k2_pay10 w) (FloatOps.ofBits .f32 0#32) a (ix2 s x)
      = k (ix2 s x) * (1 - ∑ b, rowShare slot w ((i 0).val * 512 + s.val) b) + ∑ b, rowShare slot w ((i 0).val * 512 + s.val) b * a (ix2 b x) := by
  pointwise [k2_pay4, k2_pay2, k2_pay3]
  simp only [k2_pay1_at]

/-! ### The arrays -/

section Arrays

variable (V : (c : Dev nD) → (b : Ref sig .tc) → Buf (Elt Ideal) ((c : Thread nD τ).loc b))

theorem idx2_0 : ∀ t : Fin cfg2.N, win2_0.index t = ![0, 0] := (by decide +kernel : ∀ t : Fin grid2.N, _)
theorem idx2_1 : ∀ t : Fin cfg2.N, win2_1.index t = ![t.val, 0] := (by decide +kernel : ∀ t : Fin grid2.N, _)
theorem idx2_2 : ∀ t : Fin cfg2.N, win2_2.index t = ![t.val, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![0] := (by decide +kernel : ∀ t : Fin grid2.N, _)
theorem idx2_5 : ∀ t : Fin cfg2.N, win2_5.index t = ![0] := (by decide +kernel : ∀ t : Fin grid2.N, _)
theorem idx2_6 : ∀ t : Fin cfg2.N, win2_6.index t = ![0] := (by decide +kernel : ∀ t : Fin grid2.N, _)
theorem idx2_7 : ∀ t : Fin cfg2.N, win2_7.index t = ![0] := (by decide +kernel : ∀ t : Fin grid2.N, _)
theorem idx2_8 : ∀ t : Fin cfg2.N, win2_8.index t = ![0, 0] := (by decide +kernel : ∀ t : Fin grid2.N, _)
theorem idx2_9 : ∀ t : Fin cfg2.N, win2_9.index t = ![t.val, 0] := (by decide +kernel : ∀ t : Fin grid2.N, _)
theorem idx2_10 : ∀ t : Fin cfg2.N, win2_10.index t = ![t.val, 0] := (by decide +kernel : ∀ t : Fin grid2.N, _)

theorem last2_8 : ∀ t : Fin cfg2.N, win2_8.flush t = true → t.val + 1 = cfg2.N := (by decide +kernel : ∀ t : Fin grid2.N, _)
theorem coord2 : ∀ t : Fin cfg2.N, (grid2.coords t 0).val = t.val := (by decide +kernel : ∀ t : Fin grid2.N, _)

theorem whole2_0 (c : Dev nD) (t : Fin cfg2.N) : iblk2 V c 0 t = V c main_v2_0 := by
  funext y; blk_ext [iblk2, idx2_0 t]
theorem whole2_3 (c : Dev nD) (t : Fin cfg2.N) : iblk2 V c 3 t = V c main_v1 := by
  funext y; blk_ext [iblk2, idx2_3 t]
theorem whole2_4 (c : Dev nD) (t : Fin cfg2.N) : iblk2 V c 4 t = V c main_v2_1 := by
  funext y; blk_ext [iblk2, idx2_4 t]
theorem whole2_5 (c : Dev nD) (t : Fin cfg2.N) : iblk2 V c 5 t = V c main_v2_2 := by
  funext y; blk_ext [iblk2, idx2_5 t]
theorem whole2_6 (c : Dev nD) (t : Fin cfg2.N) : iblk2 V c 6 t = V c main_v2_3 := by
  funext y; blk_ext [iblk2, idx2_6 t]
theorem whole2_7 (c : Dev nD) (t : Fin cfg2.N) : iblk2 V c 7 t = V c main_v2_4 := by
  funext y; blk_ext [iblk2, idx2_7 t]

/-- The block of the keys at point `t` is its 512 rows. -/
theorem keys2 (c : Dev nD) (t : Fin cfg2.N) (s : Fin 512) (d : Fin 64) (h : t.val * 512 + s.val < 4096) :
    (iblk2 V c 1 t : Vec Ideal S512x64 .f32) (ix2 s d) = (V c main_arg12 : Vec Ideal S4096x64 .f32) (ix2 ⟨t.val * 512 + s.val, h⟩ d) := by
  blk_ext [iblk2, idx2_1 t]
theorem vals2 (c : Dev nD) (t : Fin cfg2.N) (s : Fin 512) (d : Fin 2048) (h : t.val * 512 + s.val < 4096) :
    (iblk2 V c 2 t : Vec Ideal S512x2048 .f32) (ix2 s d) = (V c main_arg13 : Vec Ideal S4096x2048 .f32) (ix2 ⟨t.val * 512 + s.val, h⟩ d) := by
  blk_ext [iblk2, idx2_2 t]

theorem new2 (c : Dev nD) (t : Fin cfg2.N) :
    (outsAt2 V c t.val t.isLt).2.1 = k2_pay5 (k2_pay6 (iblk2 V c 0 t)) (iblk2 V c 1 t) (k2_pay9 (grid2.coords t) (iblk2 V c 7 t)) (k2_pay10 (iblk2 V c 6 t)) (FloatOps.ofBits .f32 0#32)
    ∧ (outsAt2 V c t.val t.isLt).2.2 = k2_pay4 (iblk2 V c 2 t) (k2_pay9 (grid2.coords t) (iblk2 V c 7 t)) (k2_pay10 (iblk2 V c 6 t)) (FloatOps.ofBits .f32 0#32) (iblk2 V c 3 t) := by
  by_cases h : t.val % 8 = 0
  · have h1 : ¬1 ≤ t.val := by have := t.isLt; have : cfg2.N = 8 := N_2; omega
    rw [outsAt2_A V c t h h1]; constructor <;> frame_out
  · rw [outsAt2_B V c t h (by omega)]; constructor <;> frame_out

theorem arr2_8 (c : Dev nD) : (dat2 V c).arrAt 8 cfg2.N
    = fun i => ∑ p : Fin cfg2.N, k2_pay7 (iblk2 V c 0 p) (iblk2 V c 1 p) (iblk2 V c 2 p) (iblk2 V c 4 p) (iblk2 V c 5 p) i := by
  refine (dat2 V c).arrAt_eq_of_covers 8 _ (by decide +kernel) fun t hf y => ?_
  blk_simp
  have hl : t.val + 1 = cfg2.N := last2_8 t hf
  have ha := Pipeline.eq_sum_fin_of_reset_step_apply_last (fun n h => (outsAt2 V c n h).1) 8 (fun _ => (0 : EReal))
      (fun p i => k2_pay7 (iblk2 V c 0 p) (iblk2 V c 1 p) (iblk2 V c 2 p) (iblk2 V c 4 p) (iblk2 V c 5 p) i)
      (fun t h i => by
        have h1 : ¬1 ≤ t.val := by have := t.isLt; have : cfg2.N = 8 := N_2; omega
        rw [outsAt2_A V c t h h1, zero_add]; frame_out)
      (fun t h i => by
        rw [outsAt2_B V c t h (by omega)]; frame_out; exact k2_pay8_at _ _ _ _ _ _ i)
      (le_of_eq N_2) t hl y
  rw [after2_8]
  refine ha.trans ?_
  rw [zero_add]
  refine Finset.sum_congr rfl fun p _ => ?_
  congr 1
  blk_ext [idx2_8 t]

theorem at2_8 (c : Dev nD) (b : Fin 1024) (x : Fin 2048) : ((dat2 V c).arrAt 8 cfg2.N : Vec Ideal S1024x2048 .f32) (ix2 b x)
    = ∑ s : Fin 4096, Ideal.div (Ideal.exp (Model.score (Ideal.ofBits .f32 0x42800000#32) (fam2 (V c main_v2_0)) (fam2 (V c main_arg12)) b s - fam1 (V c main_v2_1) b)) (fam1 (V c main_v2_2) b)
          * fam2 (V c main_arg13) s x := by
  rw [arr2_8]
  dsimp only
  simp only [k2_pay7_at, whole2_0, whole2_4, whole2_5]
  refine Fin.sum_mul_add_congr (S := cfg2.N) (f := fun s : Fin 4096 => Ideal.div (Ideal.exp (Model.score (Ideal.ofBits .f32 0x42800000#32) (fam2 (V c main_v2_0)) (fam2 (V c main_arg12)) b s - fam1 (V c main_v2_1) b)) (fam1 (V c main_v2_2) b)
          * fam2 (V c main_arg13) s x) (fun p s h => ?_) (by rw [show cfg2.N = 8 from N_2])
  simp only [keys2 V c p s _ h, vals2 V c p s _ h]
  rfl

theorem arr2_9 (c : Dev nD) : (dat2 V c).arrAt 9 cfg2.N = fun i : S4096x64.Idx => afterWrite (V c main_v2_4) (V c main_v2_3) (fam2 (V c main_arg12)) (fam2 (V c main_v2_0)) (i 0) (i 1) := by
  refine (dat2 V c).arrAt_eq_of_covers 9 _ (by decide +kernel) fun t hf y => ?_
  blk_simp
  rw [after2_9, (new2 V c t).1, whole2_0, whole2_6, whole2_7]
  obtain ⟨s, d, rfl⟩ : ∃ (s : Fin 512) (d : Fin 64), y = ix2 s d := ⟨y 0, y 1, by funext a; fin_cases a <;> rfl⟩
  rw [k2_pay5_at, keys2 V c t s d (block_lt N_2 t s), coord2 t]
  have e : (win2_9.blk t).view.emb (ix2 s d) = (ix2 ⟨t.val * 512 + s.val, block_lt N_2 t s⟩ d : S4096x64.Idx) := by blk_ext [idx2_9 t]
  rw [e]; rfl

theorem arr2_10 (c : Dev nD) : (dat2 V c).arrAt 10 cfg2.N = fun i : S4096x2048.Idx => afterWrite (V c main_v2_4) (V c main_v2_3) (fam2 (V c main_arg13)) (fam2 (V c main_v1)) (i 0) (i 1) := by
  refine (dat2 V c).arrAt_eq_of_covers 10 _ (by decide +kernel) fun t hf y => ?_
  blk_simp
  rw [after2_10, (new2 V c t).2, whole2_3, whole2_6, whole2_7]
  obtain ⟨s, d, rfl⟩ : ∃ (s : Fin 512) (d : Fin 2048), y = ix2 s d := ⟨y 0, y 1, by funext a; fin_cases a <;> rfl⟩
  rw [k2_pay4_at, vals2 V c t s d (block_lt N_2 t s), coord2 t]
  have e : (win2_10.blk t).view.emb (ix2 s d) = (ix2 ⟨t.val * 512 + s.val, block_lt N_2 t s⟩ d : S4096x2048.Idx) := by blk_ext [idx2_10 t]
  rw [e]; rfl

end Arrays

end Cert.KernelIdeal.Gen

end
-- ==== Proof.Value.ReadWriteMacro.lean ====
/- What the two read-and-write calls leave: the values read from the memory, and its keys and values after the write. Call 3, over
   the memory of width 128. -/
module

public import proofs.«01_k».proof.Proof.Run.Region3
public import proofs.«01_k».proof.Proof.Value.Write
public import Idealize.ShloMosaic.Lib.Pipeline.ValueKit

@[expose] public section

set_option maxRecDepth 16384

noncomputable section

namespace Cert.KernelIdeal.Gen

open Idealize.ShloMosaic Idealize.ShloMosaic.TcCoe
open Model (fam1 fam2 fam3)
open Idealize.ShloMosaic.Pipeline (Dat Cfg Window)

/-! ### The payloads -/

theorem k3_pay7_at (q : Vec Ideal S1024x128 .f32) (k : Vec Ideal S512x128 .f32) (v : Vec Ideal S512x2048 .f32) (m l : Vec Ideal S1024 .f32)
    (b : Fin 1024) (x : Fin 2048) :
    k3_pay7 q k v m l (ix2 b x)
      = ∑ s : Fin 512, Ideal.div (Ideal.exp (Ideal.div (∑ d : Fin 128, q (ix2 b d) * k (ix2 s d)) (Ideal.sqrt (Ideal.ofBits .f32 0x43000000#32)) - m (ix1 b))) (l (ix1 b))
          * v (ix2 s x) := by
  pointwise [k3_pay7, k3_pay6]
  simp only [Model.div_root_128, mul_comm (k _) (q _)]; rfl

theorem k3_pay1_at (i : grid3.Coords) (slot : Vec Ideal S1024 .i32) (w : Vec Ideal S1024 .f32) (s : Fin 512) (b : Fin 1024) :
    k3_pay1 (k3_pay9 i slot) (k3_pay10 w) (0 : EReal) (ix2 s b) = rowShare slot w ((i 0).val * 512 + s.val) b := by
  pointwise [k3_pay1, k3_pay9, k3_pay10]
  exact select_row _ _ _ _

theorem k3_pay8_at (q : Vec Ideal S1024x128 .f32) (k : Vec Ideal S512x128 .f32) (v : Vec Ideal S512x2048 .f32) (m l : Vec Ideal S1024 .f32)
    (a : Vec Ideal S1024x2048 .f32) (i : S1024x2048.Idx) : k3_pay8 q k v m l a i = a i + k3_pay7 q k v m l i := by
  pointwise [k3_pay8]

theorem k3_pay5_at (i : grid3.Coords) (slot : Vec Ideal S1024 .i32) (w : Vec Ideal S1024 .f32) (q : Vec Ideal S1024x128 .f32)
    (k : Vec Ideal S512x128 .f32) (s : Fin 512) (x : Fin 128) :
    k3_pay5 (k3_pay6 q) k (k3_pay9 i slot) (k3_pay10 w) (FloatOps.ofBits .f32 0#32) (ix2 s x)
      = k (ix2 s x) * (1 - ∑ b, rowShare slot w ((i 0).val * 512 + s.val) b) + ∑ b, rowShare slot w ((i 0).val * 512 + s.val) b * q (ix2 b x) := by
  pointwise [k3_pay5, k3_pay2, k3_pay3, k3_pay6]
  simp only [k3_pay1_at]

theorem k3_pay4_at (i : grid3.Coords) (slot : Vec Ideal S1024 .i32) (w : Vec Ideal S1024 .f32) (a : Vec Ideal S1024x2048 .bf16)
    (k : Vec Ideal S512x2048 .f32) (s : Fin 512) (x : Fin 2048) :
    k3_pay4 k (k3_pay9 i slot) (k3_pay10 w) (FloatOps.ofBits .f32 0#32) a (ix2 s x)
      = k (ix2 s x) * (1 - ∑ b, rowShare slot w ((i 0).val * 512 + s.val) b) + ∑ b, rowShare slot w ((i 0).val * 512 + s.val) b * a (ix2 b x) := by
  pointwise [k3_pay4, k3_pay2, k3_pay3]
  simp only [k3_pay1_at]

/-! ### The arrays -/

section Arrays

variable (V : (c : Dev nD) → (b : Ref sig .tc) → Buf (Elt Ideal) ((c : Thread nD τ).loc b))

theorem idx3_0 : ∀ t : Fin cfg3.N, win3_0.index t = ![0, 0] := (by decide +kernel : ∀ t : Fin grid3.N, _)
theorem idx3_1 : ∀ t : Fin cfg3.N, win3_1.index t = ![t.val, 0] := (by decide +kernel : ∀ t : Fin grid3.N, _)
theorem idx3_2 : ∀ t : Fin cfg3.N, win3_2.index t = ![t.val, 0] := (by decide +kernel : ∀ t : Fin grid3.N, _)
theorem idx3_3 : ∀ t : Fin cfg3.N, win3_3.index t = ![0, 0] := (by decide +kernel : ∀ t : Fin grid3.N, _)
theorem idx3_4 : ∀ t : Fin cfg3.N, win3_4.index t = ![0] := (by decide +kernel : ∀ t : Fin grid3.N, _)
theorem idx3_5 : ∀ t : Fin cfg3.N, win3_5.index t = ![0] := (by decide +kernel : ∀ t : Fin grid3.N, _)
theorem idx3_6 : ∀ t : Fin cfg3.N, win3_6.index t = ![0] := (by decide +kernel : ∀ t : Fin grid3.N, _)
theorem idx3_7 : ∀ t : Fin cfg3.N, win3_7.index t = ![0] := (by decide +kernel : ∀ t : Fin grid3.N, _)
theorem idx3_8 : ∀ t : Fin cfg3.N, win3_8.index t = ![0, 0] := (by decide +kernel : ∀ t : Fin grid3.N, _)
theorem idx3_9 : ∀ t : Fin cfg3.N, win3_9.index t = ![t.val, 0] := (by decide +kernel : ∀ t : Fin grid3.N, _)
theorem idx3_10 : ∀ t : Fin cfg3.N, win3_10.index t = ![t.val, 0] := (by decide +kernel : ∀ t : Fin grid3.N, _)

theorem last3_8 : ∀ t : Fin cfg3.N, win3_8.flush t = true → t.val + 1 = cfg3.N := (by decide +kernel : ∀ t : Fin grid3.N, _)
theorem coord3 : ∀ t : Fin cfg3.N, (grid3.coords t 0).val = t.val := (by decide +kernel : ∀ t : Fin grid3.N, _)

theorem whole3_0 (c : Dev nD) (t : Fin cfg3.N) : iblk3 V c 0 t = V c main_v3_0 := by
  funext y; blk_ext [iblk3, idx3_0 t]
theorem whole3_3 (c : Dev nD) (t : Fin cfg3.N) : iblk3 V c 3 t = V c main_v1 := by
  funext y; blk_ext [iblk3, idx3_3 t]
theorem whole3_4 (c : Dev nD) (t : Fin cfg3.N) : iblk3 V c 4 t = V c main_v3_1 := by
  funext y; blk_ext [iblk3, idx3_4 t]
theorem whole3_5 (c : Dev nD) (t : Fin cfg3.N) : iblk3 V c 5 t = V c main_v3_2 := by
  funext y; blk_ext [iblk3, idx3_5 t]
theorem whole3_6 (c : Dev nD) (t : Fin cfg3.N) : iblk3 V c 6 t = V c main_v3_3 := by
  funext y; blk_ext [iblk3, idx3_6 t]
theorem whole3_7 (c : Dev nD) (t : Fin cfg3.N) : iblk3 V c 7 t = V c main_v3_4 := by
  funext y; blk_ext [iblk3, idx3_7 t]

/-- The block of the keys at point `t` is its 512 rows. -/
theorem keys3 (c : Dev nD) (t : Fin cfg3.N) (s : Fin 512) (d : Fin 128) (h : t.val * 512 + s.val < 4096) :
    (iblk3 V c 1 t : Vec Ideal S512x128 .f32) (ix2 s d) = (V c main_arg14 : Vec Ideal S4096x128 .f32) (ix2 ⟨t.val * 512 + s.val, h⟩ d) := by
  blk_ext [iblk3, idx3_1 t]
theorem vals3 (c : Dev nD) (t : Fin cfg3.N) (s : Fin 512) (d : Fin 2048) (h : t.val * 512 + s.val < 4096) :
    (iblk3 V c 2 t : Vec Ideal S512x2048 .f32) (ix2 s d) = (V c main_arg15 : Vec Ideal S4096x2048 .f32) (ix2 ⟨t.val * 512 + s.val, h⟩ d) := by
  blk_ext [iblk3, idx3_2 t]

theorem new3 (c : Dev nD) (t : Fin cfg3.N) :
    (outsAt3 V c t.val t.isLt).2.1 = k3_pay5 (k3_pay6 (iblk3 V c 0 t)) (iblk3 V c 1 t) (k3_pay9 (grid3.coords t) (iblk3 V c 7 t)) (k3_pay10 (iblk3 V c 6 t)) (FloatOps.ofBits .f32 0#32)
    ∧ (outsAt3 V c t.val t.isLt).2.2 = k3_pay4 (iblk3 V c 2 t) (k3_pay9 (grid3.coords t) (iblk3 V c 7 t)) (k3_pay10 (iblk3 V c 6 t)) (FloatOps.ofBits .f32 0#32) (iblk3 V c 3 t) := by
  by_cases h : t.val % 8 = 0
  · have h1 : ¬1 ≤ t.val := by have := t.isLt; have : cfg3.N = 8 := N_3; omega
    rw [outsAt3_A V c t h h1]; constructor <;> frame_out
  · rw [outsAt3_B V c t h (by omega)]; constructor <;> frame_out

theorem arr3_8 (c : Dev nD) : (dat3 V c).arrAt 8 cfg3.N
    = fun i => ∑ p : Fin cfg3.N, k3_pay7 (iblk3 V c 0 p) (iblk3 V c 1 p) (iblk3 V c 2 p) (iblk3 V c 4 p) (iblk3 V c 5 p) i := by
  refine (dat3 V c).arrAt_eq_of_covers 8 _ (by decide +kernel) fun t hf y => ?_
  blk_simp
  have hl : t.val + 1 = cfg3.N := last3_8 t hf
  have ha := Pipeline.eq_sum_fin_of_reset_step_apply_last (fun n h => (outsAt3 V c n h).1) 8 (fun _ => (0 : EReal))
      (fun p i => k3_pay7 (iblk3 V c 0 p) (iblk3 V c 1 p) (iblk3 V c 2 p) (iblk3 V c 4 p) (iblk3 V c 5 p) i)
      (fun t h i => by
        have h1 : ¬1 ≤ t.val := by have := t.isLt; have : cfg3.N = 8 := N_3; omega
        rw [outsAt3_A V c t h h1, zero_add]; frame_out)
      (fun t h i => by
        rw [outsAt3_B V c t h (by omega)]; frame_out; exact k3_pay8_at _ _ _ _ _ _ i)
      (le_of_eq N_3) t hl y
  rw [after3_8]
  refine ha.trans ?_
  rw [zero_add]
  refine Finset.sum_congr rfl fun p _ => ?_
  congr 1
  blk_ext [idx3_8 t]

theorem at3_8 (c : Dev nD) (b : Fin 1024) (x : Fin 2048) : ((dat3 V c).arrAt 8 cfg3.N : Vec Ideal S1024x2048 .f32) (ix2 b x)
    = ∑ s : Fin 4096, Ideal.div (Ideal.exp (Model.score (Ideal.ofBits .f32 0x43000000#32) (fam2 (V c main_v3_0)) (fam2 (V c main_arg14)) b s - fam1 (V c main_v3_1) b)) (fam1 (V c main_v3_2) b)
          * fam2 (V c main_arg15) s x := by
  rw [arr3_8]
  dsimp only
  simp only [k3_pay7_at, whole3_0, whole3_4, whole3_5]
  refine Fin.sum_mul_add_congr (S := cfg3.N) (f := fun s : Fin 4096 => Ideal.div (Ideal.exp (Model.score (Ideal.ofBits .f32 0x43000000#32) (fam2 (V c main_v3_0)) (fam2 (V c main_arg14)) b s - fam1 (V c main_v3_1) b)) (fam1 (V c main_v3_2) b)
          * fam2 (V c main_arg15) s x) (fun p s h => ?_) (by rw [show cfg3.N = 8 from N_3])
  simp only [keys3 V c p s _ h, vals3 V c p s _ h]
  rfl

theorem arr3_9 (c : Dev nD) : (dat3 V c).arrAt 9 cfg3.N = fun i : S4096x128.Idx => afterWrite (V c main_v3_4) (V c main_v3_3) (fam2 (V c main_arg14)) (fam2 (V c main_v3_0)) (i 0) (i 1) := by
  refine (dat3 V c).arrAt_eq_of_covers 9 _ (by decide +kernel) fun t hf y => ?_
  blk_simp
  rw [after3_9, (new3 V c t).1, whole3_0, whole3_6, whole3_7]
  obtain ⟨s, d, rfl⟩ : ∃ (s : Fin 512) (d : Fin 128), y = ix2 s d := ⟨y 0, y 1, by funext a; fin_cases a <;> rfl⟩
  rw [k3_pay5_at, keys3 V c t s d (block_lt N_3 t s), coord3 t]
  have e : (win3_9.blk t).view.emb (ix2 s d) = (ix2 ⟨t.val * 512 + s.val, block_lt N_3 t s⟩ d : S4096x128.Idx) := by blk_ext [idx3_9 t]
  rw [e]; rfl

theorem arr3_10 (c : Dev nD) : (dat3 V c).arrAt 10 cfg3.N = fun i : S4096x2048.Idx => afterWrite (V c main_v3_4) (V c main_v3_3) (fam2 (V c main_arg15)) (fam2 (V c main_v1)) (i 0) (i 1) := by
  refine (dat3 V c).arrAt_eq_of_covers 10 _ (by decide +kernel) fun t hf y => ?_
  blk_simp
  rw [after3_10, (new3 V c t).2, whole3_3, whole3_6, whole3_7]
  obtain ⟨s, d, rfl⟩ : ∃ (s : Fin 512) (d : Fin 2048), y = ix2 s d := ⟨y 0, y 1, by funext a; fin_cases a <;> rfl⟩
  rw [k3_pay4_at, vals3 V c t s d (block_lt N_3 t s), coord3 t]
  have e : (win3_10.blk t).view.emb (ix2 s d) = (ix2 ⟨t.val * 512 + s.val, block_lt N_3 t s⟩ d : S4096x2048.Idx) := by blk_ext [idx3_10 t]
  rw [e]; rfl

end Arrays

end Cert.KernelIdeal.Gen

end
-- ==== Proof.Value.Mlp.lean ====
/- What the two calls of the fusion network leave: the normalised first layer (call 4) and the second layer (call 5). -/
module

public import proofs.«01_k».proof.Proof.Run.Region4
public import proofs.«01_k».proof.Proof.Run.Region5
public import proofs.«01_k».proof.Proof.Value.Stats

@[expose] public section

set_option maxRecDepth 16384

noncomputable section

namespace Cert.KernelIdeal.Gen

open Idealize.ShloMosaic Idealize.ShloMosaic.TcCoe
open Model (fam1 fam2 fam3)
open Idealize.ShloMosaic.Pipeline (Dat Cfg Window)

/-- One entry of the product of a block of 1024 columns with a block of 1024 rows. -/
def dotBlock (p : Vec Ideal S1024x1024 .f32) (w : Vec Ideal S1024x2048 .f32) (b : Fin 1024) (x : Fin 2048) : EReal :=
  ∑ k : Fin 1024, p (ix2 b k) * w (ix2 k x)

/-! ### The payloads -/

theorem k4_pay2_at (w : Vec Ideal S1024x2048 .f32) (a : Vec Ideal S1024x2048 .f32) (p : Vec Ideal S1024x1024 .f32) (b : Fin 1024) (x : Fin 2048) :
    k4_pay2 w a p (ix2 b x) = a (ix2 b x) + dotBlock p w b x := by
  pointwise [k4_pay2]
  rfl
theorem k4_pay3_at (w : Vec Ideal S1024x2048 .f32) (a : Vec Ideal S1024x2048 .f32) (p : Vec Ideal S1024x1024 .f32) (b : Fin 1024) (x : Fin 2048) :
    k4_pay3 w a p (ix2 b x) = a (ix2 b x) + dotBlock p w b x := by
  pointwise [k4_pay3]
  rfl
theorem k4_pay1_at (b : Fin 1024) (x : Fin 2048) : k4_pay1 (F := Ideal) (ix2 b x) = (0 : EReal) := by
  pointwise [k4_pay1]
theorem k4_pay4_at (a : Vec Ideal S1024x2048 .f32) (c g β : Vec Ideal S2048 .f32) (b : Fin 1024) (x : Fin 2048) :
    k4_pay4 a c g β (ix2 b x) = Model.act (fun b v => a (ix2 b v) + c (ix1 v)) (fam1 g) (fam1 β) b x := by
  pointwise [k4_pay4]
  simp only [Model.act, Model.gelu, Model.norm, Model.div_root_two]
  rfl
theorem k5_pay1_at (b : Fin 1024) (x : Fin 2048) : k5_pay1 (F := Ideal) (ix2 b x) = (0 : EReal) := by
  pointwise [k5_pay1]
theorem k5_pay2_at (w : Vec Ideal S1024x2048 .f32) (a : Vec Ideal S1024x2048 .f32) (p : Vec Ideal S1024x1024 .f32) (b : Fin 1024) (x : Fin 2048) :
    k5_pay2 a p w (ix2 b x) = a (ix2 b x) + dotBlock p w b x := by
  pointwise [k5_pay2]
  rfl
theorem k5_pay3_at (a : Vec Ideal S1024x2048 .f32) (c : Vec Ideal S2048 .f32) (b : Fin 1024) (x : Fin 2048) :
    k5_pay3 a c (ix2 b x) = a (ix2 b x) + c (ix1 x) := by
  pointwise [k5_pay3]

/-- A sum over two blocks of 1024. -/
theorem sum_two (f : Fin 2048 → EReal) :
    ∑ x, f x = (∑ k : Fin 1024, f ⟨0 * 1024 + k.val, by omega⟩) + ∑ k : Fin 1024, f ⟨1 * 1024 + k.val, by omega⟩ := by
  rw [← Fin.sum_mul_add_congr (S := 2) (n := 1024) (F := fun s k => f ⟨s.val * 1024 + k.val, by omega⟩) (f := f) (fun _ _ _ => rfl), Fin.sum_univ_two]
  rfl

section Arrays

variable (V : (c : Dev nD) → (b : Ref sig .tc) → Buf (Elt Ideal) ((c : Thread nD τ).loc b))

/-! ### The first layer -/

theorem idx4_0 : ∀ t : Fin cfg4.N, win4_0.index t = ![0, min t.val 1] := (by decide +kernel : ∀ t : Fin grid4.N, _)
theorem idx4_1 : ∀ t : Fin cfg4.N, win4_1.index t = ![0, t.val - 2] := (by decide +kernel : ∀ t : Fin grid4.N, _)
theorem idx4_2 : ∀ t : Fin cfg4.N, win4_2.index t = ![t.val, 0] := (by decide +kernel : ∀ t : Fin grid4.N, _)
theorem idx4_3 : ∀ t : Fin cfg4.N, win4_3.index t = ![0] := (by decide +kernel : ∀ t : Fin grid4.N, _)
theorem idx4_4 : ∀ t : Fin cfg4.N, win4_4.index t = ![0] := (by decide +kernel : ∀ t : Fin grid4.N, _)
theorem idx4_5 : ∀ t : Fin cfg4.N, win4_5.index t = ![0] := (by decide +kernel : ∀ t : Fin grid4.N, _)
theorem idx4_6 : ∀ t : Fin cfg4.N, win4_6.index t = ![0, 0] := (by decide +kernel : ∀ t : Fin grid4.N, _)
theorem last4_6 : ∀ t : Fin cfg4.N, win4_6.flush t = true → t.val = 3 := (by decide +kernel : ∀ t : Fin grid4.N, _)
theorem whole4_3 (c : Dev nD) (t : Fin cfg4.N) : iblk4 V c 3 t = V c main_arg3 := by
  funext y; blk_ext [iblk4, idx4_3 t]
theorem whole4_4 (c : Dev nD) (t : Fin cfg4.N) : iblk4 V c 4 t = V c main_arg4 := by
  funext y; blk_ext [iblk4, idx4_4 t]
theorem whole4_5 (c : Dev nD) (t : Fin cfg4.N) : iblk4 V c 5 t = V c main_arg5 := by
  funext y; blk_ext [iblk4, idx4_5 t]

/-- The product of block `j` of the pairs' read, or of the macro read, with the rows of the first matrix from row `o`. -/
def part4 (p : Fin 1024 → Fin 2048 → EReal) (w : Fin 4096 → Fin 2048 → EReal) (o : ℕ) (ho : o ≤ 2048) (j : ℕ) (hj : j < 2) (b : Fin 1024) (x : Fin 2048) : EReal :=
  ∑ k : Fin 1024, p b ⟨j * 1024 + k.val, by omega⟩ * w ⟨o + (j * 1024 + k.val), by omega⟩ x

theorem dot4_early (c : Dev nD) (t : Fin cfg4.N) (h : t.val < 2) (b : Fin 1024) (x : Fin 2048) :
    dotBlock (iblk4 V c 0 t) (iblk4 V c 2 t) b x
      = part4 (fam2 (V c main_v4_0)) (fam2 (V c main_arg2)) 0 (by omega) t.val h b x := by
  refine Finset.sum_congr rfl fun k _ => ?_
  congr 1
  · blk_ext [iblk4, idx4_0 t]
  · blk_ext [iblk4, idx4_2 t]
theorem dot4_late (c : Dev nD) (t : Fin cfg4.N) (h : 2 ≤ t.val) (h' : t.val - 2 < 2) (b : Fin 1024) (x : Fin 2048) :
    dotBlock (iblk4 V c 1 t) (iblk4 V c 2 t) b x
      = part4 (fam2 (V c main_v5_0)) (fam2 (V c main_arg2)) 2048 (by omega) (t.val - 2) h' b x := by
  refine Finset.sum_congr rfl fun k _ => ?_
  congr 1
  · blk_ext [iblk4, idx4_1 t]
  · blk_ext [iblk4, idx4_2 t]

theorem sum4 (p : Fin 1024 → Fin 2048 → EReal) (w : Fin 4096 → Fin 2048 → EReal) (o : ℕ) (ho : o ≤ 2048) (b : Fin 1024) (x : Fin 2048) :
    part4 p w o ho 0 (by omega) b x + part4 p w o ho 1 (by omega) b x = ∑ y : Fin 2048, p b y * w ⟨o + y.val, by omega⟩ x :=
  (sum_two fun y => p b y * w ⟨o + y.val, by omega⟩ x).symm

theorem acc4_0 (c : Dev nD) (t : Fin cfg4.N) (ht : t.val = 0) (b : Fin 1024) (x : Fin 2048) : outsAt4 V c t.val t.isLt (ix2 b x)
    = part4 (fam2 (V c main_v4_0)) (fam2 (V c main_arg2)) 0 (by omega) 0 (by omega) b x := by
  rw [outsAt4_A V c t (by omega) (by omega) (by omega) (by omega)]; frame_out
  rw [k4_pay2_at, k4_pay1_at, dot4_early V c t (by omega), zero_add]
  simp only [ht]
theorem acc4_1 (c : Dev nD) (t : Fin cfg4.N) (ht : t.val = 1) (b : Fin 1024) (x : Fin 2048) : outsAt4 V c t.val t.isLt (ix2 b x)
    = ∑ y : Fin 2048, fam2 (V c main_v4_0) b y * fam2 (V c main_arg2) ⟨0 + y.val, by omega⟩ x := by
  rw [outsAt4_B V c t (by omega) (by omega) (by omega) (by omega)]; frame_out
  rw [k4_pay2_at, dot4_early V c t (by omega), acc4_0 V c ⟨t.val - 1, Nat.lt_of_le_of_lt (Nat.sub_le _ _) t.isLt⟩ (by simp only [ht])]
  simp only [ht]
  exact sum4 _ _ _ _ b x
theorem acc4_2 (c : Dev nD) (t : Fin cfg4.N) (ht : t.val = 2) (b : Fin 1024) (x : Fin 2048) : outsAt4 V c t.val t.isLt (ix2 b x)
    = (∑ y : Fin 2048, fam2 (V c main_v4_0) b y * fam2 (V c main_arg2) ⟨0 + y.val, by omega⟩ x)
      + part4 (fam2 (V c main_v5_0)) (fam2 (V c main_arg2)) 2048 (by omega) 0 (by omega) b x := by
  rw [outsAt4_C V c t (by omega) (by omega) (by omega) (by omega)]; frame_out
  rw [k4_pay3_at, dot4_late V c t (by omega) (by omega), acc4_1 V c ⟨t.val - 1, Nat.lt_of_le_of_lt (Nat.sub_le _ _) t.isLt⟩ (by simp only [ht])]
  simp only [ht]

theorem arr4_6 (c : Dev nD) : (dat4 V c).arrAt 6 cfg4.N = fun i : S1024x2048.Idx =>
    Model.act (Model.hidden (fam2 (V c main_v4_0)) (fam2 (V c main_v5_0)) (fam2 (V c main_arg2)) (fam1 (V c main_arg3))) (fam1 (V c main_arg4)) (fam1 (V c main_arg5)) (i 0) (i 1) := by
  refine (dat4 V c).arrAt_eq_of_covers 6 _ (by decide +kernel) fun t hf y => ?_
  blk_simp
  have ht : t.val = 3 := last4_6 t hf
  obtain ⟨b, v, rfl⟩ : ∃ (b : Fin 1024) (v : Fin 2048), y = ix2 b v := ⟨y 0, y 1, by funext a; fin_cases a <;> rfl⟩
  have e : (win4_6.blk t).view.emb (ix2 b v) = (ix2 b v : S1024x2048.Idx) := by blk_ext [idx4_6 t]
  rw [after4_6, outsAt4_D V c t (by omega) (by omega) (by omega) (by omega), e]; frame_out
  rw [k4_pay4_at, whole4_3, whole4_4, whole4_5]
  have ha : ∀ (b : Fin 1024) (x : Fin 2048),
      k4_pay3 (iblk4 V c 2 t) (outsAt4 V c (t.val - 1) (Nat.lt_of_le_of_lt (Nat.sub_le _ _) t.isLt)) (iblk4 V c 1 t) (ix2 b x) + fam1 (V c main_arg3) x
      = Model.hidden (fam2 (V c main_v4_0)) (fam2 (V c main_v5_0)) (fam2 (V c main_arg2)) (fam1 (V c main_arg3)) b x := fun b x => by
    rw [k4_pay3_at, dot4_late V c t (by omega) (by omega), acc4_2 V c ⟨t.val - 1, Nat.lt_of_le_of_lt (Nat.sub_le _ _) t.isLt⟩ (by simp only [ht])]
    simp only [ht]
    rw [add_assoc (∑ y : Fin 2048, _), sum4]
    simp only [zero_add]; rfl
  show Model.act (fun b x => _) _ _ b v = _
  simp only [ha]
  rfl

/-! ### The second layer -/

theorem idx5_0 : ∀ t : Fin cfg5.N, win5_0.index t = ![0, t.val] := (by decide +kernel : ∀ t : Fin grid5.N, _)
theorem idx5_1 : ∀ t : Fin cfg5.N, win5_1.index t = ![t.val, 0] := (by decide +kernel : ∀ t : Fin grid5.N, _)
theorem idx5_2 : ∀ t : Fin cfg5.N, win5_2.index t = ![0] := (by decide +kernel : ∀ t : Fin grid5.N, _)
theorem idx5_3 : ∀ t : Fin cfg5.N, win5_3.index t = ![0, 0] := (by decide +kernel : ∀ t : Fin grid5.N, _)
theorem last5_3 : ∀ t : Fin cfg5.N, win5_3.flush t = true → t.val = 1 := (by decide +kernel : ∀ t : Fin grid5.N, _)
theorem whole5_2 (c : Dev nD) (t : Fin cfg5.N) : iblk5 V c 2 t = V c main_arg7 := by
  funext y; blk_ext [iblk5, idx5_2 t]

/-- The product of block `j` of the first layer with its rows of the second matrix. -/
def part5 (p w : Fin 2048 → EReal) (j : ℕ) (hj : j < 2) : EReal := ∑ k : Fin 1024, p ⟨j * 1024 + k.val, by omega⟩ * w ⟨j * 1024 + k.val, by omega⟩

theorem dot5 (c : Dev nD) (t : Fin cfg5.N) (h : t.val < 2) (b : Fin 1024) (x : Fin 2048) :
    dotBlock (iblk5 V c 0 t) (iblk5 V c 1 t) b x
      = part5 (fam2 (V c main_v6) b) (fun y => fam2 (V c main_arg6) y x) t.val h := by
  refine Finset.sum_congr rfl fun k _ => ?_
  congr 1
  · blk_ext [iblk5, idx5_0 t]
  · blk_ext [iblk5, idx5_1 t]
theorem acc5_0 (c : Dev nD) (t : Fin cfg5.N) (ht : t.val = 0) (b : Fin 1024) (x : Fin 2048) : outsAt5 V c t.val t.isLt (ix2 b x)
    = part5 (fam2 (V c main_v6) b) (fun y => fam2 (V c main_arg6) y x) 0 (by omega) := by
  rw [outsAt5_A V c t (by omega) (by omega)]; frame_out
  rw [k5_pay2_at, k5_pay1_at, dot5 V c t (by omega), zero_add]
  simp only [ht]

theorem arr5_3 (c : Dev nD) : (dat5 V c).arrAt 3 cfg5.N = fun i : S1024x2048.Idx =>
    Model.fused (fam2 (V c main_v6)) (fam2 (V c main_arg6)) (fam1 (V c main_arg7)) (i 0) (i 1) := by
  refine (dat5 V c).arrAt_eq_of_covers 3 _ (by decide +kernel) fun t hf y => ?_
  blk_simp
  have ht : t.val = 1 := last5_3 t hf
  obtain ⟨b, v, rfl⟩ : ∃ (b : Fin 1024) (v : Fin 2048), y = ix2 b v := ⟨y 0, y 1, by funext a; fin_cases a <;> rfl⟩
  have e : (win5_3.blk t).view.emb (ix2 b v) = (ix2 b v : S1024x2048.Idx) := by blk_ext [idx5_3 t]
  rw [after5_3, outsAt5_B V c t (by omega) (by omega), e]; frame_out
  rw [k5_pay3_at, whole5_2, k5_pay2_at, dot5 V c t (by omega), acc5_0 V c ⟨t.val - 1, Nat.lt_of_le_of_lt (Nat.sub_le _ _) t.isLt⟩ (by simp only [ht])]
  simp only [ht]
  exact congrArg (· + fam1 (V c main_arg7) v) (sum_two fun y => fam2 (V c main_v6) b y * fam2 (V c main_arg6) y v).symm

end Arrays

end Cert.KernelIdeal.Gen

end
-- ==== Proof.Value.Heads.lean ====
/- What the last call leaves: the heads, two pairs at each grid point. -/
module

public import proofs.«01_k».proof.Proof.Run.Region6
public import proofs.«01_k».proof.Proof.Value.Stats

@[expose] public section

set_option maxRecDepth 16384

noncomputable section

namespace Cert.KernelIdeal.Gen

open Idealize.ShloMosaic Idealize.ShloMosaic.TcCoe
open Model (fam1 fam2 fam3)
open Idealize.ShloMosaic.Pipeline (Dat Cfg Window)

/-- One pair's head before its normalisation, from a block of states and a block of fused rows of which the pair has the columns from `o`. -/
def blockHead (o : ℕ) (ho : o ≤ 64) (x f : Vec Ideal S1024x128 .f32) (w : Vec Ideal S1x128x64 .f32) (c : Vec Ideal S1x64 .f32) (b : Fin 1024) (j : Fin 64) : EReal :=
  (∑ i : Fin 64, x (ix2 b ⟨o + i.val, by omega⟩) * w (ix3 0 ⟨i.val, by omega⟩ j))
    + (∑ i : Fin 64, f (ix2 b ⟨o + i.val, by omega⟩) * w (ix3 0 ⟨64 + i.val, by omega⟩ j)) + c (ix2 0 j)

theorem k6_pay5_at (x f : Vec Ideal S1024x128 .f32) (w : Vec Ideal S1x128x64 .f32) (c g β : Vec Ideal S1x64 .f32) (b : Fin 1024) (j : Fin 64) :
    k6_pay5 (k6_pay4 x f w c g) β (ix2 b j)
      = Model.norm (Ideal.ofBits .f32 0x42800000#32) (blockHead 0 (by omega) x f w c b) (fun j => g (ix2 0 j)) (fun j => β (ix2 0 j)) j := by
  pointwise [k6_pay5, k6_pay4, k6_pay2, k6_pay3]
  simp only [Model.norm, blockHead, Nat.zero_add]
theorem k6_pay6_at (x f : Vec Ideal S1024x128 .f32) (w : Vec Ideal S1x128x64 .f32) (c g β : Vec Ideal S1x64 .f32) (b : Fin 1024) (j : Fin 64) :
    k6_pay6 (k6_pay2 x) (k6_pay3 f) w c g (ix2 b j) + β (ix2 0 j)
      = Model.norm (Ideal.ofBits .f32 0x42800000#32) (blockHead 64 (by omega) x f w c b) (fun j => g (ix2 0 j)) (fun j => β (ix2 0 j)) j := by
  pointwise [k6_pay6, k6_pay2, k6_pay3]
  simp only [Model.norm, blockHead]
theorem k6_pay1_low (a d : FVec Ideal S1024x64 .f32) (β : Vec Ideal S1x64 .f32) (b : Fin 1024) (j : Fin 128) (h : j.val < 64) :
    k6_pay1 a d β (ix2 b j) = a (ix2 b ⟨j.val, h⟩) := by
  pointwise [k6_pay1]
  simp [h]
theorem k6_pay1_high (a d : FVec Ideal S1024x64 .f32) (β : Vec Ideal S1x64 .f32) (b : Fin 1024) (j : Fin 128) (h : ¬ j.val < 64) :
    k6_pay1 a d β (ix2 b j) = d (ix2 b ⟨j.val - 64, by omega⟩) + β (ix2 0 ⟨j.val - 64, by omega⟩) := by
  pointwise [k6_pay1]
  simp [h]

/-- A row of 2048 as 32 rows of 64. -/
def rows {α : Type} (x : Fin 2048 → α) (p : Fin 32) (i : Fin 64) : α := x ⟨p.val * 64 + i.val, by omega⟩

section Arrays

variable (V : (c : Dev nD) → (b : Ref sig .tc) → Buf (Elt Ideal) ((c : Thread nD τ).loc b))

theorem idx6_0 : ∀ t : Fin cfg6.N, win6_0.index t = ![0, t.val] := (by decide +kernel : ∀ t : Fin grid6.N, _)
theorem idx6_1 : ∀ t : Fin cfg6.N, win6_1.index t = ![0, t.val] := (by decide +kernel : ∀ t : Fin grid6.N, _)
theorem idx6_2 : ∀ t : Fin cfg6.N, win6_2.index t = ![t.val, 0, 0] := (by decide +kernel : ∀ t : Fin grid6.N, _)
theorem idx6_3 : ∀ t : Fin cfg6.N, win6_3.index t = ![0, t.val] := (by decide +kernel : ∀ t : Fin grid6.N, _)
theorem idx6_4 : ∀ t : Fin cfg6.N, win6_4.index t = ![0, t.val] := (by decide +kernel : ∀ t : Fin grid6.N, _)
theorem idx6_5 : ∀ t : Fin cfg6.N, win6_5.index t = ![0, t.val] := (by decide +kernel : ∀ t : Fin grid6.N, _)
theorem idx6_6 : ∀ t : Fin cfg6.N, win6_6.index t = ![0, t.val] := (by decide +kernel : ∀ t : Fin grid6.N, _)
theorem lt6 (t : Fin cfg6.N) : t.val < 16 := t.isLt

/-- The blocks of a grid point, by their place in the arrays. -/
theorem blk6_0 (c : Dev nD) (t : Fin cfg6.N) (b : Fin 1024) (j : Fin 128) :
    (iblk6 V c 0 t : Vec Ideal S1024x128 .f32) (ix2 b j) = (V c main_v0 : S1024x2048.Idx → EReal) (ix2 b ⟨t.val * 128 + j.val, by have := lt6 t; omega⟩) := by
  blk_ext [iblk6, idx6_0 t]
theorem blk6_1 (c : Dev nD) (t : Fin cfg6.N) (b : Fin 1024) (j : Fin 128) :
    (iblk6 V c 1 t : Vec Ideal S1024x128 .f32) (ix2 b j) = (V c main_v7 : S1024x2048.Idx → EReal) (ix2 b ⟨t.val * 128 + j.val, by have := lt6 t; omega⟩) := by
  blk_ext [iblk6, idx6_1 t]
theorem blk6_2 (c : Dev nD) (t : Fin cfg6.N) (u : Fin 2) (i : Fin 128) (j : Fin 64) :
    (iblk6 V c 2 t : Vec Ideal S2x128x64 .f32) (ix3 u i j) = (V c main_arg8 : S32x128x64.Idx → EReal) (ix3 ⟨t.val * 2 + u.val, by have := lt6 t; omega⟩ i j) := by
  blk_ext [iblk6, idx6_2 t]
theorem blk6_3 (c : Dev nD) (t : Fin cfg6.N) (j : Fin 128) :
    (iblk6 V c 3 t : Vec Ideal S1x128 .f32) (ix2 0 j) = (V c main_v8 : S1x2048.Idx → EReal) (ix2 0 ⟨t.val * 128 + j.val, by have := lt6 t; omega⟩) := by
  blk_ext [iblk6, idx6_3 t]
theorem blk6_4 (c : Dev nD) (t : Fin cfg6.N) (j : Fin 128) :
    (iblk6 V c 4 t : Vec Ideal S1x128 .f32) (ix2 0 j) = (V c main_v9 : S1x2048.Idx → EReal) (ix2 0 ⟨t.val * 128 + j.val, by have := lt6 t; omega⟩) := by
  blk_ext [iblk6, idx6_4 t]
theorem blk6_5 (c : Dev nD) (t : Fin cfg6.N) (j : Fin 128) :
    (iblk6 V c 5 t : Vec Ideal S1x128 .f32) (ix2 0 j) = (V c main_v10 : S1x2048.Idx → EReal) (ix2 0 ⟨t.val * 128 + j.val, by have := lt6 t; omega⟩) := by
  blk_ext [iblk6, idx6_5 t]

/-- Half of a block of one row, and one of two matrices. -/
theorem ld_low (X : Vec Ideal S1x128 .f32) (j : Fin 64) : View.ld X r6_2 (ix2 0 j) = X (ix2 0 ⟨0 + j.val, by omega⟩) :=
  View.ld_unit_apply_of X _ _ _ _ _ fun a => by fin_cases a <;> rfl
theorem ld_high (X : Vec Ideal S1x128 .f32) (j : Fin 64) : View.ld X r6_4 (ix2 0 j) = X (ix2 0 ⟨64 + j.val, by omega⟩) :=
  View.ld_unit_apply_of X _ _ _ _ _ fun a => by fin_cases a <;> rfl
theorem ld_first (X : Vec Ideal S2x128x64 .f32) (i : Fin 128) (j : Fin 64) : View.ld X r6_1 (ix3 0 i j) = X (ix3 0 i j) :=
  View.ld_unit_apply_of X _ _ _ _ _ fun a => by fin_cases a <;> simp
theorem ld_second (X : Vec Ideal S2x128x64 .f32) (i : Fin 128) (j : Fin 64) : View.ld X r6_3 (ix3 0 i j) = X (ix3 1 i j) :=
  View.ld_unit_apply_of X _ _ _ _ _ fun a => by fin_cases a <;> simp

/-- The heads of the arrays this call reads. -/
def heads6 (c : Dev nD) (b : Fin 1024) (p : Fin 32) (o : Fin 64) : EReal :=
  Model.enriched (fun b => rows (fam2 (V c main_v0) b)) (fam2 (V c main_v7)) (fam3 (V c main_arg8)) (rows (fam2 (V c main_v8) 0))
    (rows (fam2 (V c main_v9) 0)) (rows (fam2 (V c main_v10) 0)) b p o

theorem first6_col (t : Fin cfg6.N) (i : Fin 64) (h : t.val * 128 + (0 + i.val) < 2048) (h' : (t.val * 2) * 64 + i.val < 2048) :
    (⟨t.val * 128 + (0 + i.val), h⟩ : Fin 2048) = ⟨(t.val * 2) * 64 + i.val, h'⟩ := Fin.ext (by show t.val * 128 + (0 + i.val) = (t.val * 2) * 64 + i.val; omega)
theorem first6_head (c : Dev nD) (t : Fin cfg6.N) (b : Fin 1024) :
    blockHead 0 (by omega) (iblk6 V c 0 t) (iblk6 V c 1 t) (View.ld (iblk6 V c 2 t) r6_1) (View.ld (iblk6 V c 3 t) r6_2) b
      = Model.head (fun b => rows (fam2 (V c main_v0) b)) (fam2 (V c main_v7)) (fam3 (V c main_arg8)) (rows (fam2 (V c main_v8) 0)) b ⟨t.val * 2, by have := lt6 t; omega⟩ := by
  funext j
  unfold blockHead Model.head
  refine congrArg₂ (· + ·) (congrArg₂ (· + ·) (Finset.sum_congr rfl fun i _ => congrArg₂ (· * ·) ?_ ?_) (Finset.sum_congr rfl fun i _ => congrArg₂ (· * ·) ?_ ?_)) ?_
  · exact (blk6_0 V c t b _).trans (congrArg (fam2 (V c main_v0) b) (first6_col t i _ _))
  · exact (ld_first _ _ j).trans (blk6_2 V c t _ _ j)
  · exact (blk6_1 V c t b _).trans (congrArg (fam2 (V c main_v7) b) (first6_col t i _ _))
  · exact (ld_first _ _ j).trans (blk6_2 V c t _ _ j)
  · exact (ld_low _ j).trans ((blk6_3 V c t _).trans (congrArg (fam2 (V c main_v8) 0) (first6_col t j _ _)))
theorem first6 (c : Dev nD) (t : Fin cfg6.N) (b : Fin 1024) (j : Fin 64) :
    k6_pay5 (k6_pay4 (iblk6 V c 0 t) (iblk6 V c 1 t) (View.ld (iblk6 V c 2 t) r6_1) (View.ld (iblk6 V c 3 t) r6_2) (View.ld (iblk6 V c 4 t) r6_2)) (View.ld (iblk6 V c 5 t) r6_2) (ix2 b j)
      = heads6 V c b ⟨t.val * 2, by have := lt6 t; omega⟩ j := by
  rw [k6_pay5_at, first6_head]
  refine congrArg₂ (fun g β => Model.norm _ _ g β j) (funext fun j => ?_) (funext fun j => ?_)
  · exact (ld_low _ j).trans ((blk6_4 V c t _).trans (congrArg (fam2 (V c main_v9) 0) (first6_col t j _ _)))
  · exact (ld_low _ j).trans ((blk6_5 V c t _).trans (congrArg (fam2 (V c main_v10) 0) (first6_col t j _ _)))

theorem second6_col (t : Fin cfg6.N) (i : Fin 64) (h : t.val * 128 + (64 + i.val) < 2048) (h' : (t.val * 2 + 1) * 64 + i.val < 2048) :
    (⟨t.val * 128 + (64 + i.val), h⟩ : Fin 2048) = ⟨(t.val * 2 + 1) * 64 + i.val, h'⟩ := Fin.ext (by show t.val * 128 + (64 + i.val) = (t.val * 2 + 1) * 64 + i.val; omega)
theorem second6_head (c : Dev nD) (t : Fin cfg6.N) (b : Fin 1024) :
    blockHead 64 (by omega) (iblk6 V c 0 t) (iblk6 V c 1 t) (View.ld (iblk6 V c 2 t) r6_3) (View.ld (iblk6 V c 3 t) r6_4) b
      = Model.head (fun b => rows (fam2 (V c main_v0) b)) (fam2 (V c main_v7)) (fam3 (V c main_arg8)) (rows (fam2 (V c main_v8) 0)) b ⟨t.val * 2 + 1, by have := lt6 t; omega⟩ := by
  funext j
  unfold blockHead Model.head
  refine congrArg₂ (· + ·) (congrArg₂ (· + ·) (Finset.sum_congr rfl fun i _ => congrArg₂ (· * ·) ?_ ?_) (Finset.sum_congr rfl fun i _ => congrArg₂ (· * ·) ?_ ?_)) ?_
  · exact (blk6_0 V c t b _).trans (congrArg (fam2 (V c main_v0) b) (second6_col t i _ _))
  · exact (ld_second _ _ j).trans (blk6_2 V c t _ _ j)
  · exact (blk6_1 V c t b _).trans (congrArg (fam2 (V c main_v7) b) (second6_col t i _ _))
  · exact (ld_second _ _ j).trans (blk6_2 V c t _ _ j)
  · exact (ld_high _ j).trans ((blk6_3 V c t _).trans (congrArg (fam2 (V c main_v8) 0) (second6_col t j _ _)))
theorem second6 (c : Dev nD) (t : Fin cfg6.N) (b : Fin 1024) (j : Fin 64) :
    k6_pay6 (k6_pay2 (iblk6 V c 0 t)) (k6_pay3 (iblk6 V c 1 t)) (View.ld (iblk6 V c 2 t) r6_3) (View.ld (iblk6 V c 3 t) r6_4) (View.ld (iblk6 V c 4 t) r6_4) (ix2 b j) + View.ld (iblk6 V c 5 t) r6_4 (ix2 0 j)
      = heads6 V c b ⟨t.val * 2 + 1, by have := lt6 t; omega⟩ j := by
  rw [k6_pay6_at, second6_head]
  refine congrArg₂ (fun g β => Model.norm _ _ g β j) (funext fun j => ?_) (funext fun j => ?_)
  · exact (ld_high _ j).trans ((blk6_4 V c t _).trans (congrArg (fam2 (V c main_v9) 0) (second6_col t j _ _)))
  · exact (ld_high _ j).trans ((blk6_5 V c t _).trans (congrArg (fam2 (V c main_v10) 0) (second6_col t j _ _)))

/-- The heads by the column of the array they are stored in. -/
def heads6At (c : Dev nD) (b : Fin 1024) (v : Fin 2048) : EReal := heads6 V c b ⟨v.val / 64, by omega⟩ ⟨v.val % 64, by omega⟩

theorem arr6_6 (c : Dev nD) : (dat6 V c).arrAt 6 cfg6.N = fun i : S1024x2048.Idx => heads6At V c (i 0) (i 1) := by
  refine (dat6 V c).arrAt_eq_of_covers 6 _ (by decide +kernel) fun t hf y => ?_
  blk_simp
  have ht := lt6 t
  obtain ⟨b, j, rfl⟩ : ∃ (b : Fin 1024) (j : Fin 128), y = ix2 b j := ⟨y 0, y 1, by funext a; fin_cases a <;> rfl⟩
  have e : (win6_6.blk t).view.emb (ix2 b j) = (ix2 b ⟨t.val * 128 + j.val, by omega⟩ : S1024x2048.Idx) := by blk_ext [idx6_6 t]
  rw [after6_6, e]; frame_out
  show _ = heads6 V c b ⟨(t.val * 128 + j.val) / 64, _⟩ ⟨(t.val * 128 + j.val) % 64, _⟩
  by_cases h : j.val < 64
  · refine (k6_pay1_low _ _ _ b j h).trans ((first6 V c t b _).trans ?_)
    exact congr (congrArg (heads6 V c b) (Fin.ext (by show t.val * 2 = (t.val * 128 + j.val) / 64; omega)))
      (Fin.ext (by show j.val = (t.val * 128 + j.val) % 64; omega))
  · refine (k6_pay1_high _ _ _ b j h).trans ((second6 V c t b _).trans ?_)
    exact congr (congrArg (heads6 V c b) (Fin.ext (by show t.val * 2 + 1 = (t.val * 128 + j.val) / 64; omega)))
      (Fin.ext (by show j.val - 64 = (t.val * 128 + j.val) % 64; omega))

end Arrays

end Cert.KernelIdeal.Gen

end
-- ==== Proof.Value.Chain.lean ====
/- The kernel's five results as functions of its arguments: what each call leaves, followed through the calls after it. -/
module

public import proofs.«01_k».proof.Proof.Run.Fold0
public import proofs.«01_k».proof.Proof.Value.Results
public import proofs.«01_k».proof.Proof.Value.ReadWritePair
public import proofs.«01_k».proof.Proof.Value.ReadWriteMacro
public import proofs.«01_k».proof.Proof.Value.Mlp
public import proofs.«01_k».proof.Proof.Value.Heads
public import Idealize.ShloMosaic.Lib.StableHlo.ReadAt

@[expose] public section

set_option maxRecDepth 16384

noncomputable section

namespace Cert.KernelIdeal.Gen

open Idealize.ShloMosaic Idealize.ShloMosaic.TcCoe Idealize.SL.Sem Idealize.ShloMosaic.StableHlo
open Model (fam1 fam2 fam3)

variable (m : (ℓ : Loc nD τ sig) → Buf (Elt Ideal) ℓ) (ρ : Dev nD → PrngReg) (c : Dev nD)

/-- The arguments, by their coordinates. -/
abbrev inX : Fin 1024 → Fin 32 → Fin 64 → EReal := fam3 (m ((c : Thread nD τ).loc main_arg0))
abbrev inQ : Fin 1024 → Fin 128 → EReal := fam2 (m ((c : Thread nD τ).loc main_arg1))
abbrev inW1 : Fin 4096 → Fin 2048 → EReal := fam2 (m ((c : Thread nD τ).loc main_arg2))
abbrev inB1 : Fin 2048 → EReal := fam1 (m ((c : Thread nD τ).loc main_arg3))
abbrev inG1 : Fin 2048 → EReal := fam1 (m ((c : Thread nD τ).loc main_arg4))
abbrev inT1 : Fin 2048 → EReal := fam1 (m ((c : Thread nD τ).loc main_arg5))
abbrev inW2 : Fin 2048 → Fin 2048 → EReal := fam2 (m ((c : Thread nD τ).loc main_arg6))
abbrev inB2 : Fin 2048 → EReal := fam1 (m ((c : Thread nD τ).loc main_arg7))
abbrev inW : Fin 32 → Fin 128 → Fin 64 → EReal := fam3 (m ((c : Thread nD τ).loc main_arg8))
abbrev inC : Fin 32 → Fin 64 → EReal := fam2 (m ((c : Thread nD τ).loc main_arg9))
abbrev inG : Fin 32 → Fin 64 → EReal := fam2 (m ((c : Thread nD τ).loc main_arg10))
abbrev inT : Fin 32 → Fin 64 → EReal := fam2 (m ((c : Thread nD τ).loc main_arg11))
abbrev inKP : Fin 4096 → Fin 64 → EReal := fam2 (m ((c : Thread nD τ).loc main_arg12))
abbrev inVP : Fin 4096 → Fin 2048 → EReal := fam2 (m ((c : Thread nD τ).loc main_arg13))
abbrev inKM : Fin 4096 → Fin 128 → EReal := fam2 (m ((c : Thread nD τ).loc main_arg14))
abbrev inVM : Fin 4096 → Fin 2048 → EReal := fam2 (m ((c : Thread nD τ).loc main_arg15))

/-! ### The scores, and what the first two calls leave -/

theorem z0_eq : Z0 (V1 m ρ) c = Model.scoreP (inX m c) (inKP m c) := by
  unfold Z0
  rw [show V1 m ρ c main_arg0 = _ from W1_args m ρ c main_arg0 (by decide), show V1 m ρ c main_arg12 = _ from W1_args m ρ c main_arg12 (by decide)]
theorem z1_eq : Z1 (V2 m ρ) c = Model.scoreM (inQ m c) (inKM m c) := by
  unfold Z1
  rw [show V2 m ρ c main_arg1 = _ from W2_args m ρ c main_arg1 (by decide), show V2 m ρ c main_arg14 = _ from W2_args m ρ c main_arg14 (by decide)]

theorem pair_query : fam2 (V3 m ρ c main_v2_0) = Model.mean (inX m c) := by
  have e : V3 m ρ c main_v2_0 = (dat0 (V1 m ρ) c).arrAt 2 cfg0.N := (W3_of m ρ c main_v2_0 (by decide +kernel)).trans (W2_arr m ρ c 2)
  funext b d
  rw [e]
  refine (at0_2 (V1 m ρ) c b d).trans ?_
  rw [show V1 m ρ c main_arg0 = _ from W1_args m ρ c main_arg0 (by decide)]
theorem pair_best : fam1 (V3 m ρ c main_v2_1) = Model.best (Model.scoreP (inX m c) (inKP m c)) := by
  have e : V3 m ρ c main_v2_1 = (dat0 (V1 m ρ) c).arrAt 3 cfg0.N := (W3_of m ρ c main_v2_1 (by decide +kernel)).trans (W2_arr m ρ c 3)
  funext b
  rw [e, ← z0_eq m ρ c]
  exact at0_3 (V1 m ρ) c b
theorem pair_mass : fam1 (V3 m ρ c main_v2_2) = Model.mass (Model.scoreP (inX m c) (inKP m c)) := by
  have e : V3 m ρ c main_v2_2 = (dat0 (V1 m ρ) c).arrAt 4 cfg0.N := (W3_of m ρ c main_v2_2 (by decide +kernel)).trans (W2_arr m ρ c 4)
  funext b
  rw [e, ← z0_eq m ρ c]
  exact at0_4 (V1 m ρ) c b
theorem pair_weight (h : ∀ b s, Model.IsReal (Model.scoreP (inX m c) (inKP m c) b s)) (b : Fin 1024) :
    (V3 m ρ c main_v2_3 : Vec Ideal S1024 .f32) (ix1 b) = Model.weight (Model.scoreP (inX m c) (inKP m c)) b := by
  have e : V3 m ρ c main_v2_3 = (dat0 (V1 m ρ) c).arrAt 5 cfg0.N := (W3_of m ρ c main_v2_3 (by decide +kernel)).trans (W2_arr m ρ c 5)
  rw [e]
  rw [← z0_eq m ρ c] at h ⊢
  exact at0_5 (V1 m ρ) c b (h b)
theorem pair_slot (b : Fin 1024) : (V3 m ρ c main_v2_4 : Vec Ideal S1024 .i32) (ix1 b) = Model.slot (Model.scoreP (inX m c) (inKP m c)) b := by
  have e : V3 m ρ c main_v2_4 = (dat0 (V1 m ρ) c).arrAt 6 cfg0.N := (W3_of m ρ c main_v2_4 (by decide +kernel)).trans (W2_arr m ρ c 6)
  rw [e, ← z0_eq m ρ c]
  exact at0_6 (V1 m ρ) c b

theorem wide_query : fam2 (V4 m ρ c main_v3_0) = inQ m c := by
  have e : V4 m ρ c main_v3_0 = (dat1 (V2 m ρ) c).arrAt 2 cfg1.N := (W4_of m ρ c main_v3_0 (by decide +kernel)).trans (W3_arr m ρ c 2)
  rw [e, at1_2, show V2 m ρ c main_arg1 = _ from W2_args m ρ c main_arg1 (by decide)]
theorem wide_best : fam1 (V4 m ρ c main_v3_1) = Model.best (Model.scoreM (inQ m c) (inKM m c)) := by
  have e : V4 m ρ c main_v3_1 = (dat1 (V2 m ρ) c).arrAt 3 cfg1.N := (W4_of m ρ c main_v3_1 (by decide +kernel)).trans (W3_arr m ρ c 3)
  funext b
  rw [e, ← z1_eq m ρ c]
  exact at1_3 (V2 m ρ) c b
theorem wide_mass : fam1 (V4 m ρ c main_v3_2) = Model.mass (Model.scoreM (inQ m c) (inKM m c)) := by
  have e : V4 m ρ c main_v3_2 = (dat1 (V2 m ρ) c).arrAt 4 cfg1.N := (W4_of m ρ c main_v3_2 (by decide +kernel)).trans (W3_arr m ρ c 4)
  funext b
  rw [e, ← z1_eq m ρ c]
  exact at1_4 (V2 m ρ) c b
theorem wide_weight (h : ∀ b s, Model.IsReal (Model.scoreM (inQ m c) (inKM m c) b s)) (b : Fin 1024) :
    (V4 m ρ c main_v3_3 : Vec Ideal S1024 .f32) (ix1 b) = Model.weight (Model.scoreM (inQ m c) (inKM m c)) b := by
  have e : V4 m ρ c main_v3_3 = (dat1 (V2 m ρ) c).arrAt 5 cfg1.N := (W4_of m ρ c main_v3_3 (by decide +kernel)).trans (W3_arr m ρ c 5)
  rw [e]
  rw [← z1_eq m ρ c] at h ⊢
  exact at1_5 (V2 m ρ) c b (h b)
theorem wide_slot (b : Fin 1024) : (V4 m ρ c main_v3_4 : Vec Ideal S1024 .i32) (ix1 b) = Model.slot (Model.scoreM (inQ m c) (inKM m c)) b := by
  have e : V4 m ρ c main_v3_4 = (dat1 (V2 m ρ) c).arrAt 6 cfg1.N := (W4_of m ρ c main_v3_4 (by decide +kernel)).trans (W3_arr m ρ c 6)
  rw [e, ← z1_eq m ρ c]
  exact at1_6 (V2 m ρ) c b

/-! ### The states as rows -/

theorem rows_at1 (b : Fin 1024) (v : Fin 2048) : fam2 (W1 m ρ c main_v0) b v = Model.flat (inX m c) b v := by
  show (W1 m ρ c (Proc.devRef .tc main_v0) : S1024x2048.Idx → EReal) (ix2 b v) = _
  dsimp only [W1, hostOps0]
  after_reads_at
  rfl
theorem cast_at1 (b : Fin 1024) (v : Fin 2048) : fam2 (W1 m ρ c main_v1) b v = Model.flat (inX m c) b v := by
  show (W1 m ρ c (Proc.devRef .tc main_v1) : S1024x2048.Idx → EReal) (ix2 b v) = _
  dsimp only [W1, hostOps0]
  after_reads_at
  rfl

theorem rows_at3 : fam2 (V3 m ρ c main_v1) = Model.flat (inX m c) := by
  have e : V3 m ρ c main_v1 = W1 m ρ c main_v1 := (W3_of m ρ c main_v1 (by decide +kernel)).trans (W2_of m ρ c main_v1 (by decide +kernel))
  funext b v
  rw [e]
  exact cast_at1 m ρ c b v
theorem rows_at4 : fam2 (V4 m ρ c main_v1) = Model.flat (inX m c) := by
  have e : V4 m ρ c main_v1 = V3 m ρ c main_v1 := W4_of m ρ c main_v1 (by decide +kernel)
  rw [e]
  exact rows_at3 m ρ c
theorem rows_at8 (b : Fin 1024) : rows (fam2 (V8 m ρ c main_v0) b) = inX m c b := by
  have e : V8 m ρ c main_v0 = W1 m ρ c main_v0 :=
    (W8_of m ρ c main_v0 (by decide)).trans ((W7_of m ρ c main_v0 (by decide +kernel)).trans ((W6_of m ρ c main_v0 (by decide +kernel)).trans
      ((W5_of m ρ c main_v0 (by decide +kernel)).trans ((W4_of m ρ c main_v0 (by decide +kernel)).trans ((W3_of m ρ c main_v0 (by decide +kernel)).trans
        (W2_of m ρ c main_v0 (by decide +kernel)))))))
  funext p i
  rw [e]
  refine (rows_at1 m ρ c b _).trans ?_
  exact congr (congrArg (inX m c b) (Fin.ext (by show (p.val * 64 + i.val) / 64 = p.val; omega))) (Fin.ext (by show (p.val * 64 + i.val) % 64 = i.val; omega))

/-! ### The reads -/

theorem pair_read : fam2 (V5 m ρ c main_v4_0) = fun b => Model.read (Model.scoreP (inX m c) (inKP m c)) b (inVP m c) := by
  have e : V5 m ρ c main_v4_0 = (dat2 (V3 m ρ) c).arrAt 8 cfg2.N := (W5_of m ρ c main_v4_0 (by decide +kernel)).trans (W4_arr m ρ c 8)
  funext b v
  rw [e]
  refine (at2_8 (V3 m ρ) c b v).trans ?_
  rw [pair_query, pair_best, pair_mass, show V3 m ρ c main_arg12 = _ from W3_args m ρ c main_arg12 (by decide), show V3 m ρ c main_arg13 = _ from W3_args m ρ c main_arg13 (by decide)]
  rfl
theorem wide_read : fam2 (V5 m ρ c main_v5_0) = fun b => Model.read (Model.scoreM (inQ m c) (inKM m c)) b (inVM m c) := by
  have e : V5 m ρ c main_v5_0 = (dat3 (V4 m ρ) c).arrAt 8 cfg3.N := W5_arr m ρ c 8
  funext b v
  rw [e]
  refine (at3_8 (V4 m ρ) c b v).trans ?_
  rw [wide_query, wide_best, wide_mass, show V4 m ρ c main_arg14 = _ from W4_args m ρ c main_arg14 (by decide), show V4 m ρ c main_arg15 = _ from W4_args m ρ c main_arg15 (by decide)]
  rfl

/-! ### The fusion network and the heads -/

theorem layer1_eq : fam2 (V6 m ρ c main_v6) = Model.act (Model.layer1 (inX m c) (inQ m c) (inW1 m c) (inB1 m c) (inKP m c) (inVP m c) (inKM m c) (inVM m c)) (inG1 m c) (inT1 m c) := by
  have e : V6 m ρ c main_v6 = (dat4 (V5 m ρ) c).arrAt 6 cfg4.N := W6_arr m ρ c 6
  rw [e, arr4_6, pair_read, wide_read, show V5 m ρ c main_arg2 = _ from W5_args m ρ c main_arg2 (by decide), show V5 m ρ c main_arg3 = _ from W5_args m ρ c main_arg3 (by decide),
    show V5 m ρ c main_arg4 = _ from W5_args m ρ c main_arg4 (by decide), show V5 m ρ c main_arg5 = _ from W5_args m ρ c main_arg5 (by decide)]
  rfl
theorem layer2_eq : fam2 (V8 m ρ c main_v7)
    = Model.fused (Model.act (Model.layer1 (inX m c) (inQ m c) (inW1 m c) (inB1 m c) (inKP m c) (inVP m c) (inKM m c) (inVM m c)) (inG1 m c) (inT1 m c)) (inW2 m c) (inB2 m c) := by
  have e : V8 m ρ c main_v7 = (dat5 (V6 m ρ) c).arrAt 3 cfg5.N := (W8_of m ρ c main_v7 (by decide)).trans (W7_arr m ρ c 3)
  rw [e, arr5_3, layer1_eq, show V6 m ρ c main_arg6 = _ from W6_args m ρ c main_arg6 (by decide), show V6 m ρ c main_arg7 = _ from W6_args m ρ c main_arg7 (by decide)]
  rfl

theorem row_index (p : Fin 32) (i : Fin 64) : (p.val * 64 + i.val) / 64 = p.val ∧ (p.val * 64 + i.val) % 64 = i.val := by omega
theorem bias_at8 : rows (fam2 (V8 m ρ c main_v8) 0) = inC m c := by
  funext p i
  show (W8 m ρ c (Proc.devRef .tc main_v8) : S1x2048.Idx → EReal) (ix2 0 ⟨p.val * 64 + i.val, _⟩) = _
  dsimp only [W8, hostOps6]
  after_reads_at
  rw [W7_args m ρ c main_arg9 (by decide)]
theorem scale_at8 : rows (fam2 (V8 m ρ c main_v9) 0) = inG m c := by
  funext p i
  show (W8 m ρ c (Proc.devRef .tc main_v9) : S1x2048.Idx → EReal) (ix2 0 ⟨p.val * 64 + i.val, _⟩) = _
  dsimp only [W8, hostOps6]
  after_reads_at
  rw [W7_args m ρ c main_arg10 (by decide)]
theorem shift_at8 : rows (fam2 (V8 m ρ c main_v10) 0) = inT m c := by
  funext p i
  show (W8 m ρ c (Proc.devRef .tc main_v10) : S1x2048.Idx → EReal) (ix2 0 ⟨p.val * 64 + i.val, _⟩) = _
  dsimp only [W8, hostOps6]
  after_reads_at
  rw [W7_args m ρ c main_arg11 (by decide)]

/-! ### The results -/

theorem end_1 : (W10 m ρ c (Proc.devRef .tc main_v12) : S1024x32x64.Idx → EReal) = fun i =>
    Model.result1 (inX m c) (inQ m c) (inW1 m c) (inB1 m c) (inG1 m c) (inT1 m c) (inW2 m c) (inB2 m c) (inW m c) (inC m c) (inG m c) (inT m c)
      (inKP m c) (inVP m c) (inKM m c) (inVM m c) (i 0) (i 1) (i 2) := by
  funext i
  obtain ⟨b, p, o, rfl⟩ : ∃ (b : Fin 1024) (p : Fin 32) (o : Fin 64), i = ix3 b p o := ⟨i 0, i 1, i 2, by funext a; fin_cases a <;> rfl⟩
  have hh : ∀ b p o, heads6 (V8 m ρ) c b p o = Model.result1 (inX m c) (inQ m c) (inW1 m c) (inB1 m c) (inG1 m c) (inT1 m c) (inW2 m c) (inB2 m c) (inW m c) (inC m c) (inG m c) (inT m c)
      (inKP m c) (inVP m c) (inKM m c) (inVM m c) b p o := fun b p o => by
    unfold heads6
    rw [layer2_eq, bias_at8, scale_at8, shift_at8, show V8 m ρ c main_arg8 = _ from W8_args m ρ c main_arg8 (by decide)]
    simp only [rows_at8]
    rfl
  have e : (W9 m ρ c main_v11 : S1024x2048.Idx → EReal) = fun i => heads6At (V8 m ρ) c (i 0) (i 1) := (W9_arr m ρ c 6).trans (arr6_6 (V8 m ρ) c)
  dsimp only [W10, hostOps7]
  after_reads_at
  rw [e]
  refine Eq.trans ?_ (hh b p o)
  exact congr (congrArg (heads6 (V8 m ρ) c b) (Fin.ext (row_index p o).1)) (Fin.ext (row_index p o).2)

theorem end_2 (h : ∀ b s, Model.IsReal (Model.scoreP (inX m c) (inKP m c) b s)) :
    (W10 m ρ c (Proc.devRef .tc main_v4_1) : S4096x64.Idx → EReal) = fun i => Model.result2 (inX m c) (inKP m c) (i 0) (i 1) := by
  have e : W10 m ρ c (Proc.devRef .tc main_v4_1) = (dat2 (V3 m ρ) c).arrAt 9 cfg2.N :=
    (W10_of m ρ c main_v4_1 (by decide)).trans ((W9_of m ρ c main_v4_1 (by decide +kernel)).trans ((W8_of m ρ c main_v4_1 (by decide)).trans
      ((W7_of m ρ c main_v4_1 (by decide +kernel)).trans ((W6_of m ρ c main_v4_1 (by decide +kernel)).trans ((W5_of m ρ c main_v4_1 (by decide +kernel)).trans (W4_arr m ρ c 9))))))
  refine e.trans ((arr2_9 (V3 m ρ) c).trans (funext fun i => ?_))
  refine (afterWrite_eq (pair_slot m ρ c) (pair_weight m ρ c h) _ _ _ _).trans ?_
  rw [pair_query, show V3 m ρ c main_arg12 = _ from W3_args m ρ c main_arg12 (by decide)]
  rfl
theorem end_3 (h : ∀ b s, Model.IsReal (Model.scoreP (inX m c) (inKP m c) b s)) :
    (W10 m ρ c (Proc.devRef .tc main_v4_2) : S4096x2048.Idx → EReal) = fun i => Model.result3 (inX m c) (inKP m c) (inVP m c) (i 0) (i 1) := by
  have e : W10 m ρ c (Proc.devRef .tc main_v4_2) = (dat2 (V3 m ρ) c).arrAt 10 cfg2.N :=
    (W10_of m ρ c main_v4_2 (by decide)).trans ((W9_of m ρ c main_v4_2 (by decide +kernel)).trans ((W8_of m ρ c main_v4_2 (by decide)).trans
      ((W7_of m ρ c main_v4_2 (by decide +kernel)).trans ((W6_of m ρ c main_v4_2 (by decide +kernel)).trans ((W5_of m ρ c main_v4_2 (by decide +kernel)).trans (W4_arr m ρ c 10))))))
  refine e.trans ((arr2_10 (V3 m ρ) c).trans (funext fun i => ?_))
  refine (afterWrite_eq (pair_slot m ρ c) (pair_weight m ρ c h) _ _ _ _).trans ?_
  rw [rows_at3, show V3 m ρ c main_arg13 = _ from W3_args m ρ c main_arg13 (by decide)]
  rfl
theorem end_4 (h : ∀ b s, Model.IsReal (Model.scoreM (inQ m c) (inKM m c) b s)) :
    (W10 m ρ c (Proc.devRef .tc main_v5_1) : S4096x128.Idx → EReal) = fun i => Model.result4 (inQ m c) (inKM m c) (i 0) (i 1) := by
  have e : W10 m ρ c (Proc.devRef .tc main_v5_1) = (dat3 (V4 m ρ) c).arrAt 9 cfg3.N :=
    (W10_of m ρ c main_v5_1 (by decide)).trans ((W9_of m ρ c main_v5_1 (by decide +kernel)).trans ((W8_of m ρ c main_v5_1 (by decide)).trans
      ((W7_of m ρ c main_v5_1 (by decide +kernel)).trans ((W6_of m ρ c main_v5_1 (by decide +kernel)).trans (W5_arr m ρ c 9)))))
  refine e.trans ((arr3_9 (V4 m ρ) c).trans (funext fun i => ?_))
  refine (afterWrite_eq (wide_slot m ρ c) (wide_weight m ρ c h) _ _ _ _).trans ?_
  rw [wide_query, show V4 m ρ c main_arg14 = _ from W4_args m ρ c main_arg14 (by decide)]
  rfl
theorem end_5 (h : ∀ b s, Model.IsReal (Model.scoreM (inQ m c) (inKM m c) b s)) :
    (W10 m ρ c (Proc.devRef .tc main_v5_2) : S4096x2048.Idx → EReal) = fun i => Model.result5 (inX m c) (inQ m c) (inKM m c) (inVM m c) (i 0) (i 1) := by
  have e : W10 m ρ c (Proc.devRef .tc main_v5_2) = (dat3 (V4 m ρ) c).arrAt 10 cfg3.N :=
    (W10_of m ρ c main_v5_2 (by decide)).trans ((W9_of m ρ c main_v5_2 (by decide +kernel)).trans ((W8_of m ρ c main_v5_2 (by decide)).trans
      ((W7_of m ρ c main_v5_2 (by decide +kernel)).trans ((W6_of m ρ c main_v5_2 (by decide +kernel)).trans (W5_arr m ρ c 10)))))
  refine e.trans ((arr3_10 (V4 m ρ) c).trans (funext fun i => ?_))
  refine (afterWrite_eq (wide_slot m ρ c) (wide_weight m ρ c h) _ _ _ _).trans ?_
  rw [rows_at4, show V4 m ρ c main_arg15 = _ from W4_args m ρ c main_arg15 (by decide)]
  rfl

end Cert.KernelIdeal.Gen

end
-- ==== Proof.Real.lean ====
/- What the precondition says: the queries and the keys are real numbers, and so are all their scores. -/
module

public import proofs.«01_k».proof.Defs
public import proofs.«01_k».proof.Proof.Value.Arith
public import proofs.«01_k».proof.Proof.Value.Chain

@[expose] public section

set_option maxRecDepth 16384

noncomputable section

namespace Cert.Proof

open Idealize.ShloMosaic Idealize.ShloMosaic.TcCoe Idealize.SL.Sem

theorem finite_facts : Cert.Pre_finite_queries_and_keys.Facts := ⟨by decide, by decide, by decide, by decide⟩

/-- The float word of infinity is the greatest extended real. -/
theorem word_inf : Ideal.ofBits .f32 0x7F800000#32 = (⊤ : EReal) := by
  simp [Ideal.ofBits, Ideal.ieee]

theorem real_of {x : EReal} (h : Ideal.cmp .olt (max x (-x)) (Ideal.ofBits .f32 0x7F800000#32) = 1#1) : Model.IsReal x := by
  refine Model.IsReal.of_abs_lt ?_
  rw [word_inf] at h
  by_contra n
  simp [Ideal.cmp, n] at h

section
variable {m : (ℓ : Loc Cert.KernelIdeal.nD Cert.KernelIdeal.τ Cert.KernelIdeal.sig) → Buf (Elt Ideal) ℓ}
variable (h : Cert.Pre_KernelIdeal_finite_queries_and_keys (hPre_finite_queries_and_keys := finite_facts) m) (c : Dev Cert.KernelIdeal.nD)
include h

open Cert.KernelIdeal.Gen

theorem real_x (b : Fin 1024) (p : Fin 32) (d : Fin 64) : Model.IsReal (inX m c b p d) := real_of (congrFun (h c).1 (ix3 b p d))
theorem real_q (b : Fin 1024) (d : Fin 128) : Model.IsReal (inQ m c b d) := real_of (congrFun (h c).2.1 (ix2 b d))
theorem real_kp (s : Fin 4096) (d : Fin 64) : Model.IsReal (inKP m c s d) := real_of (congrFun (h c).2.2.1 (ix2 s d))
theorem real_km (s : Fin 4096) (d : Fin 128) : Model.IsReal (inKM m c s d) := real_of (congrFun (h c).2.2.2 (ix2 s d))

theorem real_scoreP (b : Fin 1024) (s : Fin 4096) : Model.IsReal (Model.scoreP (inX m c) (inKP m c) b s) :=
  Model.score_real Model.word_64 (by norm_num) (Model.mean_real (real_x h c)) (real_kp h c) b s
theorem real_scoreM (b : Fin 1024) (s : Fin 4096) : Model.IsReal (Model.scoreM (inQ m c) (inKM m c) b s) :=
  Model.score_real Model.word_128 (by norm_num) (real_q h c) (real_km h c) b s
end

end Cert.Proof

end
-- ==== Proof.Ref.Memory.lean ====
/- What the reference computes of the two memories: the scores, the softmax, the surprise, the values read. -/
module

public import proofs.«01_k».proof.Proof.Ref.Ops
public import proofs.«01_k».proof.Proof.Value.Results
public import Idealize.ShloMosaic.Lib.Pointwise
public import Idealize.ShloMosaic.Lib.StableHlo.ReadAt

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Model (fam1 fam2 fam3)

/-! ### The operations of a softmax -/

/-- The greatest entry of each row. -/
def maxOf (z : FVec Ideal S1024x4096 .f32) : FVec Ideal S1024 .f32 :=
  Host.reduce (FloatOps.maximumf (F := Ideal) (φ := .f32)) z (constant (F := Ideal) S_ .f32 0xFF800000#32) reducesTo_S1024x4096_S1024_d1 h_S_
theorem max_at (z : FVec Ideal S1024x4096 .f32) (b : Fin 1024) : maxOf z (ix1 b) = Finset.univ.fold max Model.low fun s => z (ix2 b s) := by
  pointwise [maxOf]

/-- One less each entry. -/
def lessOf (x : FVec Ideal S1024 .f32) : FVec Ideal S1024 .f32 :=
  subf (broadcastInDim S1024 ![] bcast_S_S1024 (constant (F := Ideal) S_ .f32 0x3F800000#32)) x
theorem less_at (x : FVec Ideal S1024 .f32) (b : Fin 1024) : lessOf x (ix1 b) = 1 - x (ix1 b) := by
  pointwise [lessOf]

/-- The exponentials of the rows of `z` less `x` (or the lowest float, where that is greater), over their sum. -/
def softmaxOf (z : FVec Ideal S1024x4096 .f32) (x : FVec Ideal S1024 .f32) : FVec Ideal S1024x4096 .f32 :=
  let e : FVec Ideal S1024x4096 .f32 := Host.exp (subf z (broadcastInDim S1024x4096 ![0, 1] bcast_S1024x1_S1024x4096_0_1 (broadcastInDim S1024x1 ![0] bcast_S1024_S1024x1_0
    (maximumf (broadcastInDim S1024 ![] bcast_S_S1024 (constant (F := Ideal) S_ .f32 0xFF800000#32)) x))))
  Host.divf e (broadcastInDim S1024x4096 ![0, 1] bcast_S1024x1_S1024x4096_0_1 (broadcastInDim S1024x1 ![0] bcast_S1024_S1024x1_0
    (Host.reduceAdd e (constant (F := Ideal) S_ .f32 0x00000000#32) reducesTo_S1024x4096_S1024_d1 h_S_)))
theorem softmax_at (z : FVec Ideal S1024x4096 .f32) (x : FVec Ideal S1024 .f32) (b : Fin 1024) (s : Fin 4096) :
    softmaxOf z x (ix2 b s) = Ideal.div (Ideal.exp (z (ix2 b s) - max Model.low (x (ix1 b)))) (∑ s, Ideal.exp (z (ix2 b s) - max Model.low (x (ix1 b)))) := by
  pointwise [softmaxOf]

theorem max_low (f : Fin 4096 → EReal) : max Model.low (Finset.univ.fold max Model.low f) = Finset.univ.fold max Model.low f :=
  max_eq_right (Finset.le_fold_max (Model.low) |>.2 (Or.inl le_rfl))

/-- A softmax of scores that are `z`. -/
theorem attn_of {z : Fin 1024 → Fin 4096 → EReal} {x : FVec Ideal S1024x4096 .f32} (h : ∀ b s, x (ix2 b s) = z b s) (b : Fin 1024) (s : Fin 4096) :
    softmaxOf x (maxOf x) (ix2 b s) = Model.attn z b s := by
  rw [softmax_at, max_at, max_low]
  simp only [h]
  rfl

variable (V : Valuation τ sig (Elt Ideal))

/-- The arguments, by their coordinates. -/
abbrev inX : Fin 1024 → Fin 32 → Fin 64 → EReal := fam3 (V (Proc.devRef .tc main_arg0))
abbrev inQ : Fin 1024 → Fin 128 → EReal := fam2 (V (Proc.devRef .tc main_arg1))
abbrev inW1 : Fin 4096 → Fin 2048 → EReal := fam2 (V (Proc.devRef .tc main_arg2))
abbrev inB1 : Fin 2048 → EReal := fam1 (V (Proc.devRef .tc main_arg3))
abbrev inG1 : Fin 2048 → EReal := fam1 (V (Proc.devRef .tc main_arg4))
abbrev inT1 : Fin 2048 → EReal := fam1 (V (Proc.devRef .tc main_arg5))
abbrev inW2 : Fin 2048 → Fin 2048 → EReal := fam2 (V (Proc.devRef .tc main_arg6))
abbrev inB2 : Fin 2048 → EReal := fam1 (V (Proc.devRef .tc main_arg7))
abbrev inW : Fin 32 → Fin 128 → Fin 64 → EReal := fam3 (V (Proc.devRef .tc main_arg8))
abbrev inC : Fin 32 → Fin 64 → EReal := fam2 (V (Proc.devRef .tc main_arg9))
abbrev inG : Fin 32 → Fin 64 → EReal := fam2 (V (Proc.devRef .tc main_arg10))
abbrev inT : Fin 32 → Fin 64 → EReal := fam2 (V (Proc.devRef .tc main_arg11))
abbrev inKP : Fin 4096 → Fin 64 → EReal := fam2 (V (Proc.devRef .tc main_arg12))
abbrev inVP : Fin 4096 → Fin 2048 → EReal := fam2 (V (Proc.devRef .tc main_arg13))
abbrev inKM : Fin 4096 → Fin 128 → EReal := fam2 (V (Proc.devRef .tc main_arg14))
abbrev inVM : Fin 4096 → Fin 2048 → EReal := fam2 (V (Proc.devRef .tc main_arg15))

/-! ### The pairs' memory -/

abbrev zP : Fin 1024 → Fin 4096 → EReal := Model.scoreP (inX V) (inKP V)

theorem v2_at (b : Fin 1024) (d : Fin 64) : (fin V (Proc.devRef .tc main_v2) : S1024x64.Idx → EReal) (ix2 b d) = Model.mean (inX V) b d := by
  rw [fin_stage 0 st0 rfl V main_v2 (by decide)]; after_reads_at
  rw [upto_eq 0 V main_arg0 (by decide), fin_arg V main_arg0 (by decide)]
  rfl
theorem v7_at (b : Fin 1024) (s : Fin 4096) : (fin V (Proc.devRef .tc main_v7) : S1024x4096.Idx → EReal) (ix2 b s) = zP V b s := by
  rw [fin_stage 0 st0 rfl V main_v7 (by decide)]; after_reads_at
  rw [upto_eq 0 V main_arg0 (by decide), fin_arg V main_arg0 (by decide), upto_eq 0 V main_arg12 (by decide), fin_arg V main_arg12 (by decide)]
  rfl
theorem after_v18 (U : Valuation τ sig (Elt Ideal)) : after st1 U (Proc.devRef .tc main_v18) = softmaxOf (U (Proc.devRef .tc main_v7)) (maxOf (U (Proc.devRef .tc main_v7))) := by
  after_reads_simp
  rfl
theorem v18_at (b : Fin 1024) (s : Fin 4096) : (fin V (Proc.devRef .tc main_v18) : S1024x4096.Idx → EReal) (ix2 b s) = Model.attn (zP V) b s := by
  rw [fin_stage 1 st1 rfl V main_v18 (by decide), after_v18, upto_eq 1 V main_v7 (by decide)]
  exact attn_of (v7_at V) b s
theorem v19_at (b : Fin 1024) (v : Fin 2048) : (fin V (Proc.devRef .tc main_v19) : S1024x2048.Idx → EReal) (ix2 b v) = Model.read (zP V) b (inVP V) v := by
  rw [fin_stage 2 st2 rfl V main_v19 (by decide)]; after_reads_at
  rw [upto_eq 2 V main_v18 (by decide), upto_eq 2 V main_arg13 (by decide), fin_arg V main_arg13 (by decide)]
  exact Finset.sum_congr rfl fun x _ => congrArg (· * _) (v18_at V b x)
theorem after_v22 (U : Valuation τ sig (Elt Ideal)) : after st2 U (Proc.devRef .tc main_v22) = lessOf (maxOf (U (Proc.devRef .tc main_v18))) := by
  after_reads_simp
  rfl
theorem v22_at (b : Fin 1024) :
    (fin V (Proc.devRef .tc main_v22) : S1024.Idx → EReal) (ix1 b) = 1 - Finset.univ.fold max Model.low fun s => Model.attn (zP V) b s := by
  rw [fin_stage 2 st2 rfl V main_v22 (by decide), after_v22, upto_eq 2 V main_v18 (by decide)]
  refine (less_at _ b).trans ?_
  rw [max_at]
  exact congrArg (fun f => 1 - Finset.univ.fold max Model.low f) (funext fun s => v18_at V b s)

/-! ### The macro memory -/

abbrev zM : Fin 1024 → Fin 4096 → EReal := Model.scoreM (inQ V) (inKM V)

theorem v27_at (b : Fin 1024) (s : Fin 4096) : (fin V (Proc.devRef .tc main_v27) : S1024x4096.Idx → EReal) (ix2 b s) = zM V b s := by
  rw [fin_stage 3 st3 rfl V main_v27 (by decide)]; after_reads_at
  rw [upto_eq 3 V main_arg1 (by decide), fin_arg V main_arg1 (by decide), upto_eq 3 V main_arg14 (by decide), fin_arg V main_arg14 (by decide)]
  rfl
theorem after_v38 (U : Valuation τ sig (Elt Ideal)) : after st4 U (Proc.devRef .tc main_v38) = softmaxOf (U (Proc.devRef .tc main_v27)) (maxOf (U (Proc.devRef .tc main_v27))) := by
  after_reads_simp
  rfl
theorem v38_at (b : Fin 1024) (s : Fin 4096) : (fin V (Proc.devRef .tc main_v38) : S1024x4096.Idx → EReal) (ix2 b s) = Model.attn (zM V) b s := by
  rw [fin_stage 4 st4 rfl V main_v38 (by decide), after_v38, upto_eq 4 V main_v27 (by decide)]
  exact attn_of (v27_at V) b s
theorem v39_at (b : Fin 1024) (v : Fin 2048) : (fin V (Proc.devRef .tc main_v39) : S1024x2048.Idx → EReal) (ix2 b v) = Model.read (zM V) b (inVM V) v := by
  rw [fin_stage 5 st5 rfl V main_v39 (by decide)]; after_reads_at
  rw [upto_eq 5 V main_v38 (by decide), upto_eq 5 V main_arg15 (by decide), fin_arg V main_arg15 (by decide)]
  exact Finset.sum_congr rfl fun x _ => congrArg (· * _) (v38_at V b x)
theorem after_v42 (U : Valuation τ sig (Elt Ideal)) : after st5 U (Proc.devRef .tc main_v42) = lessOf (maxOf (U (Proc.devRef .tc main_v38))) := by
  after_reads_simp
  rfl
theorem v42_at (b : Fin 1024) :
    (fin V (Proc.devRef .tc main_v42) : S1024.Idx → EReal) (ix1 b) = 1 - Finset.univ.fold max Model.low fun s => Model.attn (zM V) b s := by
  rw [fin_stage 5 st5 rfl V main_v42 (by decide), after_v42, upto_eq 5 V main_v38 (by decide)]
  refine (less_at _ b).trans ?_
  rw [max_at]
  exact congrArg (fun f => 1 - Finset.univ.fold max Model.low f) (funext fun s => v38_at V b s)

end Cert.ReferenceIdeal.Value

end
-- ==== Proof.Ref.Fusion.lean ====
/- What the reference computes after the reads: the fusion network and the heads, that is result 1. -/
module

public import proofs.«01_k».proof.Proof.Ref.Memory

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Model (fam1 fam2 fam3)

/-! ### Two arrays side by side -/

theorem reads_low (a d : FVec Ideal S1024x2048 .f32) (b : Fin 1024) (x : Fin 2048) : fn_main_v43 (F := Ideal) a d (ix2 b ⟨x.val, by omega⟩) = a (ix2 b x) := by
  pointwise [fn_main_v43]
theorem reads_high (a d : FVec Ideal S1024x2048 .f32) (b : Fin 1024) (x : Fin 2048) : fn_main_v43 (F := Ideal) a d (ix2 b ⟨2048 + x.val, by omega⟩) = d (ix2 b x) := by
  pointwise [fn_main_v43]
theorem state_low (a d : FVec Ideal S1024x32x64 .f32) (b : Fin 1024) (p : Fin 32) (x : Fin 64) :
    fn_main_v86 (F := Ideal) a d (ix3 b p ⟨x.val, by omega⟩) = a (ix3 b p x) := by
  pointwise [fn_main_v86]
theorem state_high (a d : FVec Ideal S1024x32x64 .f32) (b : Fin 1024) (p : Fin 32) (x : Fin 64) :
    fn_main_v86 (F := Ideal) a d (ix3 b p ⟨64 + x.val, by omega⟩) = d (ix3 b p x) := by
  pointwise [fn_main_v86]

theorem sum_reads (f : Fin 4096 → EReal) : ∑ x, f x = (∑ x : Fin 2048, f ⟨x.val, by omega⟩) + ∑ x : Fin 2048, f ⟨2048 + x.val, by omega⟩ :=
  Fin.sum_univ_add (a := 2048) (b := 2048) f
theorem sum_state (f : Fin 128 → EReal) : ∑ x, f x = (∑ x : Fin 64, f ⟨x.val, by omega⟩) + ∑ x : Fin 64, f ⟨64 + x.val, by omega⟩ :=
  Fin.sum_univ_add (a := 64) (b := 64) f

variable (V : Valuation τ sig (Elt Ideal))

/-! ### The fusion network -/

abbrev hid : Fin 1024 → Fin 2048 → EReal := Model.layer1 (inX V) (inQ V) (inW1 V) (inB1 V) (inKP V) (inVP V) (inKM V) (inVM V)
abbrev act1 : Fin 1024 → Fin 2048 → EReal := Model.act (hid V) (inG1 V) (inT1 V)
abbrev fus : Fin 1024 → Fin 2048 → EReal := Model.fused (act1 V) (inW2 V) (inB2 V)

theorem v44_at (b : Fin 1024) (v : Fin 2048) : (fin V (Proc.devRef .tc main_v44) : S1024x2048.Idx → EReal) (ix2 b v)
    = (∑ x : Fin 2048, Model.read (zP V) b (inVP V) x * inW1 V ⟨x.val, by omega⟩ v) + ∑ x : Fin 2048, Model.read (zM V) b (inVM V) x * inW1 V ⟨2048 + x.val, by omega⟩ v := by
  rw [fin_stage 6 st6 rfl V main_v44 (by decide)]; after_reads_at
  rw [upto_eq 6 V main_v19 (by decide), upto_eq 6 V main_v39 (by decide), upto_eq 6 V main_arg2 (by decide), fin_arg V main_arg2 (by decide), sum_reads]
  refine congrArg₂ (· + ·) (Finset.sum_congr rfl fun x _ => congrArg (· * _) ?_) (Finset.sum_congr rfl fun x _ => congrArg (· * _) ?_)
  · exact (reads_low _ _ b x).trans (v19_at V b x)
  · exact (reads_high _ _ b x).trans (v39_at V b x)
theorem v45_at (v : Fin 2048) : (fin V (Proc.devRef .tc main_v45) : S1x2048.Idx → EReal) (ix2 0 v) = inB1 V v := by
  rw [fin_stage 6 st6 rfl V main_v45 (by decide)]; after_reads_at
  rw [upto_eq 6 V main_arg3 (by decide), fin_arg V main_arg3 (by decide)]
theorem v47_at (b : Fin 1024) (v : Fin 2048) : (fin V (Proc.devRef .tc main_v47) : S1024x2048.Idx → EReal) (ix2 b v) = hid V b v := by
  rw [fin_stage 7 st7 rfl V main_v47 (by decide)]; after_reads_at
  rw [upto_eq 7 V main_v44 (by decide), upto_eq 7 V main_v45 (by decide)]
  exact congrArg₂ (· + ·) (v44_at V b v) (v45_at V v)
theorem v71_at (b : Fin 1024) (v : Fin 2048) :
    (fin V (Proc.devRef .tc main_v71) : S1024x2048.Idx → EReal) (ix2 b v) = Model.norm (Ideal.ofBits .f32 0x45000000#32) (hid V b) (inG1 V) (inT1 V) v := by
  rw [fin_stage 8 st8 rfl V main_v71 (by decide)]; after_reads_at
  rw [upto_eq 8 V main_v47 (by decide), upto_eq 8 V main_arg4 (by decide), upto_eq 8 V main_arg5 (by decide), fin_arg V main_arg4 (by decide), fin_arg V main_arg5 (by decide)]
  exact congrArg (fun h => Model.norm (Ideal.ofBits .f32 0x45000000#32) h (inG1 V) (inT1 V) v) (funext fun x => v47_at V b x)
theorem v80_at (b : Fin 1024) (v : Fin 2048) : (fin V (Proc.devRef .tc main_v80) : S1024x2048.Idx → EReal) (ix2 b v) = act1 V b v := by
  rw [fin_stage 9 st9 rfl V main_v80 (by decide)]; after_reads_at
  rw [upto_eq 9 V main_v71 (by decide)]
  exact congrArg Model.gelu (v71_at V b v)
theorem v85_at (b : Fin 1024) (p : Fin 32) (o : Fin 64) :
    (fin V (Proc.devRef .tc main_v85) : S1024x32x64.Idx → EReal) (ix3 b p o) = fus V b ⟨p.val * 64 + o.val, by omega⟩ := by
  rw [fin_stage 10 st10 rfl V main_v85 (by decide)]; after_reads_at
  rw [upto_eq 10 V main_v80 (by decide), upto_eq 10 V main_arg6 (by decide), upto_eq 10 V main_arg7 (by decide), fin_arg V main_arg6 (by decide), fin_arg V main_arg7 (by decide)]
  exact congrArg (· + _) (Finset.sum_congr rfl fun x _ => congrArg (· * _) (v80_at V b x))

/-! ### The heads -/

abbrev hd : Fin 1024 → Fin 32 → Fin 64 → EReal := Model.head (inX V) (fus V) (inW V) (inC V)

theorem v91_at (b : Fin 1024) (p : Fin 32) (o : Fin 64) : (fin V (Proc.devRef .tc main_v91) : S1024x32x64.Idx → EReal) (ix3 b p o) = hd V b p o := by
  rw [fin_stage 11 st11 rfl V main_v91 (by decide)]; after_reads_at
  rw [upto_eq 11 V main_v85 (by decide), upto_eq 11 V main_arg0 (by decide), upto_eq 11 V main_arg8 (by decide), upto_eq 11 V main_arg9 (by decide),
    fin_arg V main_arg0 (by decide), fin_arg V main_arg8 (by decide), fin_arg V main_arg9 (by decide), sum_state]
  refine congrArg (· + _) (congrArg₂ (· + ·) (Finset.sum_congr rfl fun x _ => (mul_comm _ _).trans (congrArg (· * _) ?_))
    (Finset.sum_congr rfl fun x _ => (mul_comm _ _).trans (congrArg (· * _) ?_)))
  · exact state_low _ _ b p x
  · exact (state_high _ _ b p x).trans (v85_at V b p x)
theorem v95_at (b : Fin 1024) (p : Fin 32) :
    (fin V (Proc.devRef .tc main_v95) : S1024x32x1.Idx → EReal) (ix3 b p 0) = Ideal.div (∑ x, hd V b p x) (Ideal.ofBits .f32 0x42800000#32) := by
  rw [fin_stage 12 st12 rfl V main_v95 (by decide)]; after_reads_at
  rw [upto_eq 12 V main_v91 (by decide)]
  exact congrArg (Ideal.div · _) (Finset.sum_congr rfl fun x _ => v91_at V b p x)
theorem v115_at (b : Fin 1024) (p : Fin 32) (o : Fin 64) :
    (fin V (Proc.devRef .tc main_v115) : S1024x32x64.Idx → EReal) (ix3 b p o)
      = Model.result1 (inX V) (inQ V) (inW1 V) (inB1 V) (inG1 V) (inT1 V) (inW2 V) (inB2 V) (inW V) (inC V) (inG V) (inT V) (inKP V) (inVP V) (inKM V) (inVM V) b p o := by
  rw [fin_stage 13 st13 rfl V main_v115 (by decide)]; after_reads_at
  rw [upto_eq 13 V main_v91 (by decide), upto_eq 13 V main_v95 (by decide), upto_eq 13 V main_arg10 (by decide), upto_eq 13 V main_arg11 (by decide),
    fin_arg V main_arg10 (by decide), fin_arg V main_arg11 (by decide)]
  have h : ∀ x, (fin V (Proc.devRef .tc main_v91) : S1024x32x64.Idx → EReal) (ix3 b p x) = hd V b p x := v91_at V b p
  refine Eq.trans (b := (fun (H : Fin 64 → EReal) (M : EReal) => Ideal.div (H o - M) (Ideal.sqrt (Ideal.div (∑ x, (H x - M) * (H x - M)) (Ideal.ofBits .f32 0x42800000#32) + Model.eps)) * inG V p o + inT V p o)
    (hd V b p) (Ideal.div (∑ x, hd V b p x) (Ideal.ofBits .f32 0x42800000#32))) ?_ rfl
  exact congrArg₂ (fun (H : Fin 64 → EReal) (M : EReal) => Ideal.div (H o - M) (Ideal.sqrt (Ideal.div (∑ x, (H x - M) * (H x - M)) (Ideal.ofBits .f32 0x42800000#32) + Model.eps)) * inG V p o + inT V p o)
    (funext h) (v95_at V b p)

end Cert.ReferenceIdeal.Value

end
-- ==== Proof.Ref.Slot.lean ====
/- The slot the reference writes to: its `argmax` of a row of real scores is the first slot that holds the greatest score. -/
module

public import proofs.«01_k».proof.Proof.Ref.Memory
public import proofs.«01_k».proof.Proof.Value.Arith
public import Idealize.ShloMosaic.PureOps.Ideal.Laws

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-! ### Folding the reducer over a list -/

/-- A pair comes before another: its value is greater, or equal at a smaller index. -/
def Before (a c : EReal × BitVec 32) : Prop := c.1 < a.1 ∨ (a.1 = c.1 ∧ a.2.toInt < c.2.toInt)

/-- No other pair comes before: the relation a fold's result has to what is folded. -/
def Beats (r a : EReal × BitVec 32) : Prop := a.1 < r.1 ∨ (a.1 = r.1 ∧ r.2.toInt ≤ a.2.toInt)

open Classical in
theorem reducer_eq (a c : EReal × BitVec 32) : reducer_argmax_f32_i32 (F := Ideal) a c = if Before a c then a else c := by
  unfold reducer_argmax_f32_i32 Before
  have e1 : FloatOps.cmpf (F := Ideal) (φ := .f32) .ogt a.1 c.1 = BitVec.ofBool (decide (c.1 < a.1)) := by simp [Ideal.cmpf_def, Ideal.cmp]
  have e2 : FloatOps.cmpf (F := Ideal) (φ := .f32) .une a.1 a.1 = 0#1 := by simp [Ideal.cmpf_def, Ideal.cmp]
  have e3 : FloatOps.cmpf (F := Ideal) (φ := .f32) .oeq a.1 c.1 = BitVec.ofBool (decide (a.1 = c.1)) := by simp [Ideal.cmpf_def, Ideal.cmp]
  have e4 : IntOp.cmpi .slt a.2 c.2 = BitVec.ofBool (decide (a.2.toInt < c.2.toInt)) := by simp [IntOp.cmpi, BitVec.slt]
  simp only [e1, e2, e3, e4]
  obtain ⟨a1, a2⟩ := a
  obtain ⟨c1, c2⟩ := c
  dsimp only
  by_cases h1 : c1 < a1 <;> by_cases h2 : a1 = c1 <;> by_cases h3 : a2.toInt < c2.toInt <;>
    simp [h1, h2, h3, IntOp.ori, IntOp.andi, Scalar.select]

theorem beats_refl (a : EReal × BitVec 32) : Beats a a := .inr ⟨rfl, le_rfl⟩
theorem beats_trans {a c e : EReal × BitVec 32} (h : Beats a c) (h' : Beats c e) : Beats a e := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩
theorem reducer_beats (a c : EReal × BitVec 32) :
    (reducer_argmax_f32_i32 (F := Ideal) a c = a ∨ reducer_argmax_f32_i32 (F := Ideal) a c = c)
      ∧ Beats (reducer_argmax_f32_i32 (F := Ideal) a c) a ∧ Beats (reducer_argmax_f32_i32 (F := Ideal) a c) c := by
  classical
  rw [reducer_eq]
  split
  · next h =>
    refine ⟨.inl rfl, beats_refl a, ?_⟩
    rcases h with h | ⟨h, hi⟩
    · exact .inl h
    · exact .inr ⟨h.symm, hi.le⟩
  · next h =>
    refine ⟨.inr rfl, ?_, beats_refl c⟩
    rcases lt_trichotomy a.1 c.1 with h' | h' | h'
    · exact .inl h'
    · exact .inr ⟨h', not_lt.1 fun hi => h (.inr ⟨h', hi⟩)⟩
    · exact absurd (.inl h') h

/-- The fold of a list: one of what is folded, before which none of it comes. -/
theorem foldl_beats (L : List (EReal × BitVec 32)) (a : EReal × BitVec 32) :
    (L.foldl (reducer_argmax_f32_i32 (F := Ideal)) a = a ∨ L.foldl (reducer_argmax_f32_i32 (F := Ideal)) a ∈ L)
      ∧ Beats (L.foldl (reducer_argmax_f32_i32 (F := Ideal)) a) a ∧ ∀ x ∈ L, Beats (L.foldl (reducer_argmax_f32_i32 (F := Ideal)) a) x := by
  induction L generalizing a with
  | nil => exact ⟨.inl rfl, beats_refl a, fun x h => absurd h List.not_mem_nil⟩
  | cons c L ih =>
    obtain ⟨hm, hb, hx⟩ := ih (reducer_argmax_f32_i32 (F := Ideal) a c)
    obtain ⟨hr, ha, hc⟩ := reducer_beats a c
    rw [List.foldl_cons]
    refine ⟨?_, beats_trans hb ha, ?_⟩
    · rcases hm with hm | hm
      · rcases hr with hr | hr
        · exact .inl (hm.trans hr)
        · exact .inr (List.mem_cons.2 (.inl (hm.trans hr)))
      · exact .inr (List.mem_cons_of_mem _ hm)
    · intro x h
      rcases List.mem_cons.1 h with rfl | h
      · exact beats_trans hb hc
      · exact hx x h

/-! ### The first slot that holds the greatest score -/

theorem toInt_slot (s : Fin 4096) : (BitVec.ofNat 32 s.val).toInt = (s.val : ℤ) := by
  rw [BitVec.toInt_eq_toNat_of_lt (by rw [BitVec.toNat_ofNat, Nat.mod_eq_of_lt (by omega)]; omega), BitVec.toNat_ofNat, Nat.mod_eq_of_lt (by omega)]

/-- A minimum over finitely many words is one of them, or the initial one, and none of them is less. -/
theorem fold_min (i : BitVec 32) (g : Fin 4096 → BitVec 32) (A : Finset (Fin 4096)) :
    (A.fold IntOp.minsi i g = i ∨ ∃ s ∈ A, A.fold IntOp.minsi i g = g s)
      ∧ (A.fold IntOp.minsi i g).toInt ≤ i.toInt ∧ ∀ s ∈ A, (A.fold IntOp.minsi i g).toInt ≤ (g s).toInt := by
  classical
  have hm : ∀ x y : BitVec 32, (IntOp.minsi x y = x ∧ x.toInt ≤ y.toInt) ∨ (IntOp.minsi x y = y ∧ y.toInt ≤ x.toInt) := fun x y => by
    unfold IntOp.minsi
    by_cases h : x.slt y
    · left; simp [h]; simp [BitVec.slt] at h; omega
    · right; simp [h]; simp [BitVec.slt] at h; omega
  induction A using Finset.induction_on with
  | empty => exact ⟨.inl Finset.fold_empty, le_of_eq (by rw [Finset.fold_empty]), fun s h => absurd h (Finset.notMem_empty s)⟩
  | insert a A ha ih =>
    rw [Finset.fold_insert ha]
    obtain ⟨h1, h2, h3⟩ := ih
    rcases hm (g a) (A.fold IntOp.minsi i g) with ⟨e, h⟩ | ⟨e, h⟩ <;> rw [e]
    · refine ⟨.inr ⟨a, Finset.mem_insert_self a A, rfl⟩, h.trans h2, fun s hs => ?_⟩
      rcases Finset.mem_insert.1 hs with rfl | hs
      · exact le_rfl
      · exact h.trans (h3 s hs)
    · refine ⟨?_, h2, fun s hs => ?_⟩
      · rcases h1 with h1 | ⟨s, hs, h1⟩
        · exact .inl h1
        · exact .inr ⟨s, Finset.mem_insert_of_mem hs, h1⟩
      · rcases Finset.mem_insert.1 hs with rfl | hs
        · exact h
        · exact h3 s hs

/-- The minimum of slot numbers, all but some left out by a number past the last: the least that is left. -/
theorem fold_first (g : Fin 4096 → BitVec 32) (p : Fin 4096) (hp : g p = BitVec.ofNat 32 p.val)
    (hmin : ∀ s, g s = 4096#32 ∨ (g s = BitVec.ofNat 32 s.val ∧ p.val ≤ s.val)) : Finset.univ.fold IntOp.minsi 2147483647#32 g = BitVec.ofNat 32 p.val := by
  obtain ⟨h1, -, h3⟩ := fold_min 2147483647#32 g Finset.univ
  generalize Finset.univ.fold IntOp.minsi 2147483647#32 g = r at h1 h3 ⊢
  have hle := h3 p (Finset.mem_univ p)
  rw [hp, toInt_slot] at hle
  have c1 : (2147483647#32).toInt = 2147483647 := by decide
  have c2 : (4096#32).toInt = 4096 := by decide
  rcases h1 with e | ⟨s, -, e⟩
  · rw [e, c1] at hle
    omega
  · rcases hmin s with h | ⟨h, hs⟩ <;> rw [e, h] at hle
    · rw [c2] at hle
      omega
    · rw [toInt_slot] at hle
      rw [e, h, show s = p from Fin.ext (by omega)]

/-- The slot of a row is the first that holds its greatest score. -/
theorem slot_eq (z : Fin 1024 → Fin 4096 → EReal) (b : Fin 1024) (p : Fin 4096) (hp : z b p = Model.best z b)
    (hmin : ∀ s, z b s = Model.best z b → p.val ≤ s.val) : Model.slot z b = BitVec.ofNat 32 p.val := by
  unfold Model.slot
  refine fold_first _ p (if_pos hp) fun s => ?_
  by_cases h : z b s = Model.best z b
  · exact .inr ⟨if_pos h, hmin s h⟩
  · exact .inl (if_neg h)

/-! ### The reference's argmax -/

/-- What an argmax of pairs folds at an index: the pairs of the positions that drop to it. -/
theorem mem_fiber {s t : Shape} {axes : List (Fin s.rank)} {α β : Type} (x : s.Idx → α) (y : s.Idx → β) (h : s.ReducesTo axes t) (j : t.Idx) (q : α × β) :
    q ∈ Host.argReduceFiber x y h j ↔ ∃ i, h.drop i = j ∧ (x i, y i) = q := by
  unfold Host.argReduceFiber
  rw [List.mem_map]
  constructor
  · rintro ⟨n, hn, e⟩
    exact ⟨s.rowMajor.symm n, of_decide_eq_true (List.mem_filter.1 hn).2, e⟩
  · rintro ⟨i, hi, e⟩
    exact ⟨s.rowMajor i, List.mem_filter.2 ⟨List.mem_finRange _, decide_eq_true (by rw [Equiv.symm_apply_apply]; exact hi)⟩, by rw [Equiv.symm_apply_apply]; exact e⟩

theorem drop_row (b : Fin 1024) (s : Fin 4096) : reducesTo_S1024x4096_S1024_d1.drop (ix2 b s) = ix1 b := by
  funext a; fin_cases a; rfl

/-- The greatest score of each row, with its index. -/
def pairOf (z : FVec Ideal S1024x4096 .f32) : S1024.Idx → EReal × BitVec 32 :=
  Host.argReduce (reducer_argmax_f32_i32 (F := Ideal)) z (iotaInDim S1024x4096 32 1) (constant (F := Ideal) S_ .f32 0xFF800000#32) (constantI S_ 32 0#32)
    reducesTo_S1024x4096_S1024_d1 h_S_

/-- The index an argmax of each row gives. -/
def argOf (z : FVec Ideal S1024x4096 .f32) : IVec S1024 32 := fun j => (pairOf z j).2

/-- Among the numbered scores of a row, all real, the pair that no other comes before holds the slot. -/
theorem first_best {z : Fin 1024 → Fin 4096 → EReal} (b : Fin 1024) (hr : ∀ s, Model.IsReal (z b s)) (L : List (EReal × BitVec 32)) (a : EReal × BitVec 32)
    (ha : a.1 = ⊥) (hin : ∀ s : Fin 4096, (z b s, BitVec.ofNat 32 s.val) ∈ L) (hof : ∀ y ∈ L, ∃ s : Fin 4096, y = (z b s, BitVec.ofNat 32 s.val)) :
    (L.foldl (reducer_argmax_f32_i32 (F := Ideal)) a).2 = Model.slot z b := by
  obtain ⟨hm, -, hbt⟩ := foldl_beats L a
  generalize L.foldl (reducer_argmax_f32_i32 (F := Ideal)) a = r at hm hbt
  have hr0 : ⊥ < r.1 := by
    have hl : ⊥ < z b 0 := by
      obtain ⟨w, hw⟩ := hr 0
      rw [hw]
      exact EReal.bot_lt_coe w
    rcases hbt _ (hin 0) with h | ⟨h, -⟩
    · exact hl.trans h
    · exact h ▸ hl
  obtain ⟨p, hp⟩ : ∃ p : Fin 4096, r = (z b p, BitVec.ofNat 32 p.val) := by
    rcases hm with e | e
    · exact absurd hr0 (by rw [e, ha]; exact lt_irrefl _)
    · exact hof r e
  rw [hp] at hbt ⊢
  have hle : ∀ s, z b s ≤ z b p := fun s => by
    rcases hbt _ (hin s) with h | ⟨h, -⟩
    · exact h.le
    · exact h.le
  have hbest : z b p = Model.best z b := by
    obtain ⟨s, hs⟩ := Model.exists_best z b
    exact le_antisymm (Model.le_best p) (hs ▸ hle s)
  refine (slot_eq z b p hbest fun s hs => ?_).symm
  rcases hbt _ (hin s) with h | ⟨-, h⟩
  · exact absurd (hs.trans hbest.symm) h.ne
  · rw [toInt_slot, toInt_slot] at h
    omega

/-- An argmax at an index folds its reducer over the pairs that drop to it. -/
theorem reduced {s t u : Shape} {axes : List (Fin s.rank)} {β : Type} (f : EReal × β → EReal × β → EReal × β) (x : FVec Ideal s .f32) (y : s.Idx → β)
    (ix : FVec Ideal u .f32) (iy : u.Idx → β) (h : s.ReducesTo axes t) (hu : 0 < u.numel) (j : t.Idx) :
    Host.argReduce f x y ix iy h hu j = (Host.argReduceFiber x y h j).foldl f (ix (Shape.Idx.first hu), iy (Shape.Idx.first hu)) := by
  rw [Ideal.argReduce_eq_reduce2, Host.reduce2_eq_foldl_fiber]

theorem pair_at (x : FVec Ideal S1024x4096 .f32) (j : S1024.Idx) :
    pairOf x j = (Host.argReduceFiber x (iotaInDim S1024x4096 32 1) reducesTo_S1024x4096_S1024_d1 j).foldl (reducer_argmax_f32_i32 (F := Ideal))
      (constant (F := Ideal) S_ .f32 0xFF800000#32 (Shape.Idx.first h_S_), constantI S_ 32 0#32 (Shape.Idx.first h_S_)) :=
  reduced (reducer_argmax_f32_i32 (F := Ideal)) x (iotaInDim S1024x4096 32 1) (constant (F := Ideal) S_ .f32 0xFF800000#32) (constantI S_ 32 0#32)
    reducesTo_S1024x4096_S1024_d1 h_S_ j

/-- The index of a row of real scores is its slot. -/
theorem pair_slot {z : Fin 1024 → Fin 4096 → EReal} {x : FVec Ideal S1024x4096 .f32} (hx : ∀ b s, x (ix2 b s) = z b s) (b : Fin 1024)
    (hr : ∀ s, Model.IsReal (z b s)) (r : EReal × BitVec 32) (h : r = pairOf x (ix1 b)) : r.2 = Model.slot z b := by
  rw [h.trans (pair_at x (ix1 b))]
  refine first_best b hr _ _ Model.word_low (fun s => (mem_fiber _ _ _ _ _).2 ⟨ix2 b s, drop_row b s, ?_⟩) fun y hy => ?_
  · rw [hx]; rfl
  · obtain ⟨i, hd, e⟩ := (mem_fiber _ _ _ _ _).1 hy
    obtain ⟨b', s, rfl⟩ : ∃ (b' : Fin 1024) (s : Fin 4096), i = ix2 b' s := ⟨i 0, i 1, by funext a; fin_cases a <;> rfl⟩
    rw [drop_row] at hd
    have hb : b' = b := congrFun hd 0
    subst hb
    exact ⟨s, by rw [← e, hx]; rfl⟩

theorem arg_eq (x : FVec Ideal S1024x4096 .f32) : argOf x = fun j => (pairOf x j).2 := rfl

theorem arg_at {z : Fin 1024 → Fin 4096 → EReal} {x : FVec Ideal S1024x4096 .f32} (hx : ∀ b s, x (ix2 b s) = z b s) (b : Fin 1024)
    (hr : ∀ s, Model.IsReal (z b s)) : argOf x (ix1 b) = Model.slot z b := by
  rw [arg_eq x]
  exact pair_slot hx b hr (pairOf x (ix1 b)) rfl

end Cert.ReferenceIdeal.Value

end
-- ==== Proof.Ref.Scatter.lean ====
/- The reference's scatters: what is added at a slot is the sum, over the batch elements that write to it, of what they write. -/
module

public import proofs.«01_k».proof.Proof.Ref.Slot
public import Idealize.ShloMosaic.Lib.Routing.OpsPair

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-! ### The index a batch element writes to -/

theorem slot_nonneg (z : Fin 1024 → Fin 4096 → EReal) (b : Fin 1024) : 0 ≤ (Model.slot z b).toInt := by
  unfold Model.slot
  generalize hg : (fun s : Fin 4096 => if z b s = Model.best z b then BitVec.ofNat 32 s.val else 4096#32) = g
  have hs : ∀ s, 0 ≤ (g s).toInt := fun s => by
    rw [← hg]
    dsimp only
    split
    · rw [toInt_slot]; omega
    · decide
  obtain ⟨h, -, -⟩ := fold_min 2147483647#32 g Finset.univ
  rcases h with h | ⟨s, -, h⟩ <;> rw [h]
  · decide
  · exact hs s

/-- A slot as the scatters take it: a negative one would count from the end. -/
def idxOf (k zero : IVec S1024 32) : IVec S1024x1 32 :=
  broadcastInDim S1024x1 ![0] bcast_S1024_S1024x1_0 (select (cmpi .slt k zero)
    (addi k (broadcastInDim S1024 ![] bcast_S_S1024 (constantI S_ 32 4096#32))) k)
def zeros : IVec S1024 32 := broadcastInDim S1024 ![] bcast_S_S1024 (constantI S_ 32 0#32)
theorem idx_at {k : IVec S1024 32} (b : Fin 1024) (h : 0 ≤ (k (ix1 b) : BitVec 32).toInt) : idxOf k zeros (ix2 b 0) = k (ix1 b) := by
  have e : idxOf k zeros (ix2 b 0) = Scalar.select (IntOp.cmpi .slt (k (ix1 b)) 0#32) (IntOp.addi (k (ix1 b)) 4096#32) (k (ix1 b)) := by
    pointwise [idxOf, zeros]
  have c : IntOp.cmpi .slt (k (ix1 b) : BitVec 32) 0#32 = 0#1 := by
    have n : (k (ix1 b) : BitVec 32).slt 0#32 = false := decide_eq_false (not_lt.2 h)
    unfold IntOp.cmpi
    dsimp only
    rw [n]
    rfl
  rw [e, c]
  simp [Scalar.select]

theorem slot_iff (z : Fin 1024 → Fin 4096 → EReal) (b : Fin 1024) (s : Fin 4096) : (Model.slot z b).toInt = (s.val : ℤ) ↔ Model.slot z b = BitVec.ofNat 32 s.val := by
  rw [← toInt_slot, BitVec.toInt_inj]

/-! ### Sums of what lands at an index -/

theorem scatter_apply {s si su : Shape} (d : ScatterDims s si su) (x : FVec Ideal s .f32) (idx : IVec si 32) (u : FVec Ideal su .f32) (i : s.Idx) :
    Host.scatterAdd d x idx u i = x i + ∑ j ∈ Finset.univ.filter (fun j => d.resultIdx? j idx = some i), u j := rfl

/-- A scatter of single entries: where each starts. -/
theorem lands_one (idx : IVec S1024x1 32) (b : Fin 1024) (s : Fin 4096) :
    scatter_S4096_S1024x1_S1024_n_0_0_1.resultIdx? (ix1 b) idx = some (ix1 s) ↔ (idx (ix2 b 0)).toInt = (s.val : ℤ) := by
  have hw : scatter_S4096_S1024x1_S1024_n_0_0_1.window (ix1 b) 0 = 0 := rfl
  have hs : scatter_S4096_S1024x1_S1024_n_0_0_1.start (ix1 b) idx 0 = (idx (ix2 b 0)).toInt := by
    unfold ScatterDims.start
    rw [dif_pos (by decide)]
    refine congrArg (fun i => (idx i).toInt) (funext fun a => ?_)
    fin_cases a <;> rfl
  rw [Routing.resultIdx?_eq_some]
  constructor
  · intro h
    have := h 0
    rw [hw, hs] at this
    simpa using this
  · intro h a
    obtain rfl : a = 0 := Subsingleton.elim _ _
    rw [hw, hs]
    simpa using h

/-- A scatter of rows: each starts at its slot and keeps its columns. -/
def Rows {n : ℕ} (d : ScatterDims (⟨2, ![4096, n]⟩ : Shape) S1024x1 ⟨2, ![1024, n]⟩) : Prop :=
  ∀ (idx : IVec S1024x1 32) (b : Fin 1024) (y : Fin n), d.start (ix2 b y) idx 0 = (idx (ix2 b 0)).toInt ∧ d.start (ix2 b y) idx 1 = 0
    ∧ d.window (ix2 b y) 0 = 0 ∧ d.window (ix2 b y) 1 = y.val

theorem lands_row {n : ℕ} {d : ScatterDims (⟨2, ![4096, n]⟩ : Shape) S1024x1 ⟨2, ![1024, n]⟩} (hd : Rows d) (idx : IVec S1024x1 32) (b : Fin 1024) (y : Fin n)
    (s : Fin 4096) (x : Fin n) : d.resultIdx? (ix2 b y) idx = some (ix2 s x) ↔ (idx (ix2 b 0)).toInt = (s.val : ℤ) ∧ y = x := by
  obtain ⟨hs, hs1, hw, hw1⟩ := hd idx b y
  rw [Routing.resultIdx?_eq_some]
  constructor
  · intro h
    have h0 := h 0
    have h1 := h 1
    rw [hw, hs] at h0
    rw [hw1, hs1] at h1
    refine ⟨by simpa using h0, Fin.ext ?_⟩
    have : (y.val : ℤ) = x.val := by simpa using h1
    omega
  · rintro ⟨h, rfl⟩ a
    fin_cases a
    · show d.start (ix2 b y) idx 0 + (d.window (ix2 b y) 0 : ℤ) = _
      rw [hw, hs]; simpa using h
    · show d.start (ix2 b y) idx 1 + (d.window (ix2 b y) 1 : ℤ) = _
      rw [hw1, hs1]; simp

theorem rows_64 : Rows scatter_S4096x64_S1024x1_S1024x64_1_0_0_1 := fun idx b y => ⟨by
  unfold ScatterDims.start
  rw [dif_pos (by decide)]
  refine congrArg (fun i => (idx i).toInt) (funext fun a => ?_)
  fin_cases a <;> rfl, rfl, rfl, rfl⟩
theorem rows_128 : Rows scatter_S4096x128_S1024x1_S1024x128_1_0_0_1 := fun idx b y => ⟨by
  unfold ScatterDims.start
  rw [dif_pos (by decide)]
  refine congrArg (fun i => (idx i).toInt) (funext fun a => ?_)
  fin_cases a <;> rfl, rfl, rfl, rfl⟩
theorem rows_2048 : Rows scatter_S4096x2048_S1024x1_S1024x2048_1_0_0_1 := fun idx b y => ⟨by
  unfold ScatterDims.start
  rw [dif_pos (by decide)]
  refine congrArg (fun i => (idx i).toInt) (funext fun a => ?_)
  fin_cases a <;> rfl, rfl, rfl, rfl⟩

/-- The indices of an array with one axis, and with two, by their coordinates. -/
def one {n : ℕ} : Fin n ≃ (⟨1, ![n]⟩ : Shape).Idx where
  toFun := ix1
  invFun j := j 0
  left_inv _ := rfl
  right_inv j := by funext a; fin_cases a; rfl
def two {n k : ℕ} : Fin n × Fin k ≃ (⟨2, ![n, k]⟩ : Shape).Idx where
  toFun p := ix2 p.1 p.2
  invFun j := (j 0, j 1)
  left_inv _ := rfl
  right_inv j := by funext a; fin_cases a <;> rfl

/-- What is added at a slot, of single entries. -/
theorem sum_one (idx : IVec S1024x1 32) (u : S1024.Idx → EReal) (s : Fin 4096) :
    (∑ j ∈ Finset.univ.filter (fun j => scatter_S4096_S1024x1_S1024_n_0_0_1.resultIdx? j idx = some (ix1 s)), u j)
      = ∑ b : Fin 1024, if (idx (ix2 b 0)).toInt = (s.val : ℤ) then u (ix1 b) else 0 := by
  rw [Finset.sum_filter, ← Equiv.sum_comp (one (n := 1024))]
  exact Finset.sum_congr rfl fun b _ => if_congr (lands_one idx b s) rfl rfl

/-- What is added at a slot, of rows. -/
theorem sum_row {n : ℕ} {d : ScatterDims (⟨2, ![4096, n]⟩ : Shape) S1024x1 ⟨2, ![1024, n]⟩} (hd : Rows d) (idx : IVec S1024x1 32)
    (u : (⟨2, ![1024, n]⟩ : Shape).Idx → EReal) (s : Fin 4096) (x : Fin n) :
    (∑ j ∈ Finset.univ.filter (fun j => d.resultIdx? j idx = some (ix2 s x)), u j)
      = ∑ b : Fin 1024, if (idx (ix2 b 0)).toInt = (s.val : ℤ) then u (ix2 b x) else 0 := by
  classical
  rw [Finset.sum_filter, ← Equiv.sum_comp (two (n := 1024) (k := n)), Fintype.sum_prod_type]
  refine Finset.sum_congr rfl fun b _ => ?_
  refine (Finset.sum_congr rfl fun y _ => (if_congr (lands_row hd idx b y s x) rfl rfl : _ = if (idx (ix2 b 0)).toInt = (s.val : ℤ) ∧ y = x then u (ix2 b y) else 0)).trans ?_
  by_cases h : (idx (ix2 b 0)).toInt = (s.val : ℤ)
  · simp [h]
  · simp [h]

/-- A scatter of the shares into zeros. -/
theorem share_sum {z : Fin 1024 → Fin 4096 → EReal} {k : IVec S1024 32} {w x : _} (hk : ∀ b, k (ix1 b) = Model.slot z b)
    (hw : ∀ b, (w : FVec Ideal S1024 .f32) (ix1 b) = Model.weight z b) (s : Fin 4096) (hx : (x : FVec Ideal S4096 .f32) (ix1 s) = 0) :
    Host.scatterAdd scatter_S4096_S1024x1_S1024_n_0_0_1 x (idxOf k zeros) w (ix1 s) = ∑ b, Model.share z b s := by
  rw [scatter_apply, sum_one, hx, zero_add]
  refine Finset.sum_congr rfl fun b _ => ?_
  rw [idx_at b (by rw [hk]; exact slot_nonneg z b), hk, hw]
  exact if_congr (slot_iff z b s) rfl rfl

/-- A scatter of weighted rows into zeros. -/
theorem rows_sum {n : ℕ} {d : ScatterDims (⟨2, ![4096, n]⟩ : Shape) S1024x1 ⟨2, ![1024, n]⟩} (hd : Rows d) {z : Fin 1024 → Fin 4096 → EReal} {k : IVec S1024 32}
    {new : Fin 1024 → Fin n → EReal} {u : FVec Ideal ⟨2, ![1024, n]⟩ .f32} {o : FVec Ideal ⟨2, ![4096, n]⟩ .f32} (hk : ∀ b, k (ix1 b) = Model.slot z b)
    (hu : ∀ b x, u (ix2 b x) = Model.weight z b * new b x) (s : Fin 4096) (x : Fin n) (ho : o (ix2 s x) = 0) :
    Host.scatterAdd d o (idxOf k zeros) u (ix2 s x) = ∑ b, Model.share z b s * new b x := by
  rw [scatter_apply, sum_row hd, ho, zero_add]
  refine Finset.sum_congr rfl fun b _ => ?_
  rw [idx_at b (by rw [hk]; exact slot_nonneg z b), hk, hu]
  unfold Model.share
  by_cases h : Model.slot z b = BitVec.ofNat 32 s.val
  · rw [if_pos ((slot_iff z b s).2 h), if_pos h]
  · rw [if_neg fun e => h ((slot_iff z b s).1 e), if_neg h, zero_mul]

end Cert.ReferenceIdeal.Value

end
-- ==== Proof.Ref.Writes.lean ====
/- What the reference computes: the memories after the writes. -/
module

public import proofs.«01_k».proof.Proof.Ref.Scatter

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-! ### The operations of a write -/

/-- The weight of a write, from how far the greatest attention is from one. -/
def weightOf (x : FVec Ideal S1024 .f32) : FVec Ideal S1024 .f32 :=
  mulf (broadcastInDim S1024 ![] bcast_S_S1024 (constant (F := Ideal) S_ .f32 0x3DCCCCCD#32))
    (Host.divf (broadcastInDim S1024 ![] bcast_S_S1024 (constant (F := Ideal) S_ .f32 0x3F800000#32))
      (addf (broadcastInDim S1024 ![] bcast_S_S1024 (constant (F := Ideal) S_ .f32 0x3F800000#32)) (Host.exp (Host.negf x))))
theorem weight_at {z : Fin 1024 → Fin 4096 → EReal} {x : FVec Ideal S1024 .f32} (b : Fin 1024)
    (h : x (ix1 b) = 1 - Finset.univ.fold max Model.low fun s => Model.attn z b s) : weightOf x (ix1 b) = Model.weight z b := by
  have e : weightOf x (ix1 b) = Ideal.ofBits .f32 0x3DCCCCCD#32 * Ideal.div 1 (1 + Ideal.exp (-(x (ix1 b)))) := by pointwise [weightOf]
  rw [e, h]
  rfl

/-- What is left of each slot. -/
def keptOf (x : FVec Ideal S4096 .f32) : FVec Ideal S4096 .f32 := subf (broadcastInDim S4096 ![] bcast_S_S4096 (constant (F := Ideal) S_ .f32 0x3F800000#32)) x
theorem kept_at (x : FVec Ideal S4096 .f32) (s : Fin 4096) : keptOf x (ix1 s) = 1 - x (ix1 s) := by
  pointwise [keptOf]

def none1 : FVec Ideal S4096 .f32 := broadcastInDim S4096 ![] bcast_S_S4096 (constant (F := Ideal) S_ .f32 0x00000000#32)
theorem none1_at (s : Fin 4096) : none1 (ix1 s) = 0 := by
  pointwise [none1]
def none64 : FVec Ideal S4096x64 .f32 := broadcastInDim S4096x64 ![] bcast_S_S4096x64 (constant (F := Ideal) S_ .f32 0x00000000#32)
theorem none64_at (s : Fin 4096) (x : Fin 64) : none64 (ix2 s x) = 0 := by
  pointwise [none64]
def none128 : FVec Ideal S4096x128 .f32 := broadcastInDim S4096x128 ![] bcast_S_S4096x128 (constant (F := Ideal) S_ .f32 0x00000000#32)
theorem none128_at (s : Fin 4096) (x : Fin 128) : none128 (ix2 s x) = 0 := by
  pointwise [none128]
def none2048 : FVec Ideal S4096x2048 .f32 := broadcastInDim S4096x2048 ![] bcast_S_S4096x2048 (constant (F := Ideal) S_ .f32 0x00000000#32)
theorem none2048_at (s : Fin 4096) (x : Fin 2048) : none2048 (ix2 s x) = 0 := by
  pointwise [none2048]

/-- Rows times their weights. -/
def rows64 (w : FVec Ideal S1024 .f32) (x : FVec Ideal S1024x64 .f32) : FVec Ideal S1024x64 .f32 :=
  mulf (broadcastInDim S1024x64 ![0, 1] bcast_S1024x1_S1024x64_0_1 (broadcastInDim S1024x1 ![0] bcast_S1024_S1024x1_0 w)) x
theorem rows64_at (w : FVec Ideal S1024 .f32) (x : FVec Ideal S1024x64 .f32) (b : Fin 1024) (v : Fin 64) : rows64 w x (ix2 b v) = w (ix1 b) * x (ix2 b v) := by
  pointwise [rows64]
def rows128 (w : FVec Ideal S1024 .f32) (x : FVec Ideal S1024x128 .f32) : FVec Ideal S1024x128 .f32 :=
  mulf (broadcastInDim S1024x128 ![0, 1] bcast_S1024x1_S1024x128_0_1 (broadcastInDim S1024x1 ![0] bcast_S1024_S1024x1_0 w)) x
theorem rows128_at (w : FVec Ideal S1024 .f32) (x : FVec Ideal S1024x128 .f32) (b : Fin 1024) (v : Fin 128) : rows128 w x (ix2 b v) = w (ix1 b) * x (ix2 b v) := by
  pointwise [rows128]
def rows2048 (w : FVec Ideal S1024 .f32) (x : FVec Ideal S1024x2048 .f32) : FVec Ideal S1024x2048 .f32 :=
  mulf (broadcastInDim S1024x2048 ![0, 1] bcast_S1024x1_S1024x2048_0_1 (broadcastInDim S1024x1 ![0] bcast_S1024_S1024x1_0 w)) x
theorem rows2048_at (w : FVec Ideal S1024 .f32) (x : FVec Ideal S1024x2048 .f32) (b : Fin 1024) (v : Fin 2048) :
    rows2048 w x (ix2 b v) = w (ix1 b) * x (ix2 b v) := by
  pointwise [rows2048]

/-- The memory after a write: what is left of it and what is added. -/
def both64 (old : FVec Ideal S4096x64 .f32) (keep : FVec Ideal S4096 .f32) (add : FVec Ideal S4096x64 .f32) : FVec Ideal S4096x64 .f32 :=
  addf (mulf old (broadcastInDim S4096x64 ![0, 1] bcast_S4096x1_S4096x64_0_1 (broadcastInDim S4096x1 ![0] bcast_S4096_S4096x1_0 keep))) add
theorem both64_at (old : FVec Ideal S4096x64 .f32) (keep : FVec Ideal S4096 .f32) (add : FVec Ideal S4096x64 .f32) (s : Fin 4096) (x : Fin 64) :
    both64 old keep add (ix2 s x) = old (ix2 s x) * keep (ix1 s) + add (ix2 s x) := by
  pointwise [both64]
def both128 (old : FVec Ideal S4096x128 .f32) (keep : FVec Ideal S4096 .f32) (add : FVec Ideal S4096x128 .f32) : FVec Ideal S4096x128 .f32 :=
  addf (mulf old (broadcastInDim S4096x128 ![0, 1] bcast_S4096x1_S4096x128_0_1 (broadcastInDim S4096x1 ![0] bcast_S4096_S4096x1_0 keep))) add
theorem both128_at (old : FVec Ideal S4096x128 .f32) (keep : FVec Ideal S4096 .f32) (add : FVec Ideal S4096x128 .f32) (s : Fin 4096) (x : Fin 128) :
    both128 old keep add (ix2 s x) = old (ix2 s x) * keep (ix1 s) + add (ix2 s x) := by
  pointwise [both128]
def both2048 (old : FVec Ideal S4096x2048 .f32) (keep : FVec Ideal S4096 .f32) (add : FVec Ideal S4096x2048 .f32) : FVec Ideal S4096x2048 .f32 :=
  addf (mulf old (broadcastInDim S4096x2048 ![0, 1] bcast_S4096x1_S4096x2048_0_1 (broadcastInDim S4096x1 ![0] bcast_S4096_S4096x1_0 keep))) add
theorem both2048_at (old : FVec Ideal S4096x2048 .f32) (keep : FVec Ideal S4096 .f32) (add : FVec Ideal S4096x2048 .f32) (s : Fin 4096) (x : Fin 2048) :
    both2048 old keep add (ix2 s x) = old (ix2 s x) * keep (ix1 s) + add (ix2 s x) := by
  pointwise [both2048]

section
variable (U : Valuation τ sig (Elt Ideal))

/-! ### The stages, as those operations of what they read -/

theorem after_v122 : after st16 U (Proc.devRef .tc main_v122) = argOf (U (Proc.devRef .tc main_v121)) := by
  after_reads_simp
  rfl
theorem after_v130 : after st17 U (Proc.devRef .tc main_v130) = weightOf (U (Proc.devRef .tc main_v22)) := by
  after_reads_simp
  rfl
theorem after_v138 : after st18 U (Proc.devRef .tc main_v138)
    = Host.scatterAdd (F := Ideal) (φ := .f32) scatter_S4096_S1024x1_S1024_n_0_0_1 none1 (idxOf (U (Proc.devRef .tc main_v122)) zeros) (U (Proc.devRef .tc main_v130) : FVec Ideal S1024 .f32) := by
  after_reads_simp
  rfl
theorem after_v139 : after st19 U (Proc.devRef .tc main_v139) = none64 := by
  after_reads_simp
  rfl
theorem after_v142 : after st19 U (Proc.devRef .tc main_v142) = rows64 (U (Proc.devRef .tc main_v130)) (U (Proc.devRef .tc main_v2)) := by
  after_reads_simp
  rfl
theorem after_v143 : after st19 U (Proc.devRef .tc main_v143) = zeros := by
  after_reads_simp
  rfl
theorem after_v149 : after st20 U (Proc.devRef .tc main_v149)
    = Host.scatterAdd (F := Ideal) (φ := .f32) scatter_S4096x64_S1024x1_S1024x64_1_0_0_1 (U (Proc.devRef .tc main_v139) : FVec Ideal S4096x64 .f32)
        (idxOf (U (Proc.devRef .tc main_v122)) (U (Proc.devRef .tc main_v143))) (U (Proc.devRef .tc main_v142) : FVec Ideal S1024x64 .f32) := by
  after_reads_simp
  rfl
theorem after_v160 : after st21 U (Proc.devRef .tc main_v160)
    = Host.scatterAdd (F := Ideal) (φ := .f32) scatter_S4096x2048_S1024x1_S1024x2048_1_0_0_1 none2048 (idxOf (U (Proc.devRef .tc main_v122)) zeros)
        (rows2048 (U (Proc.devRef .tc main_v130)) (U (Proc.devRef .tc main_v116))) := by
  after_reads_simp
  rfl
theorem after_v166 : after st22 U (Proc.devRef .tc main_v166)
    = both64 (U (Proc.devRef .tc main_arg12)) (keptOf (U (Proc.devRef .tc main_v138))) (U (Proc.devRef .tc main_v149)) := by
  after_reads_simp
  rfl
theorem after_v172 : after st23 U (Proc.devRef .tc main_v172)
    = both2048 (U (Proc.devRef .tc main_arg13)) (keptOf (U (Proc.devRef .tc main_v138))) (U (Proc.devRef .tc main_v160)) := by
  after_reads_simp
  rfl
end

variable (V : Valuation τ sig (Elt Ideal))

/-! ### The pairs' memory -/

theorem v116_at (b : Fin 1024) (v : Fin 2048) : (fin V (Proc.devRef .tc main_v116) : S1024x2048.Idx → EReal) (ix2 b v) = Model.flat (inX V) b v := by
  rw [fin_stage 14 st14 rfl V main_v116 (by decide)]; after_reads_at
  rw [upto_eq 14 V main_arg0 (by decide), fin_arg V main_arg0 (by decide)]
  rfl
theorem v121_at (b : Fin 1024) (s : Fin 4096) : (fin V (Proc.devRef .tc main_v121) : S1024x4096.Idx → EReal) (ix2 b s) = zP V b s := by
  rw [fin_stage 15 st15 rfl V main_v121 (by decide)]; after_reads_at
  rw [upto_eq 15 V main_v2 (by decide), upto_eq 15 V main_arg12 (by decide), fin_arg V main_arg12 (by decide)]
  exact congrArg (fun f => Ideal.div f _) (Finset.sum_congr rfl fun d _ => congrArg (· * _) (v2_at V b d))
theorem v130_at (b : Fin 1024) : (fin V (Proc.devRef .tc main_v130) : S1024.Idx → EReal) (ix1 b) = Model.weight (zP V) b := by
  rw [fin_stage 17 st17 rfl V main_v130 (by decide), after_v130, upto_eq 17 V main_v22 (by decide)]
  exact weight_at b (v22_at V b)

variable (hr : ∀ b s, Model.IsReal (zP V b s))
include hr

theorem v122_at (b : Fin 1024) : (fin V (Proc.devRef .tc main_v122) : S1024.Idx → BitVec 32) (ix1 b) = Model.slot (zP V) b := by
  rw [fin_stage 16 st16 rfl V main_v122 (by decide), after_v122, upto_eq 16 V main_v121 (by decide)]
  exact arg_at (v121_at V) b (hr b)
theorem v138_at (s : Fin 4096) : (fin V (Proc.devRef .tc main_v138) : S4096.Idx → EReal) (ix1 s) = ∑ b, Model.share (zP V) b s := by
  rw [fin_stage 18 st18 rfl V main_v138 (by decide), after_v138, upto_eq 18 V main_v122 (by decide), upto_eq 18 V main_v130 (by decide)]
  exact share_sum (v122_at V hr) (v130_at V) s (none1_at s)
theorem v149_at (s : Fin 4096) (x : Fin 64) :
    (fin V (Proc.devRef .tc main_v149) : S4096x64.Idx → EReal) (ix2 s x) = ∑ b, Model.share (zP V) b s * Model.mean (inX V) b x := by
  rw [fin_stage 20 st20 rfl V main_v149 (by decide), after_v149, upto_eq 20 V main_v139 (by decide), upto_eq 20 V main_v122 (by decide), upto_eq 20 V main_v143 (by decide),
    upto_eq 20 V main_v142 (by decide), fin_stage 19 st19 rfl V main_v139 (by decide), after_v139, fin_stage 19 st19 rfl V main_v143 (by decide), after_v143]
  refine rows_sum rows_64 (v122_at V hr) (fun b v => ?_) s x (none64_at s x)
  rw [fin_stage 19 st19 rfl V main_v142 (by decide), after_v142, upto_eq 19 V main_v130 (by decide), upto_eq 19 V main_v2 (by decide)]
  exact (rows64_at _ _ b v).trans (congrArg₂ (· * ·) (v130_at V b) (v2_at V b v))
theorem v160_at (s : Fin 4096) (x : Fin 2048) :
    (fin V (Proc.devRef .tc main_v160) : S4096x2048.Idx → EReal) (ix2 s x) = ∑ b, Model.share (zP V) b s * Model.flat (inX V) b x := by
  rw [fin_stage 21 st21 rfl V main_v160 (by decide), after_v160, upto_eq 21 V main_v122 (by decide), upto_eq 21 V main_v130 (by decide), upto_eq 21 V main_v116 (by decide)]
  exact rows_sum rows_2048 (v122_at V hr) (fun b v => (rows2048_at _ _ b v).trans (congrArg₂ (· * ·) (v130_at V b) (v116_at V b v))) s x (none2048_at s x)
/-- Result 2. -/
theorem v166_at (s : Fin 4096) (x : Fin 64) : (fin V (Proc.devRef .tc main_v166) : S4096x64.Idx → EReal) (ix2 s x) = Model.result2 (inX V) (inKP V) s x := by
  rw [fin_stage 22 st22 rfl V main_v166 (by decide), after_v166, upto_eq 22 V main_arg12 (by decide), fin_arg V main_arg12 (by decide), upto_eq 22 V main_v138 (by decide),
    upto_eq 22 V main_v149 (by decide)]
  refine (both64_at _ _ _ s x).trans ?_
  rw [kept_at]
  exact congrArg₂ (fun p q => inKP V s x * (1 - p) + q) (v138_at V hr s) (v149_at V hr s x)
/-- Result 3. -/
theorem v172_at (s : Fin 4096) (x : Fin 2048) :
    (fin V (Proc.devRef .tc main_v172) : S4096x2048.Idx → EReal) (ix2 s x) = Model.result3 (inX V) (inKP V) (inVP V) s x := by
  rw [fin_stage 23 st23 rfl V main_v172 (by decide), after_v172, upto_eq 23 V main_arg13 (by decide), fin_arg V main_arg13 (by decide), upto_eq 23 V main_v138 (by decide),
    upto_eq 23 V main_v160 (by decide)]
  refine (both2048_at _ _ _ s x).trans ?_
  rw [kept_at]
  exact congrArg₂ (fun p q => inVP V s x * (1 - p) + q) (v138_at V hr s) (v160_at V hr s x)

end Cert.ReferenceIdeal.Value

end
-- ==== Proof.Ref.WritesLate.lean ====
/- What the reference computes: the macro memory after its write. -/
module

public import proofs.«01_k».proof.Proof.Ref.Writes

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

section
variable (U : Valuation τ sig (Elt Ideal))

theorem after_v178 : after st25 U (Proc.devRef .tc main_v178) = argOf (U (Proc.devRef .tc main_v177)) := by
  after_reads_simp
  rfl
theorem after_v186 : after st26 U (Proc.devRef .tc main_v186) = weightOf (U (Proc.devRef .tc main_v42)) := by
  after_reads_simp
  rfl
theorem after_v187 : after st27 U (Proc.devRef .tc main_v187) = none1 := by
  after_reads_simp
  rfl
/-- Which slots count from the end, and the length they would count from. -/
theorem after_v189 : after st27 U (Proc.devRef .tc main_v189) = cmpi .slt (U (Proc.devRef .tc main_v178) : IVec S1024 32) zeros := by
  after_reads_simp
  rfl
theorem after_v190 : after st27 U (Proc.devRef .tc main_v190) = broadcastInDim S1024 ![] bcast_S_S1024 (constantI S_ 32 4096#32) := by
  after_reads_simp
theorem after_v194 : after st28 U (Proc.devRef .tc main_v194)
    = Host.scatterAdd (F := Ideal) (φ := .f32) scatter_S4096_S1024x1_S1024_n_0_0_1 (U (Proc.devRef .tc main_v187))
        (broadcastInDim S1024x1 ![0] bcast_S1024_S1024x1_0 (select (U (Proc.devRef .tc main_v189) : IVec S1024 1)
          (addi (U (Proc.devRef .tc main_v178) : IVec S1024 32) (U (Proc.devRef .tc main_v190))) (U (Proc.devRef .tc main_v178))))
        (U (Proc.devRef .tc main_v186)) := by
  after_reads_simp
theorem after_v205 : after st29 U (Proc.devRef .tc main_v205)
    = Host.scatterAdd (F := Ideal) (φ := .f32) scatter_S4096x128_S1024x1_S1024x128_1_0_0_1 none128 (idxOf (U (Proc.devRef .tc main_v178)) zeros)
        (rows128 (U (Proc.devRef .tc main_v186)) (U (Proc.devRef .tc main_arg1))) := by
  after_reads_simp
  rfl
theorem after_v216 : after st30 U (Proc.devRef .tc main_v216)
    = Host.scatterAdd (F := Ideal) (φ := .f32) scatter_S4096x2048_S1024x1_S1024x2048_1_0_0_1 none2048 (idxOf (U (Proc.devRef .tc main_v178)) zeros)
        (rows2048 (U (Proc.devRef .tc main_v186)) (U (Proc.devRef .tc main_v116))) := by
  after_reads_simp
  rfl
theorem after_v222 : after st31 U (Proc.devRef .tc main_v222)
    = both128 (U (Proc.devRef .tc main_arg14)) (keptOf (U (Proc.devRef .tc main_v194))) (U (Proc.devRef .tc main_v205)) := by
  after_reads_simp
  rfl
theorem after_v228 : after st32 U (Proc.devRef .tc main_v228)
    = both2048 (U (Proc.devRef .tc main_arg15)) (keptOf (U (Proc.devRef .tc main_v194))) (U (Proc.devRef .tc main_v216)) := by
  after_reads_simp
  rfl
end

variable (V : Valuation τ sig (Elt Ideal))

theorem v177_at (b : Fin 1024) (s : Fin 4096) : (fin V (Proc.devRef .tc main_v177) : S1024x4096.Idx → EReal) (ix2 b s) = zM V b s := by
  rw [fin_stage 24 st24 rfl V main_v177 (by decide)]; after_reads_at
  rw [upto_eq 24 V main_arg1 (by decide), fin_arg V main_arg1 (by decide), upto_eq 24 V main_arg14 (by decide), fin_arg V main_arg14 (by decide)]
  rfl
theorem v186_at (b : Fin 1024) : (fin V (Proc.devRef .tc main_v186) : S1024.Idx → EReal) (ix1 b) = Model.weight (zM V) b := by
  rw [fin_stage 26 st26 rfl V main_v186 (by decide), after_v186, upto_eq 26 V main_v42 (by decide)]
  exact weight_at b (v42_at V b)

variable (hr : ∀ b s, Model.IsReal (zM V b s))
include hr

theorem v178_at (b : Fin 1024) : (fin V (Proc.devRef .tc main_v178) : S1024.Idx → BitVec 32) (ix1 b) = Model.slot (zM V) b := by
  rw [fin_stage 25 st25 rfl V main_v178 (by decide), after_v178, upto_eq 25 V main_v177 (by decide)]
  exact arg_at (v177_at V) b (hr b)
theorem v194_at (s : Fin 4096) : (fin V (Proc.devRef .tc main_v194) : S4096.Idx → EReal) (ix1 s) = ∑ b, Model.share (zM V) b s := by
  rw [fin_stage 28 st28 rfl V main_v194 (by decide), after_v194, upto_eq 28 V main_v187 (by decide), upto_eq 28 V main_v189 (by decide), upto_eq 28 V main_v178 (by decide),
    upto_eq 28 V main_v190 (by decide), upto_eq 28 V main_v186 (by decide), fin_stage 27 st27 rfl V main_v187 (by decide), after_v187,
    fin_stage 27 st27 rfl V main_v189 (by decide), after_v189, upto_eq 27 V main_v178 (by decide), fin_stage 27 st27 rfl V main_v190 (by decide), after_v190]
  exact share_sum (v178_at V hr) (v186_at V) s (none1_at s)
theorem v205_at (s : Fin 4096) (x : Fin 128) :
    (fin V (Proc.devRef .tc main_v205) : S4096x128.Idx → EReal) (ix2 s x) = ∑ b, Model.share (zM V) b s * inQ V b x := by
  rw [fin_stage 29 st29 rfl V main_v205 (by decide), after_v205, upto_eq 29 V main_v178 (by decide), upto_eq 29 V main_v186 (by decide), upto_eq 29 V main_arg1 (by decide),
    fin_arg V main_arg1 (by decide)]
  exact rows_sum rows_128 (v178_at V hr) (fun b v => (rows128_at _ _ b v).trans (congrArg (· * inQ V b v) (v186_at V b))) s x (none128_at s x)
theorem v216_at (s : Fin 4096) (x : Fin 2048) :
    (fin V (Proc.devRef .tc main_v216) : S4096x2048.Idx → EReal) (ix2 s x) = ∑ b, Model.share (zM V) b s * Model.flat (inX V) b x := by
  rw [fin_stage 30 st30 rfl V main_v216 (by decide), after_v216, upto_eq 30 V main_v178 (by decide), upto_eq 30 V main_v186 (by decide), upto_eq 30 V main_v116 (by decide)]
  exact rows_sum rows_2048 (v178_at V hr) (fun b v => (rows2048_at _ _ b v).trans (congrArg₂ (· * ·) (v186_at V b) (v116_at V b v))) s x (none2048_at s x)
/-- Result 4. -/
theorem v222_at (s : Fin 4096) (x : Fin 128) : (fin V (Proc.devRef .tc main_v222) : S4096x128.Idx → EReal) (ix2 s x) = Model.result4 (inQ V) (inKM V) s x := by
  rw [fin_stage 31 st31 rfl V main_v222 (by decide), after_v222, upto_eq 31 V main_arg14 (by decide), fin_arg V main_arg14 (by decide), upto_eq 31 V main_v194 (by decide),
    upto_eq 31 V main_v205 (by decide)]
  refine (both128_at _ _ _ s x).trans ?_
  rw [kept_at]
  exact congrArg₂ (fun p q => inKM V s x * (1 - p) + q) (v194_at V hr s) (v205_at V hr s x)
/-- Result 5. -/
theorem v228_at (s : Fin 4096) (x : Fin 2048) :
    (fin V (Proc.devRef .tc main_v228) : S4096x2048.Idx → EReal) (ix2 s x) = Model.result5 (inX V) (inQ V) (inKM V) (inVM V) s x := by
  rw [fin_stage 32 st32 rfl V main_v228 (by decide), after_v228, upto_eq 32 V main_arg15 (by decide), fin_arg V main_arg15 (by decide), upto_eq 32 V main_v194 (by decide),
    upto_eq 32 V main_v216 (by decide)]
  refine (both2048_at _ _ _ s x).trans ?_
  rw [kept_at]
  exact congrArg₂ (fun p q => inVM V s x * (1 - p) + q) (v194_at V hr s) (v216_at V hr s x)

end Cert.ReferenceIdeal.Value

end
-- ==== Proof.Ref.Ends.lean ====
/- The reference's five results, as arrays. -/
module

public import proofs.«01_k».proof.Proof.Ref.Fusion
public import proofs.«01_k».proof.Proof.Ref.WritesLate

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (V : Valuation τ sig (Elt Ideal))

theorem end_1 : (fin V (Proc.devRef .tc main_v115) : S1024x32x64.Idx → EReal) = fun i =>
    Model.result1 (inX V) (inQ V) (inW1 V) (inB1 V) (inG1 V) (inT1 V) (inW2 V) (inB2 V) (inW V) (inC V) (inG V) (inT V) (inKP V) (inVP V) (inKM V) (inVM V) (i 0) (i 1) (i 2) := by
  funext i
  obtain ⟨b, p, o, rfl⟩ : ∃ (b : Fin 1024) (p : Fin 32) (o : Fin 64), i = ix3 b p o := ⟨i 0, i 1, i 2, by funext a; fin_cases a <;> rfl⟩
  exact v115_at V b p o

theorem end_2 (h : ∀ b s, Model.IsReal (zP V b s)) : (fin V (Proc.devRef .tc main_v166) : S4096x64.Idx → EReal) = fun i =>
    Model.result2 (inX V) (inKP V) (i 0) (i 1) := by
  funext i
  obtain ⟨s, x, rfl⟩ : ∃ (s : Fin 4096) (x : Fin 64), i = ix2 s x := ⟨i 0, i 1, by funext a; fin_cases a <;> rfl⟩
  exact v166_at V h s x

theorem end_3 (h : ∀ b s, Model.IsReal (zP V b s)) : (fin V (Proc.devRef .tc main_v172) : S4096x2048.Idx → EReal) = fun i =>
    Model.result3 (inX V) (inKP V) (inVP V) (i 0) (i 1) := by
  funext i
  obtain ⟨s, x, rfl⟩ : ∃ (s : Fin 4096) (x : Fin 2048), i = ix2 s x := ⟨i 0, i 1, by funext a; fin_cases a <;> rfl⟩
  exact v172_at V h s x

theorem end_4 (h : ∀ b s, Model.IsReal (zM V b s)) : (fin V (Proc.devRef .tc main_v222) : S4096x128.Idx → EReal) = fun i =>
    Model.result4 (inQ V) (inKM V) (i 0) (i 1) := by
  funext i
  obtain ⟨s, x, rfl⟩ : ∃ (s : Fin 4096) (x : Fin 128), i = ix2 s x := ⟨i 0, i 1, by funext a; fin_cases a <;> rfl⟩
  exact v222_at V h s x

theorem end_5 (h : ∀ b s, Model.IsReal (zM V b s)) : (fin V (Proc.devRef .tc main_v228) : S4096x2048.Idx → EReal) = fun i =>
    Model.result5 (inX V) (inQ V) (inKM V) (inVM V) (i 0) (i 1) := by
  funext i
  obtain ⟨s, x, rfl⟩ : ∃ (s : Fin 4096) (x : Fin 2048), i = ix2 s x := ⟨i 0, i 1, by funext a; fin_cases a <;> rfl⟩
  exact v228_at V h s x

end Cert.ReferenceIdeal.Value

end
-- ==== Proof.Algebra.lean ====
/- The equation: from memories that agree on the arguments, finite where the precondition asks, the kernel's five results are the reference's. -/
module

public import proofs.«01_k».proof.Proof.Frames
public import proofs.«01_k».proof.Proof.Real
public import proofs.«01_k».proof.Proof.Ref.Frame
public import proofs.«01_k».proof.Proof.Ref.Ends

@[expose] public section

set_option maxRecDepth 16384

noncomputable section

namespace Cert.Proof

open Idealize.ShloMosaic Idealize.ShloMosaic.TcCoe Idealize.SL.Sem Idealize.ShloMosaic.StableHlo
open Model (fam1 fam2 fam3)

attribute [local instance] Cert.KernelIdeal.Gen.facts Cert.ReferenceIdeal.Gen.facts

section
variable (m : (ℓ : Loc Cert.KernelIdeal.nD Cert.KernelIdeal.τ Cert.KernelIdeal.sig) → Buf (Elt Ideal) ℓ) (c : Dev Cert.KernelIdeal.nD)

open Cert.KernelIdeal.Gen

/-- The five results, of the kernel's arguments. -/
def out1 : Cert.KernelIdeal.S1024x32x64.Idx → EReal := fun i =>
  Model.result1 (inX m c) (inQ m c) (inW1 m c) (inB1 m c) (inG1 m c) (inT1 m c) (inW2 m c) (inB2 m c) (inW m c) (inC m c) (inG m c) (inT m c) (inKP m c) (inVP m c) (inKM m c) (inVM m c) (i 0) (i 1) (i 2)
def out2 : Cert.KernelIdeal.S4096x64.Idx → EReal := fun i =>
  Model.result2 (inX m c) (inKP m c) (i 0) (i 1)
def out3 : Cert.KernelIdeal.S4096x2048.Idx → EReal := fun i =>
  Model.result3 (inX m c) (inKP m c) (inVP m c) (i 0) (i 1)
def out4 : Cert.KernelIdeal.S4096x128.Idx → EReal := fun i =>
  Model.result4 (inQ m c) (inKM m c) (i 0) (i 1)
def out5 : Cert.KernelIdeal.S4096x2048.Idx → EReal := fun i =>
  Model.result5 (inX m c) (inQ m c) (inKM m c) (inVM m c) (i 0) (i 1)
end

theorem algebraic : Cert.algebraic_KernelIdeal_ReferenceIdeal_pre_finite_queries_and_keys (hKernelIdeal := Cert.KernelIdeal.Gen.facts)
    (hReferenceIdeal := Cert.ReferenceIdeal.Gen.facts) (hPre_finite_queries_and_keys := finite_facts) := by
  intro m g m' g' hp he
  refine ⟨out1 m, out2 m, out3 m, out4 m, out5 m, ?_, ?_⟩
  · refine (θ_run Cert.KernelIdeal.defs _ _).mono (fun r h c => ?_) (Cert.KernelIdeal.Gen.run_whole m g)
    have at_ := Cert.KernelIdeal.Gen.at_end m g h.1 c
    exact ⟨(at_ Cert.KernelIdeal.main_v12 (by decide)).trans (Cert.KernelIdeal.Gen.end_1 m g c),
      (at_ Cert.KernelIdeal.main_v4_1 (by decide)).trans (Cert.KernelIdeal.Gen.end_2 m g c (real_scoreP hp c)),
      (at_ Cert.KernelIdeal.main_v4_2 (by decide)).trans (Cert.KernelIdeal.Gen.end_3 m g c (real_scoreP hp c)),
      (at_ Cert.KernelIdeal.main_v5_1 (by decide)).trans (Cert.KernelIdeal.Gen.end_4 m g c (real_scoreM hp c)),
      (at_ Cert.KernelIdeal.main_v5_2 (by decide)).trans (Cert.KernelIdeal.Gen.end_5 m g c (real_scoreM hp c)),
      Cert.KernelIdeal.Gen.unchanged m g h.1 c⟩
  · refine (θ_run Cert.ReferenceIdeal.defs _ _).mono (fun r h c => ?_) (Cert.ReferenceIdeal.Value.run (F := Ideal) m' g')
    have at_ := h.1 c
    obtain ⟨a0, a1, a2, a3, a4, a5, a6, a7, a8, a9, a10, a11, a12, a13, a14, a15⟩ := he c
    have e0 : Cert.ReferenceIdeal.Value.inX (launchContents m' c) = Cert.KernelIdeal.Gen.inX m c := congrArg fam3 a0
    have e1 : Cert.ReferenceIdeal.Value.inQ (launchContents m' c) = Cert.KernelIdeal.Gen.inQ m c := congrArg fam2 a1
    have e2 : Cert.ReferenceIdeal.Value.inW1 (launchContents m' c) = Cert.KernelIdeal.Gen.inW1 m c := congrArg fam2 a2
    have e3 : Cert.ReferenceIdeal.Value.inB1 (launchContents m' c) = Cert.KernelIdeal.Gen.inB1 m c := congrArg fam1 a3
    have e4 : Cert.ReferenceIdeal.Value.inG1 (launchContents m' c) = Cert.KernelIdeal.Gen.inG1 m c := congrArg fam1 a4
    have e5 : Cert.ReferenceIdeal.Value.inT1 (launchContents m' c) = Cert.KernelIdeal.Gen.inT1 m c := congrArg fam1 a5
    have e6 : Cert.ReferenceIdeal.Value.inW2 (launchContents m' c) = Cert.KernelIdeal.Gen.inW2 m c := congrArg fam2 a6
    have e7 : Cert.ReferenceIdeal.Value.inB2 (launchContents m' c) = Cert.KernelIdeal.Gen.inB2 m c := congrArg fam1 a7
    have e8 : Cert.ReferenceIdeal.Value.inW (launchContents m' c) = Cert.KernelIdeal.Gen.inW m c := congrArg fam3 a8
    have e9 : Cert.ReferenceIdeal.Value.inC (launchContents m' c) = Cert.KernelIdeal.Gen.inC m c := congrArg fam2 a9
    have e10 : Cert.ReferenceIdeal.Value.inG (launchContents m' c) = Cert.KernelIdeal.Gen.inG m c := congrArg fam2 a10
    have e11 : Cert.ReferenceIdeal.Value.inT (launchContents m' c) = Cert.KernelIdeal.Gen.inT m c := congrArg fam2 a11
    have e12 : Cert.ReferenceIdeal.Value.inKP (launchContents m' c) = Cert.KernelIdeal.Gen.inKP m c := congrArg fam2 a12
    have e13 : Cert.ReferenceIdeal.Value.inVP (launchContents m' c) = Cert.KernelIdeal.Gen.inVP m c := congrArg fam2 a13
    have e14 : Cert.ReferenceIdeal.Value.inKM (launchContents m' c) = Cert.KernelIdeal.Gen.inKM m c := congrArg fam2 a14
    have e15 : Cert.ReferenceIdeal.Value.inVM (launchContents m' c) = Cert.KernelIdeal.Gen.inVM m c := congrArg fam2 a15
    have hP : ∀ b s, Model.IsReal (Cert.ReferenceIdeal.Value.zP (launchContents m' c) b s) := by
      unfold Cert.ReferenceIdeal.Value.zP
      rw [e0, e12]
      exact real_scoreP hp c
    have hM : ∀ b s, Model.IsReal (Cert.ReferenceIdeal.Value.zM (launchContents m' c) b s) := by
      unfold Cert.ReferenceIdeal.Value.zM
      rw [e1, e14]
      exact real_scoreM hp c
    have r1 := Cert.ReferenceIdeal.Value.end_1 (launchContents m' c)
    rw [e0, e1, e2, e3, e4, e5, e6, e7, e8, e9, e10, e11, e12, e13, e14, e15] at r1
    have r2 := Cert.ReferenceIdeal.Value.end_2 (launchContents m' c) hP
    rw [e0, e12] at r2
    have r3 := Cert.ReferenceIdeal.Value.end_3 (launchContents m' c) hP
    rw [e0, e12, e13] at r3
    have r4 := Cert.ReferenceIdeal.Value.end_4 (launchContents m' c) hM
    rw [e1, e14] at r4
    have r5 := Cert.ReferenceIdeal.Value.end_5 (launchContents m' c) hM
    rw [e0, e1, e14, e15] at r5
    exact ⟨(at_ Cert.ReferenceIdeal.main_v115).trans r1, (at_ Cert.ReferenceIdeal.main_v166).trans r2, (at_ Cert.ReferenceIdeal.main_v172).trans r3, (at_ Cert.ReferenceIdeal.main_v222).trans r4, (at_ Cert.ReferenceIdeal.main_v228).trans r5, ref_unchanged m' h.1 c⟩

end Cert.Proof

end
-- ==== Proof.lean ====
/- The claims together: the frames of the kernel, of its idealization and of the reference; that each named constant is the real
   number its float word rounds; and that the kernel's results are the reference's. -/
module

public import proofs.«01_k».proof.Defs
public import proofs.«01_k».proof.Proof.Frames
public import proofs.«01_k».proof.Proof.Ref.Frame
public import proofs.«01_k».proof.Proof.Algebra

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, finite_facts, frame_Kernel, frame_KernelIdeal,
    fun m g _ => frame_KernelIdeal m g trivial, frame_ReferenceIdeal, fun m g _ => frame_ReferenceIdeal m g trivial,
    ⟨IdealRules.named_const.statement Cert.KernelIdeal.κ "inv_sqrt_128" .f32 0x3DB504F3#32 (((Real.sqrt 128)⁻¹ : ℝ) : EReal) rfl,
      IdealRules.named_const.statement Cert.KernelIdeal.κ "inv_sqrt_2" .f32 0x3F3504F3#32 (((Real.sqrt 2)⁻¹ : ℝ) : EReal) rfl⟩, algebraic⟩

end Cert.Proof

end
